-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 512, 8, 64]⟩ ⟨4, ![2, 2048, 8, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  let main_v6 : IVec S2x512x8x64 1 := andi main_v2 main_v5
  main_v6
-- ==== Pre_finite_ReferenceIdeal.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)

variable [Facts]

def fn {F : FTy → Type} [FloatOps F] (main_arg0 : FVec F S2x2048x8x64 .bf16) (main_arg1 : FVec F S2x2048x8x64 .bf16) (main_arg2 : FVec F S2x2048x8x64 .bf16) : IVec S2x2048x8x64 1 :=
  let main_v0 : FVec F S2x2048x8x64 .bf16 := Host.absf main_arg0
  let main_cst : FVec F S_ .bf16 := constant S_ .bf16 0x7F80#16
  let main_v1 : FVec F S2x2048x8x64 .bf16 := broadcastInDim S2x2048x8x64 ![] bcast_S_S2x2048x8x64 main_cst
  let main_v2 : IVec S2x2048x8x64 1 := cmpf .olt main_v0 main_v1
  let main_v3 : FVec F S2x2048x8x64 .bf16 := Host.absf main_arg1
  let main_cst_0 : FVec F S_ .bf16 := constant S_ .bf16 0x7F80#16
  let main_v4 : FVec F S2x2048x8x64 .bf16 := broadcastInDim S2x2048x8x64 ![] bcast_S_S2x2048x8x64 main_cst_0
  let main_v5 : IVec S2x2048x8x64 1 := cmpf .olt main_v3 main_v4
  let main_v6 : IVec S2x2048x8x64 1 := andi main_v2 main_v5
  main_v6
-- ==== Kernel.lean ====
abbrev S2x512x8x64 : Shape := ⟨4, ![2, 512, 8, 64]⟩
abbrev S4x4x512x512 : Shape := ⟨4, ![4, 4, 512, 512]⟩
abbrev S4x4 : Shape := ⟨2, ![4, 4]⟩
abbrev S_ : Shape := ⟨0, ![]⟩
abbrev S1x512x8x64 : Shape := ⟨4, ![1, 512, 8, 64]⟩
abbrev S512x8x64 : Shape := ⟨3, ![512, 8, 64]⟩
abbrev S512x512 : Shape := ⟨2, ![512, 512]⟩
abbrev S1x512x512 : Shape := ⟨3, ![1, 512, 512]⟩
abbrev S1x1x512x512 : Shape := ⟨4, ![1, 1, 512, 512]⟩
abbrev S1x1 : Shape := ⟨2, ![1, 1]⟩
abbrev S1x512x1x64 : Shape := ⟨4, ![1, 512, 1, 64]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x512x8x64, .f32⟩
  | .local _ .vmem, ⟨0, _⟩ => ⟨S2x512x8x64, .bf16⟩
  | .local _ .vmem, ⟨1, _⟩ => ⟨S2x512x8x64, .bf16⟩
  | .local _ .vmem, ⟨2, _⟩ => ⟨S2x512x8x64, .bf16⟩
  | .local _ .vmem, ⟨3, _⟩ => ⟨S2x512x8x64, .f32⟩
  | .local _ .vmem, ⟨4, _⟩ => ⟨S4x4x512x512, .bf16⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v10 : BitVec 32 := Scalar.extui v4
  let c0_i32_4 : BitVec 32 := 0#32
  let v11 : BitVec 1 := Scalar.cmpi .ne v10 c0_i32_4
  v11

def k0_dev1 (d0 : Dev nD) : Nat :=
  let c0_i32_1081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1080 : BitVec 32 := 1#32
  let v1275 : BitVec 32 := Scalar.muli v8 c1_i32_1080
  let v1276 : BitVec 32 := Scalar.addi c0_i32_1081 v1275
  v1276.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 1 := Scalar.cmpi .slt v2 c3_i32
  let v12 : BitVec 32 := Scalar.extui v3
  let c0_i32_5 : BitVec 32 := 0#32
  let v13 : BitVec 1 := Scalar.cmpi .ne v12 c0_i32_5
  v13

def k0_dev2 (d0 : Dev nD) : Nat :=
  let c0_i32_1081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1080 : BitVec 32 := 1#32
  let v1275 : BitVec 32 := Scalar.muli v6 c1_i32_1080
  let v1276 : BitVec 32 := Scalar.addi c0_i32_1081 v1275
  v1276.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : Index := Scalar.indexCast v2
  let c0_11 : Index := 0#32
  let c0_12 : Index := 0#32
  let c0_13 : Index := 0#32
  ![v21.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : Index := Scalar.indexCast v2
  let c1_17 : Index := 1#32
  let c0_18 : Index := 0#32
  let c0_19 : Index := 0#32
  ![v29.toNat, 1, 0, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : Index := Scalar.indexCast v2
  let c2 : Index := 2#32
  let c0_24 : Index := 0#32
  let c0_25 : Index := 0#32
  ![v37.toNat, 2, 0, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : Index := Scalar.indexCast v2
  let c3 : Index := 3#32
  let c0_30 : Index := 0#32
  let c0_31 : Index := 0#32
  ![v45.toNat, 3, 0, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 1 := Scalar.cmpi .slt v2 c3_i32
  let v49 : BitVec 32 := Scalar.extui v3
  let c0_i32_32 : BitVec 32 := 0#32
  let v50 : BitVec 1 := Scalar.cmpi .ne v49 c0_i32_32
  v50

def k0_off5 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1275 : BitVec 32 := Scalar.maxsi c0_i32_1079 v2
  let v1276 : BitVec 32 := Scalar.minsi c3_i32_1080 v1275
  let c0_i32_1084 : BitVec 32 := 0#32
  ![v1276.toNat, 0]
def k0_off6 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1275 : BitVec 32 := Scalar.maxsi c0_i32_1079 v2
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev3 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_off7 (d0 : Dev nD) : Fin 2 → Nat :=
  let c3_i32_1092 : BitVec 32 := 3#32
  let c0_i32_1091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1287 : BitVec 32 := Scalar.maxsi c0_i32_1091 v2
  let v1288 : BitVec 32 := Scalar.minsi c3_i32_1092 v1287
  let c1_i32_1096 : BitVec 32 := 1#32
  ![v1288.toNat, 1]
def k0_off8 (d0 : Dev nD) : Fin 4 → Nat :=
  let c3_i32_1092 : BitVec 32 := 3#32
  let c0_i32_1091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1287 : BitVec 32 := Scalar.maxsi c0_i32_1091 v2
  let v1288 : BitVec 32 := Scalar.minsi c3_i32_1092 v1287
  let c1_i32_1094 : BitVec 32 := 1#32
  let c0_i32_1099 : BitVec 32 := 0#32
  let c0_i32_1100 : BitVec 32 := 0#32
  ![v1288.toNat, 1, 0, 0]
def k0_dev4 (d0 : Dev nD) : Nat :=
  let c0_i32_1098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1097 : BitVec 32 := 1#32
  let v1289 : BitVec 32 := Scalar.muli v6 c1_i32_1097
  let v1290 : BitVec 32 := Scalar.addi c0_i32_1098 v1289
  v1290.toNat
def k0_off9 (d0 : Dev nD) : Fin 2 → Nat :=
  let c3_i32_1104 : BitVec 32 := 3#32
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1299 : BitVec 32 := Scalar.maxsi c0_i32_1103 v2
  let v1300 : BitVec 32 := Scalar.minsi c3_i32_1104 v1299
  let c2_i32_1108 : BitVec 32 := 2#32
  ![v1300.toNat, 2]
def k0_off10 (d0 : Dev nD) : Fin 4 → Nat :=
  let c3_i32_1104 : BitVec 32 := 3#32
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1299 : BitVec 32 := Scalar.maxsi c0_i32_1103 v2
  let v1300 : BitVec 32 := Scalar.minsi c3_i32_1104 v1299
  let c2_i32_1106 : BitVec 32 := 2#32
  let c0_i32_1111 : BitVec 32 := 0#32
  let c0_i32_1112 : BitVec 32 := 0#32
  ![v1300.toNat, 2, 0, 0]
def k0_dev5 (d0 : Dev nD) : Nat :=
  let c0_i32_1110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1109 : BitVec 32 := 1#32
  let v1301 : BitVec 32 := Scalar.muli v6 c1_i32_1109
  let v1302 : BitVec 32 := Scalar.addi c0_i32_1110 v1301
  v1302.toNat
def k0_off11 (d0 : Dev nD) : Fin 2 → Nat :=
  let c3_i32_1116 : BitVec 32 := 3#32
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1311 : BitVec 32 := Scalar.maxsi c0_i32_1115 v2
  let v1312 : BitVec 32 := Scalar.minsi c3_i32_1116 v1311
  let c3_i32_1120 : BitVec 32 := 3#32
  ![v1312.toNat, 3]
def k0_off12 (d0 : Dev nD) : Fin 4 → Nat :=
  let c3_i32_1116 : BitVec 32 := 3#32
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1311 : BitVec 32 := Scalar.maxsi c0_i32_1115 v2
  let v1312 : BitVec 32 := Scalar.minsi c3_i32_1116 v1311
  let c3_i32_1118 : BitVec 32 := 3#32
  let c0_i32_1123 : BitVec 32 := 0#32
  let c0_i32_1124 : BitVec 32 := 0#32
  ![v1312.toNat, 3, 0, 0]
def k0_dev6 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1121 : BitVec 32 := 1#32
  let v1313 : BitVec 32 := Scalar.muli v6 c1_i32_1121
  let v1314 : BitVec 32 := Scalar.addi c0_i32_1122 v1313
  v1314.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v51 : BitVec 32 := Scalar.extui v4
  let c0_i32_33 : BitVec 32 := 0#32
  let v52 : BitVec 1 := Scalar.cmpi .ne v51 c0_i32_33
  v52

def k0_off13 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1275 : BitVec 32 := Scalar.maxsi c0_i32_1079 v2
  let v1276 : BitVec 32 := Scalar.minsi c3_i32_1080 v1275
  let c0_i32_1084 : BitVec 32 := 0#32
  ![v1276.toNat, 0]
def k0_off14 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1275 : BitVec 32 := Scalar.maxsi c0_i32_1079 v2
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev7 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_off15 (d0 : Dev nD) : Fin 2 → Nat :=
  let c3_i32_1092 : BitVec 32 := 3#32
  let c0_i32_1091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1287 : BitVec 32 := Scalar.maxsi c0_i32_1091 v2
  let v1288 : BitVec 32 := Scalar.minsi c3_i32_1092 v1287
  let c1_i32_1096 : BitVec 32 := 1#32
  ![v1288.toNat, 1]
def k0_off16 (d0 : Dev nD) : Fin 4 → Nat :=
  let c3_i32_1092 : BitVec 32 := 3#32
  let c0_i32_1091 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1287 : BitVec 32 := Scalar.maxsi c0_i32_1091 v2
  let v1288 : BitVec 32 := Scalar.minsi c3_i32_1092 v1287
  let c1_i32_1094 : BitVec 32 := 1#32
  let c0_i32_1099 : BitVec 32 := 0#32
  let c0_i32_1100 : BitVec 32 := 0#32
  ![v1288.toNat, 1, 0, 0]
def k0_dev8 (d0 : Dev nD) : Nat :=
  let c0_i32_1098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1097 : BitVec 32 := 1#32
  let v1289 : BitVec 32 := Scalar.muli v8 c1_i32_1097
  let v1290 : BitVec 32 := Scalar.addi c0_i32_1098 v1289
  v1290.toNat
def k0_off17 (d0 : Dev nD) : Fin 2 → Nat :=
  let c3_i32_1104 : BitVec 32 := 3#32
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1299 : BitVec 32 := Scalar.maxsi c0_i32_1103 v2
  let v1300 : BitVec 32 := Scalar.minsi c3_i32_1104 v1299
  let c2_i32_1108 : BitVec 32 := 2#32
  ![v1300.toNat, 2]
def k0_off18 (d0 : Dev nD) : Fin 4 → Nat :=
  let c3_i32_1104 : BitVec 32 := 3#32
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1299 : BitVec 32 := Scalar.maxsi c0_i32_1103 v2
  let v1300 : BitVec 32 := Scalar.minsi c3_i32_1104 v1299
  let c2_i32_1106 : BitVec 32 := 2#32
  let c0_i32_1111 : BitVec 32 := 0#32
  let c0_i32_1112 : BitVec 32 := 0#32
  ![v1300.toNat, 2, 0, 0]
def k0_dev9 (d0 : Dev nD) : Nat :=
  let c0_i32_1110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1109 : BitVec 32 := 1#32
  let v1301 : BitVec 32 := Scalar.muli v8 c1_i32_1109
  let v1302 : BitVec 32 := Scalar.addi c0_i32_1110 v1301
  v1302.toNat
def k0_off19 (d0 : Dev nD) : Fin 2 → Nat :=
  let c3_i32_1116 : BitVec 32 := 3#32
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1311 : BitVec 32 := Scalar.maxsi c0_i32_1115 v2
  let v1312 : BitVec 32 := Scalar.minsi c3_i32_1116 v1311
  let c3_i32_1120 : BitVec 32 := 3#32
  ![v1312.toNat, 3]
def k0_off20 (d0 : Dev nD) : Fin 4 → Nat :=
  let c3_i32_1116 : BitVec 32 := 3#32
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1311 : BitVec 32 := Scalar.maxsi c0_i32_1115 v2
  let v1312 : BitVec 32 := Scalar.minsi c3_i32_1116 v1311
  let c3_i32_1118 : BitVec 32 := 3#32
  let c0_i32_1123 : BitVec 32 := 0#32
  let c0_i32_1124 : BitVec 32 := 0#32
  ![v1312.toNat, 3, 0, 0]
def k0_dev10 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1121 : BitVec 32 := 1#32
  let v1313 : BitVec 32 := Scalar.muli v8 c1_i32_1121
  let v1314 : BitVec 32 := Scalar.addi c0_i32_1122 v1313
  v1314.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let c0_i32_38 : BitVec 32 := 0#32
  let v57 : BitVec 1 := Scalar.cmpi .sge v54 c0_i32_38
  let v58 : BitVec 32 := Scalar.extui v57
  let c0_i32_39 : BitVec 32 := 0#32
  let v59 : BitVec 1 := Scalar.cmpi .ne v58 c0_i32_39
  v59

def k0_off21 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let v1275 : BitVec 32 := Scalar.maxsi c0_i32_1079 v54
  let v1276 : BitVec 32 := Scalar.minsi c3_i32_1080 v1275
  let c0_i32_1083 : BitVec 32 := 0#32
  ![v1276.toNat, 0]
def k0_off22 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let v1275 : BitVec 32 := Scalar.maxsi c0_i32_1079 v54
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let c0_i32_40 : BitVec 32 := 0#32
  let v60 : BitVec 1 := Scalar.cmpi .sge v54 c0_i32_40
  let c3_i32 : BitVec 32 := 3#32
  let v3 : BitVec 1 := Scalar.cmpi .slt v2 c3_i32
  let v61 : BitVec 1 := Scalar.andi v60 v3
  let v62 : BitVec 32 := Scalar.extui v61
  let c0_i32_41 : BitVec 32 := 0#32
  let v63 : BitVec 1 := Scalar.cmpi .ne v62 c0_i32_41
  v63

def k0_off23 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let v1275 : BitVec 32 := Scalar.maxsi c0_i32_1079 v54
  let v1276 : BitVec 32 := Scalar.minsi c3_i32_1080 v1275
  let c0_i32_1084 : BitVec 32 := 0#32
  ![v1276.toNat, 0]
def k0_off24 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.subi v2 c1_i32_34
  let c0_i32_35 : BitVec 32 := 0#32
  let v54 : BitVec 32 := Scalar.subi v53 c0_i32_35
  let v1275 : BitVec 32 := Scalar.maxsi c0_i32_1079 v54
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev11 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let c3_i32_42 : BitVec 32 := 3#32
  let v64 : BitVec 1 := Scalar.cmpi .sle v56 c3_i32_42
  let v65 : BitVec 32 := Scalar.extui v64
  let c0_i32_43 : BitVec 32 := 0#32
  let v66 : BitVec 1 := Scalar.cmpi .ne v65 c0_i32_43
  v66

def k0_off25 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let v1275 : BitVec 32 := Scalar.maxsi c0_i32_1079 v56
  let v1276 : BitVec 32 := Scalar.minsi c3_i32_1080 v1275
  let c0_i32_1083 : BitVec 32 := 0#32
  ![v1276.toNat, 0]
def k0_off26 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let v1275 : BitVec 32 := Scalar.maxsi c0_i32_1079 v56
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let c3_i32_44 : BitVec 32 := 3#32
  let v67 : BitVec 1 := Scalar.cmpi .sle v56 c3_i32_44
  let c0_i32 : BitVec 32 := 0#32
  let v4 : BitVec 1 := Scalar.cmpi .sgt v2 c0_i32
  let v68 : BitVec 1 := Scalar.andi v67 v4
  let v69 : BitVec 32 := Scalar.extui v68
  let c0_i32_45 : BitVec 32 := 0#32
  let v70 : BitVec 1 := Scalar.cmpi .ne v69 c0_i32_45
  v70

def k0_off27 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let v1275 : BitVec 32 := Scalar.maxsi c0_i32_1079 v56
  let v1276 : BitVec 32 := Scalar.minsi c3_i32_1080 v1275
  let c0_i32_1084 : BitVec 32 := 0#32
  ![v1276.toNat, 0]
def k0_off28 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v55 : BitVec 32 := Scalar.addi v2 c1_i32_36
  let c0_i32_37 : BitVec 32 := 0#32
  let v56 : BitVec 32 := Scalar.addi v55 c0_i32_37
  let v1275 : BitVec 32 := Scalar.maxsi c0_i32_1079 v56
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev12 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let c0_i32_50 : BitVec 32 := 0#32
  let v75 : BitVec 1 := Scalar.cmpi .sge v72 c0_i32_50
  let v76 : BitVec 32 := Scalar.extui v75
  let c0_i32_51 : BitVec 32 := 0#32
  let v77 : BitVec 1 := Scalar.cmpi .ne v76 c0_i32_51
  v77

def k0_off29 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let v1275 : BitVec 32 := Scalar.maxsi c0_i32_1079 v72
  let v1276 : BitVec 32 := Scalar.minsi c3_i32_1080 v1275
  let c1_i32_1083 : BitVec 32 := 1#32
  ![v1276.toNat, 1]
def k0_off30 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let v1275 : BitVec 32 := Scalar.maxsi c0_i32_1079 v72
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let c0_i32_52 : BitVec 32 := 0#32
  let v78 : BitVec 1 := Scalar.cmpi .sge v72 c0_i32_52
  let c3_i32 : BitVec 32 := 3#32
  let v3 : BitVec 1 := Scalar.cmpi .slt v2 c3_i32
  let v79 : BitVec 1 := Scalar.andi v78 v3
  let v80 : BitVec 32 := Scalar.extui v79
  let c0_i32_53 : BitVec 32 := 0#32
  let v81 : BitVec 1 := Scalar.cmpi .ne v80 c0_i32_53
  v81

def k0_off31 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let v1275 : BitVec 32 := Scalar.maxsi c0_i32_1079 v72
  let v1276 : BitVec 32 := Scalar.minsi c3_i32_1080 v1275
  let c1_i32_1084 : BitVec 32 := 1#32
  ![v1276.toNat, 1]
def k0_off32 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v71 : BitVec 32 := Scalar.subi v2 c1_i32_46
  let c0_i32_47 : BitVec 32 := 0#32
  let v72 : BitVec 32 := Scalar.subi v71 c0_i32_47
  let v1275 : BitVec 32 := Scalar.maxsi c0_i32_1079 v72
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev13 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let c3_i32_54 : BitVec 32 := 3#32
  let v82 : BitVec 1 := Scalar.cmpi .sle v74 c3_i32_54
  let v83 : BitVec 32 := Scalar.extui v82
  let c0_i32_55 : BitVec 32 := 0#32
  let v84 : BitVec 1 := Scalar.cmpi .ne v83 c0_i32_55
  v84

def k0_off33 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let v1275 : BitVec 32 := Scalar.maxsi c0_i32_1079 v74
  let v1276 : BitVec 32 := Scalar.minsi c3_i32_1080 v1275
  let c1_i32_1083 : BitVec 32 := 1#32
  ![v1276.toNat, 1]
def k0_off34 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let v1275 : BitVec 32 := Scalar.maxsi c0_i32_1079 v74
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let c3_i32_56 : BitVec 32 := 3#32
  let v85 : BitVec 1 := Scalar.cmpi .sle v74 c3_i32_56
  let c0_i32 : BitVec 32 := 0#32
  let v4 : BitVec 1 := Scalar.cmpi .sgt v2 c0_i32
  let v86 : BitVec 1 := Scalar.andi v85 v4
  let v87 : BitVec 32 := Scalar.extui v86
  let c0_i32_57 : BitVec 32 := 0#32
  let v88 : BitVec 1 := Scalar.cmpi .ne v87 c0_i32_57
  v88

def k0_off35 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let v1275 : BitVec 32 := Scalar.maxsi c0_i32_1079 v74
  let v1276 : BitVec 32 := Scalar.minsi c3_i32_1080 v1275
  let c1_i32_1084 : BitVec 32 := 1#32
  ![v1276.toNat, 1]
def k0_off36 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v73 : BitVec 32 := Scalar.addi v2 c1_i32_48
  let c0_i32_49 : BitVec 32 := 0#32
  let v74 : BitVec 32 := Scalar.addi v73 c0_i32_49
  let v1275 : BitVec 32 := Scalar.maxsi c0_i32_1079 v74
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev14 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let c0_i32_62 : BitVec 32 := 0#32
  let v93 : BitVec 1 := Scalar.cmpi .sge v90 c0_i32_62
  let v94 : BitVec 32 := Scalar.extui v93
  let c0_i32_63 : BitVec 32 := 0#32
  let v95 : BitVec 1 := Scalar.cmpi .ne v94 c0_i32_63
  v95

def k0_off37 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let v1275 : BitVec 32 := Scalar.maxsi c0_i32_1079 v90
  let v1276 : BitVec 32 := Scalar.minsi c3_i32_1080 v1275
  let c2_i32_1083 : BitVec 32 := 2#32
  ![v1276.toNat, 2]
def k0_off38 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let v1275 : BitVec 32 := Scalar.maxsi c0_i32_1079 v90
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let c0_i32_64 : BitVec 32 := 0#32
  let v96 : BitVec 1 := Scalar.cmpi .sge v90 c0_i32_64
  let c3_i32 : BitVec 32 := 3#32
  let v3 : BitVec 1 := Scalar.cmpi .slt v2 c3_i32
  let v97 : BitVec 1 := Scalar.andi v96 v3
  let v98 : BitVec 32 := Scalar.extui v97
  let c0_i32_65 : BitVec 32 := 0#32
  let v99 : BitVec 1 := Scalar.cmpi .ne v98 c0_i32_65
  v99

def k0_off39 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let v1275 : BitVec 32 := Scalar.maxsi c0_i32_1079 v90
  let v1276 : BitVec 32 := Scalar.minsi c3_i32_1080 v1275
  let c2_i32_1084 : BitVec 32 := 2#32
  ![v1276.toNat, 2]
def k0_off40 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v89 : BitVec 32 := Scalar.subi v2 c1_i32_58
  let c0_i32_59 : BitVec 32 := 0#32
  let v90 : BitVec 32 := Scalar.subi v89 c0_i32_59
  let v1275 : BitVec 32 := Scalar.maxsi c0_i32_1079 v90
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev15 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let c3_i32_66 : BitVec 32 := 3#32
  let v100 : BitVec 1 := Scalar.cmpi .sle v92 c3_i32_66
  let v101 : BitVec 32 := Scalar.extui v100
  let c0_i32_67 : BitVec 32 := 0#32
  let v102 : BitVec 1 := Scalar.cmpi .ne v101 c0_i32_67
  v102

def k0_off41 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let v1275 : BitVec 32 := Scalar.maxsi c0_i32_1079 v92
  let v1276 : BitVec 32 := Scalar.minsi c3_i32_1080 v1275
  let c2_i32_1083 : BitVec 32 := 2#32
  ![v1276.toNat, 2]
def k0_off42 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let v1275 : BitVec 32 := Scalar.maxsi c0_i32_1079 v92
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let c3_i32_68 : BitVec 32 := 3#32
  let v103 : BitVec 1 := Scalar.cmpi .sle v92 c3_i32_68
  let c0_i32 : BitVec 32 := 0#32
  let v4 : BitVec 1 := Scalar.cmpi .sgt v2 c0_i32
  let v104 : BitVec 1 := Scalar.andi v103 v4
  let v105 : BitVec 32 := Scalar.extui v104
  let c0_i32_69 : BitVec 32 := 0#32
  let v106 : BitVec 1 := Scalar.cmpi .ne v105 c0_i32_69
  v106

def k0_off43 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let v1275 : BitVec 32 := Scalar.maxsi c0_i32_1079 v92
  let v1276 : BitVec 32 := Scalar.minsi c3_i32_1080 v1275
  let c2_i32_1084 : BitVec 32 := 2#32
  ![v1276.toNat, 2]
def k0_off44 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v91 : BitVec 32 := Scalar.addi v2 c1_i32_60
  let c0_i32_61 : BitVec 32 := 0#32
  let v92 : BitVec 32 := Scalar.addi v91 c0_i32_61
  let v1275 : BitVec 32 := Scalar.maxsi c0_i32_1079 v92
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev16 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let c0_i32_74 : BitVec 32 := 0#32
  let v111 : BitVec 1 := Scalar.cmpi .sge v108 c0_i32_74
  let v112 : BitVec 32 := Scalar.extui v111
  let c0_i32_75 : BitVec 32 := 0#32
  let v113 : BitVec 1 := Scalar.cmpi .ne v112 c0_i32_75
  v113

def k0_off45 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let v1275 : BitVec 32 := Scalar.maxsi c0_i32_1079 v108
  let v1276 : BitVec 32 := Scalar.minsi c3_i32_1080 v1275
  let c3_i32_1083 : BitVec 32 := 3#32
  ![v1276.toNat, 3]
def k0_off46 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let v1275 : BitVec 32 := Scalar.maxsi c0_i32_1079 v108
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let c0_i32_76 : BitVec 32 := 0#32
  let v114 : BitVec 1 := Scalar.cmpi .sge v108 c0_i32_76
  let c3_i32 : BitVec 32 := 3#32
  let v3 : BitVec 1 := Scalar.cmpi .slt v2 c3_i32
  let v115 : BitVec 1 := Scalar.andi v114 v3
  let v116 : BitVec 32 := Scalar.extui v115
  let c0_i32_77 : BitVec 32 := 0#32
  let v117 : BitVec 1 := Scalar.cmpi .ne v116 c0_i32_77
  v117

def k0_off47 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let v1275 : BitVec 32 := Scalar.maxsi c0_i32_1079 v108
  let v1276 : BitVec 32 := Scalar.minsi c3_i32_1080 v1275
  let c3_i32_1084 : BitVec 32 := 3#32
  ![v1276.toNat, 3]
def k0_off48 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v107 : BitVec 32 := Scalar.subi v2 c1_i32_70
  let c0_i32_71 : BitVec 32 := 0#32
  let v108 : BitVec 32 := Scalar.subi v107 c0_i32_71
  let v1275 : BitVec 32 := Scalar.maxsi c0_i32_1079 v108
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev17 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let c3_i32_78 : BitVec 32 := 3#32
  let v118 : BitVec 1 := Scalar.cmpi .sle v110 c3_i32_78
  let v119 : BitVec 32 := Scalar.extui v118
  let c0_i32_79 : BitVec 32 := 0#32
  let v120 : BitVec 1 := Scalar.cmpi .ne v119 c0_i32_79
  v120

def k0_off49 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let v1275 : BitVec 32 := Scalar.maxsi c0_i32_1079 v110
  let v1276 : BitVec 32 := Scalar.minsi c3_i32_1080 v1275
  let c3_i32_1083 : BitVec 32 := 3#32
  ![v1276.toNat, 3]
def k0_off50 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let v1275 : BitVec 32 := Scalar.maxsi c0_i32_1079 v110
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let c3_i32_80 : BitVec 32 := 3#32
  let v121 : BitVec 1 := Scalar.cmpi .sle v110 c3_i32_80
  let c0_i32 : BitVec 32 := 0#32
  let v4 : BitVec 1 := Scalar.cmpi .sgt v2 c0_i32
  let v122 : BitVec 1 := Scalar.andi v121 v4
  let v123 : BitVec 32 := Scalar.extui v122
  let c0_i32_81 : BitVec 32 := 0#32
  let v124 : BitVec 1 := Scalar.cmpi .ne v123 c0_i32_81
  v124

def k0_off51 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let v1275 : BitVec 32 := Scalar.maxsi c0_i32_1079 v110
  let v1276 : BitVec 32 := Scalar.minsi c3_i32_1080 v1275
  let c3_i32_1084 : BitVec 32 := 3#32
  ![v1276.toNat, 3]
def k0_off52 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v109 : BitVec 32 := Scalar.addi v2 c1_i32_72
  let c0_i32_73 : BitVec 32 := 0#32
  let v110 : BitVec 32 := Scalar.addi v109 c0_i32_73
  let v1275 : BitVec 32 := Scalar.maxsi c0_i32_1079 v110
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev18 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let c0_i32_86 : BitVec 32 := 0#32
  let v129 : BitVec 1 := Scalar.cmpi .sge v126 c0_i32_86
  let v130 : BitVec 32 := Scalar.extui v129
  let c0_i32_87 : BitVec 32 := 0#32
  let v131 : BitVec 1 := Scalar.cmpi .ne v130 c0_i32_87
  v131

def k0_off53 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let v1275 : BitVec 32 := Scalar.maxsi c0_i32_1079 v126
  let v1276 : BitVec 32 := Scalar.minsi c3_i32_1080 v1275
  let c0_i32_1083 : BitVec 32 := 0#32
  ![v1276.toNat, 0]
def k0_off54 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let v1275 : BitVec 32 := Scalar.maxsi c0_i32_1079 v126
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let c0_i32_88 : BitVec 32 := 0#32
  let v132 : BitVec 1 := Scalar.cmpi .sge v126 c0_i32_88
  let c3_i32 : BitVec 32 := 3#32
  let v3 : BitVec 1 := Scalar.cmpi .slt v2 c3_i32
  let v133 : BitVec 1 := Scalar.andi v132 v3
  let v134 : BitVec 32 := Scalar.extui v133
  let c0_i32_89 : BitVec 32 := 0#32
  let v135 : BitVec 1 := Scalar.cmpi .ne v134 c0_i32_89
  v135

def k0_off55 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let v1275 : BitVec 32 := Scalar.maxsi c0_i32_1079 v126
  let v1276 : BitVec 32 := Scalar.minsi c3_i32_1080 v1275
  let c0_i32_1084 : BitVec 32 := 0#32
  ![v1276.toNat, 0]
def k0_off56 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.subi v2 c1_i32_82
  let c1_i32_83 : BitVec 32 := 1#32
  let v126 : BitVec 32 := Scalar.subi v125 c1_i32_83
  let v1275 : BitVec 32 := Scalar.maxsi c0_i32_1079 v126
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev19 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let c3_i32_90 : BitVec 32 := 3#32
  let v136 : BitVec 1 := Scalar.cmpi .sle v128 c3_i32_90
  let v137 : BitVec 32 := Scalar.extui v136
  let c0_i32_91 : BitVec 32 := 0#32
  let v138 : BitVec 1 := Scalar.cmpi .ne v137 c0_i32_91
  v138

def k0_off57 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let v1275 : BitVec 32 := Scalar.maxsi c0_i32_1079 v128
  let v1276 : BitVec 32 := Scalar.minsi c3_i32_1080 v1275
  let c0_i32_1083 : BitVec 32 := 0#32
  ![v1276.toNat, 0]
def k0_off58 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let v1275 : BitVec 32 := Scalar.maxsi c0_i32_1079 v128
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let c3_i32_92 : BitVec 32 := 3#32
  let v139 : BitVec 1 := Scalar.cmpi .sle v128 c3_i32_92
  let c0_i32 : BitVec 32 := 0#32
  let v4 : BitVec 1 := Scalar.cmpi .sgt v2 c0_i32
  let v140 : BitVec 1 := Scalar.andi v139 v4
  let v141 : BitVec 32 := Scalar.extui v140
  let c0_i32_93 : BitVec 32 := 0#32
  let v142 : BitVec 1 := Scalar.cmpi .ne v141 c0_i32_93
  v142

def k0_off59 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let v1275 : BitVec 32 := Scalar.maxsi c0_i32_1079 v128
  let v1276 : BitVec 32 := Scalar.minsi c3_i32_1080 v1275
  let c0_i32_1084 : BitVec 32 := 0#32
  ![v1276.toNat, 0]
def k0_off60 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v127 : BitVec 32 := Scalar.addi v2 c1_i32_84
  let c1_i32_85 : BitVec 32 := 1#32
  let v128 : BitVec 32 := Scalar.addi v127 c1_i32_85
  let v1275 : BitVec 32 := Scalar.maxsi c0_i32_1079 v128
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev20 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let c0_i32_98 : BitVec 32 := 0#32
  let v147 : BitVec 1 := Scalar.cmpi .sge v144 c0_i32_98
  let v148 : BitVec 32 := Scalar.extui v147
  let c0_i32_99 : BitVec 32 := 0#32
  let v149 : BitVec 1 := Scalar.cmpi .ne v148 c0_i32_99
  v149

def k0_off61 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let v1275 : BitVec 32 := Scalar.maxsi c0_i32_1079 v144
  let v1276 : BitVec 32 := Scalar.minsi c3_i32_1080 v1275
  let c1_i32_1083 : BitVec 32 := 1#32
  ![v1276.toNat, 1]
def k0_off62 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let v1275 : BitVec 32 := Scalar.maxsi c0_i32_1079 v144
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let c0_i32_100 : BitVec 32 := 0#32
  let v150 : BitVec 1 := Scalar.cmpi .sge v144 c0_i32_100
  let c3_i32 : BitVec 32 := 3#32
  let v3 : BitVec 1 := Scalar.cmpi .slt v2 c3_i32
  let v151 : BitVec 1 := Scalar.andi v150 v3
  let v152 : BitVec 32 := Scalar.extui v151
  let c0_i32_101 : BitVec 32 := 0#32
  let v153 : BitVec 1 := Scalar.cmpi .ne v152 c0_i32_101
  v153

def k0_off63 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let v1275 : BitVec 32 := Scalar.maxsi c0_i32_1079 v144
  let v1276 : BitVec 32 := Scalar.minsi c3_i32_1080 v1275
  let c1_i32_1084 : BitVec 32 := 1#32
  ![v1276.toNat, 1]
def k0_off64 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v143 : BitVec 32 := Scalar.subi v2 c1_i32_94
  let c1_i32_95 : BitVec 32 := 1#32
  let v144 : BitVec 32 := Scalar.subi v143 c1_i32_95
  let v1275 : BitVec 32 := Scalar.maxsi c0_i32_1079 v144
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev21 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let c3_i32_102 : BitVec 32 := 3#32
  let v154 : BitVec 1 := Scalar.cmpi .sle v146 c3_i32_102
  let v155 : BitVec 32 := Scalar.extui v154
  let c0_i32_103 : BitVec 32 := 0#32
  let v156 : BitVec 1 := Scalar.cmpi .ne v155 c0_i32_103
  v156

def k0_off65 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let v1275 : BitVec 32 := Scalar.maxsi c0_i32_1079 v146
  let v1276 : BitVec 32 := Scalar.minsi c3_i32_1080 v1275
  let c1_i32_1083 : BitVec 32 := 1#32
  ![v1276.toNat, 1]
def k0_off66 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let v1275 : BitVec 32 := Scalar.maxsi c0_i32_1079 v146
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let c3_i32_104 : BitVec 32 := 3#32
  let v157 : BitVec 1 := Scalar.cmpi .sle v146 c3_i32_104
  let c0_i32 : BitVec 32 := 0#32
  let v4 : BitVec 1 := Scalar.cmpi .sgt v2 c0_i32
  let v158 : BitVec 1 := Scalar.andi v157 v4
  let v159 : BitVec 32 := Scalar.extui v158
  let c0_i32_105 : BitVec 32 := 0#32
  let v160 : BitVec 1 := Scalar.cmpi .ne v159 c0_i32_105
  v160

def k0_off67 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let v1275 : BitVec 32 := Scalar.maxsi c0_i32_1079 v146
  let v1276 : BitVec 32 := Scalar.minsi c3_i32_1080 v1275
  let c1_i32_1084 : BitVec 32 := 1#32
  ![v1276.toNat, 1]
def k0_off68 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v145 : BitVec 32 := Scalar.addi v2 c1_i32_96
  let c1_i32_97 : BitVec 32 := 1#32
  let v146 : BitVec 32 := Scalar.addi v145 c1_i32_97
  let v1275 : BitVec 32 := Scalar.maxsi c0_i32_1079 v146
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev22 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let c0_i32_110 : BitVec 32 := 0#32
  let v165 : BitVec 1 := Scalar.cmpi .sge v162 c0_i32_110
  let v166 : BitVec 32 := Scalar.extui v165
  let c0_i32_111 : BitVec 32 := 0#32
  let v167 : BitVec 1 := Scalar.cmpi .ne v166 c0_i32_111
  v167

def k0_off69 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let v1275 : BitVec 32 := Scalar.maxsi c0_i32_1079 v162
  let v1276 : BitVec 32 := Scalar.minsi c3_i32_1080 v1275
  let c2_i32_1083 : BitVec 32 := 2#32
  ![v1276.toNat, 2]
def k0_off70 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let v1275 : BitVec 32 := Scalar.maxsi c0_i32_1079 v162
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond31 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let c0_i32_112 : BitVec 32 := 0#32
  let v168 : BitVec 1 := Scalar.cmpi .sge v162 c0_i32_112
  let c3_i32 : BitVec 32 := 3#32
  let v3 : BitVec 1 := Scalar.cmpi .slt v2 c3_i32
  let v169 : BitVec 1 := Scalar.andi v168 v3
  let v170 : BitVec 32 := Scalar.extui v169
  let c0_i32_113 : BitVec 32 := 0#32
  let v171 : BitVec 1 := Scalar.cmpi .ne v170 c0_i32_113
  v171

def k0_off71 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let v1275 : BitVec 32 := Scalar.maxsi c0_i32_1079 v162
  let v1276 : BitVec 32 := Scalar.minsi c3_i32_1080 v1275
  let c2_i32_1084 : BitVec 32 := 2#32
  ![v1276.toNat, 2]
def k0_off72 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_106 : BitVec 32 := 1#32
  let v161 : BitVec 32 := Scalar.subi v2 c1_i32_106
  let c1_i32_107 : BitVec 32 := 1#32
  let v162 : BitVec 32 := Scalar.subi v161 c1_i32_107
  let v1275 : BitVec 32 := Scalar.maxsi c0_i32_1079 v162
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev23 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond32 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let c3_i32_114 : BitVec 32 := 3#32
  let v172 : BitVec 1 := Scalar.cmpi .sle v164 c3_i32_114
  let v173 : BitVec 32 := Scalar.extui v172
  let c0_i32_115 : BitVec 32 := 0#32
  let v174 : BitVec 1 := Scalar.cmpi .ne v173 c0_i32_115
  v174

def k0_off73 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let v1275 : BitVec 32 := Scalar.maxsi c0_i32_1079 v164
  let v1276 : BitVec 32 := Scalar.minsi c3_i32_1080 v1275
  let c2_i32_1083 : BitVec 32 := 2#32
  ![v1276.toNat, 2]
def k0_off74 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let v1275 : BitVec 32 := Scalar.maxsi c0_i32_1079 v164
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond33 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let c3_i32_116 : BitVec 32 := 3#32
  let v175 : BitVec 1 := Scalar.cmpi .sle v164 c3_i32_116
  let c0_i32 : BitVec 32 := 0#32
  let v4 : BitVec 1 := Scalar.cmpi .sgt v2 c0_i32
  let v176 : BitVec 1 := Scalar.andi v175 v4
  let v177 : BitVec 32 := Scalar.extui v176
  let c0_i32_117 : BitVec 32 := 0#32
  let v178 : BitVec 1 := Scalar.cmpi .ne v177 c0_i32_117
  v178

def k0_off75 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let v1275 : BitVec 32 := Scalar.maxsi c0_i32_1079 v164
  let v1276 : BitVec 32 := Scalar.minsi c3_i32_1080 v1275
  let c2_i32_1084 : BitVec 32 := 2#32
  ![v1276.toNat, 2]
def k0_off76 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v163 : BitVec 32 := Scalar.addi v2 c1_i32_108
  let c1_i32_109 : BitVec 32 := 1#32
  let v164 : BitVec 32 := Scalar.addi v163 c1_i32_109
  let v1275 : BitVec 32 := Scalar.maxsi c0_i32_1079 v164
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev24 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond34 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let c0_i32_122 : BitVec 32 := 0#32
  let v183 : BitVec 1 := Scalar.cmpi .sge v180 c0_i32_122
  let v184 : BitVec 32 := Scalar.extui v183
  let c0_i32_123 : BitVec 32 := 0#32
  let v185 : BitVec 1 := Scalar.cmpi .ne v184 c0_i32_123
  v185

def k0_off77 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let v1275 : BitVec 32 := Scalar.maxsi c0_i32_1079 v180
  let v1276 : BitVec 32 := Scalar.minsi c3_i32_1080 v1275
  let c3_i32_1083 : BitVec 32 := 3#32
  ![v1276.toNat, 3]
def k0_off78 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let v1275 : BitVec 32 := Scalar.maxsi c0_i32_1079 v180
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond35 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let c0_i32_124 : BitVec 32 := 0#32
  let v186 : BitVec 1 := Scalar.cmpi .sge v180 c0_i32_124
  let c3_i32 : BitVec 32 := 3#32
  let v3 : BitVec 1 := Scalar.cmpi .slt v2 c3_i32
  let v187 : BitVec 1 := Scalar.andi v186 v3
  let v188 : BitVec 32 := Scalar.extui v187
  let c0_i32_125 : BitVec 32 := 0#32
  let v189 : BitVec 1 := Scalar.cmpi .ne v188 c0_i32_125
  v189

def k0_off79 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let v1275 : BitVec 32 := Scalar.maxsi c0_i32_1079 v180
  let v1276 : BitVec 32 := Scalar.minsi c3_i32_1080 v1275
  let c3_i32_1084 : BitVec 32 := 3#32
  ![v1276.toNat, 3]
def k0_off80 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v179 : BitVec 32 := Scalar.subi v2 c1_i32_118
  let c1_i32_119 : BitVec 32 := 1#32
  let v180 : BitVec 32 := Scalar.subi v179 c1_i32_119
  let v1275 : BitVec 32 := Scalar.maxsi c0_i32_1079 v180
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev25 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond36 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let c3_i32_126 : BitVec 32 := 3#32
  let v190 : BitVec 1 := Scalar.cmpi .sle v182 c3_i32_126
  let v191 : BitVec 32 := Scalar.extui v190
  let c0_i32_127 : BitVec 32 := 0#32
  let v192 : BitVec 1 := Scalar.cmpi .ne v191 c0_i32_127
  v192

def k0_off81 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let v1275 : BitVec 32 := Scalar.maxsi c0_i32_1079 v182
  let v1276 : BitVec 32 := Scalar.minsi c3_i32_1080 v1275
  let c3_i32_1083 : BitVec 32 := 3#32
  ![v1276.toNat, 3]
def k0_off82 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let v1275 : BitVec 32 := Scalar.maxsi c0_i32_1079 v182
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond37 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let c3_i32_128 : BitVec 32 := 3#32
  let v193 : BitVec 1 := Scalar.cmpi .sle v182 c3_i32_128
  let c0_i32 : BitVec 32 := 0#32
  let v4 : BitVec 1 := Scalar.cmpi .sgt v2 c0_i32
  let v194 : BitVec 1 := Scalar.andi v193 v4
  let v195 : BitVec 32 := Scalar.extui v194
  let c0_i32_129 : BitVec 32 := 0#32
  let v196 : BitVec 1 := Scalar.cmpi .ne v195 c0_i32_129
  v196

def k0_off83 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let v1275 : BitVec 32 := Scalar.maxsi c0_i32_1079 v182
  let v1276 : BitVec 32 := Scalar.minsi c3_i32_1080 v1275
  let c3_i32_1084 : BitVec 32 := 3#32
  ![v1276.toNat, 3]
def k0_off84 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_120 : BitVec 32 := 1#32
  let v181 : BitVec 32 := Scalar.addi v2 c1_i32_120
  let c1_i32_121 : BitVec 32 := 1#32
  let v182 : BitVec 32 := Scalar.addi v181 c1_i32_121
  let v1275 : BitVec 32 := Scalar.maxsi c0_i32_1079 v182
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev26 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond38 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let c0_i32_133 : BitVec 32 := 0#32
  let v201 : BitVec 1 := Scalar.cmpi .sge v198 c0_i32_133
  let v202 : BitVec 32 := Scalar.extui v201
  let c0_i32_134 : BitVec 32 := 0#32
  let v203 : BitVec 1 := Scalar.cmpi .ne v202 c0_i32_134
  v203

def k0_off85 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let v1275 : BitVec 32 := Scalar.maxsi c0_i32_1079 v198
  let v1276 : BitVec 32 := Scalar.minsi c3_i32_1080 v1275
  let c0_i32_1083 : BitVec 32 := 0#32
  ![v1276.toNat, 0]
def k0_off86 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let v1275 : BitVec 32 := Scalar.maxsi c0_i32_1079 v198
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond39 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let c0_i32_135 : BitVec 32 := 0#32
  let v204 : BitVec 1 := Scalar.cmpi .sge v198 c0_i32_135
  let c3_i32 : BitVec 32 := 3#32
  let v3 : BitVec 1 := Scalar.cmpi .slt v2 c3_i32
  let v205 : BitVec 1 := Scalar.andi v204 v3
  let v206 : BitVec 32 := Scalar.extui v205
  let c0_i32_136 : BitVec 32 := 0#32
  let v207 : BitVec 1 := Scalar.cmpi .ne v206 c0_i32_136
  v207

def k0_off87 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let v1275 : BitVec 32 := Scalar.maxsi c0_i32_1079 v198
  let v1276 : BitVec 32 := Scalar.minsi c3_i32_1080 v1275
  let c0_i32_1084 : BitVec 32 := 0#32
  ![v1276.toNat, 0]
def k0_off88 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_130 : BitVec 32 := 1#32
  let v197 : BitVec 32 := Scalar.subi v2 c1_i32_130
  let c2_i32 : BitVec 32 := 2#32
  let v198 : BitVec 32 := Scalar.subi v197 c2_i32
  let v1275 : BitVec 32 := Scalar.maxsi c0_i32_1079 v198
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev27 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond40 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let c3_i32_137 : BitVec 32 := 3#32
  let v208 : BitVec 1 := Scalar.cmpi .sle v200 c3_i32_137
  let v209 : BitVec 32 := Scalar.extui v208
  let c0_i32_138 : BitVec 32 := 0#32
  let v210 : BitVec 1 := Scalar.cmpi .ne v209 c0_i32_138
  v210

def k0_off89 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let v1275 : BitVec 32 := Scalar.maxsi c0_i32_1079 v200
  let v1276 : BitVec 32 := Scalar.minsi c3_i32_1080 v1275
  let c0_i32_1083 : BitVec 32 := 0#32
  ![v1276.toNat, 0]
def k0_off90 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let v1275 : BitVec 32 := Scalar.maxsi c0_i32_1079 v200
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_cond41 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let c3_i32_139 : BitVec 32 := 3#32
  let v211 : BitVec 1 := Scalar.cmpi .sle v200 c3_i32_139
  let c0_i32 : BitVec 32 := 0#32
  let v4 : BitVec 1 := Scalar.cmpi .sgt v2 c0_i32
  let v212 : BitVec 1 := Scalar.andi v211 v4
  let v213 : BitVec 32 := Scalar.extui v212
  let c0_i32_140 : BitVec 32 := 0#32
  let v214 : BitVec 1 := Scalar.cmpi .ne v213 c0_i32_140
  v214

def k0_off91 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let v1275 : BitVec 32 := Scalar.maxsi c0_i32_1079 v200
  let v1276 : BitVec 32 := Scalar.minsi c3_i32_1080 v1275
  let c0_i32_1084 : BitVec 32 := 0#32
  ![v1276.toNat, 0]
def k0_off92 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v199 : BitVec 32 := Scalar.addi v2 c1_i32_131
  let c2_i32_132 : BitVec 32 := 2#32
  let v200 : BitVec 32 := Scalar.addi v199 c2_i32_132
  let v1275 : BitVec 32 := Scalar.maxsi c0_i32_1079 v200
  let v1276 : BitVec 32 := Scalar.minsi c3_i32_1080 v1275
  let c0_i32_1082 : BitVec 32 := 0#32
  let c0_i32_1087 : BitVec 32 := 0#32
  let c0_i32_1088 : BitVec 32 := 0#32
  ![v1276.toNat, 0, 0, 0]
def k0_dev28 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond42 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let c0_i32_145 : BitVec 32 := 0#32
  let v219 : BitVec 1 := Scalar.cmpi .sge v216 c0_i32_145
  let v220 : BitVec 32 := Scalar.extui v219
  let c0_i32_146 : BitVec 32 := 0#32
  let v221 : BitVec 1 := Scalar.cmpi .ne v220 c0_i32_146
  v221

def k0_off93 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let v1275 : BitVec 32 := Scalar.maxsi c0_i32_1079 v216
  let v1276 : BitVec 32 := Scalar.minsi c3_i32_1080 v1275
  let c1_i32_1083 : BitVec 32 := 1#32
  ![v1276.toNat, 1]
def k0_off94 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let v1275 : BitVec 32 := Scalar.maxsi c0_i32_1079 v216
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond43 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let c0_i32_147 : BitVec 32 := 0#32
  let v222 : BitVec 1 := Scalar.cmpi .sge v216 c0_i32_147
  let c3_i32 : BitVec 32 := 3#32
  let v3 : BitVec 1 := Scalar.cmpi .slt v2 c3_i32
  let v223 : BitVec 1 := Scalar.andi v222 v3
  let v224 : BitVec 32 := Scalar.extui v223
  let c0_i32_148 : BitVec 32 := 0#32
  let v225 : BitVec 1 := Scalar.cmpi .ne v224 c0_i32_148
  v225

def k0_off95 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let v1275 : BitVec 32 := Scalar.maxsi c0_i32_1079 v216
  let v1276 : BitVec 32 := Scalar.minsi c3_i32_1080 v1275
  let c1_i32_1084 : BitVec 32 := 1#32
  ![v1276.toNat, 1]
def k0_off96 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_141 : BitVec 32 := 1#32
  let v215 : BitVec 32 := Scalar.subi v2 c1_i32_141
  let c2_i32_142 : BitVec 32 := 2#32
  let v216 : BitVec 32 := Scalar.subi v215 c2_i32_142
  let v1275 : BitVec 32 := Scalar.maxsi c0_i32_1079 v216
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev29 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond44 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let c3_i32_149 : BitVec 32 := 3#32
  let v226 : BitVec 1 := Scalar.cmpi .sle v218 c3_i32_149
  let v227 : BitVec 32 := Scalar.extui v226
  let c0_i32_150 : BitVec 32 := 0#32
  let v228 : BitVec 1 := Scalar.cmpi .ne v227 c0_i32_150
  v228

def k0_off97 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let v1275 : BitVec 32 := Scalar.maxsi c0_i32_1079 v218
  let v1276 : BitVec 32 := Scalar.minsi c3_i32_1080 v1275
  let c1_i32_1083 : BitVec 32 := 1#32
  ![v1276.toNat, 1]
def k0_off98 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let v1275 : BitVec 32 := Scalar.maxsi c0_i32_1079 v218
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_cond45 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let c3_i32_151 : BitVec 32 := 3#32
  let v229 : BitVec 1 := Scalar.cmpi .sle v218 c3_i32_151
  let c0_i32 : BitVec 32 := 0#32
  let v4 : BitVec 1 := Scalar.cmpi .sgt v2 c0_i32
  let v230 : BitVec 1 := Scalar.andi v229 v4
  let v231 : BitVec 32 := Scalar.extui v230
  let c0_i32_152 : BitVec 32 := 0#32
  let v232 : BitVec 1 := Scalar.cmpi .ne v231 c0_i32_152
  v232

def k0_off99 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let v1275 : BitVec 32 := Scalar.maxsi c0_i32_1079 v218
  let v1276 : BitVec 32 := Scalar.minsi c3_i32_1080 v1275
  let c1_i32_1084 : BitVec 32 := 1#32
  ![v1276.toNat, 1]
def k0_off100 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v217 : BitVec 32 := Scalar.addi v2 c1_i32_143
  let c2_i32_144 : BitVec 32 := 2#32
  let v218 : BitVec 32 := Scalar.addi v217 c2_i32_144
  let v1275 : BitVec 32 := Scalar.maxsi c0_i32_1079 v218
  let v1276 : BitVec 32 := Scalar.minsi c3_i32_1080 v1275
  let c1_i32_1082 : BitVec 32 := 1#32
  let c0_i32_1087 : BitVec 32 := 0#32
  let c0_i32_1088 : BitVec 32 := 0#32
  ![v1276.toNat, 1, 0, 0]
def k0_dev30 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond46 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let c0_i32_157 : BitVec 32 := 0#32
  let v237 : BitVec 1 := Scalar.cmpi .sge v234 c0_i32_157
  let v238 : BitVec 32 := Scalar.extui v237
  let c0_i32_158 : BitVec 32 := 0#32
  let v239 : BitVec 1 := Scalar.cmpi .ne v238 c0_i32_158
  v239

def k0_off101 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let v1275 : BitVec 32 := Scalar.maxsi c0_i32_1079 v234
  let v1276 : BitVec 32 := Scalar.minsi c3_i32_1080 v1275
  let c2_i32_1083 : BitVec 32 := 2#32
  ![v1276.toNat, 2]
def k0_off102 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let v1275 : BitVec 32 := Scalar.maxsi c0_i32_1079 v234
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond47 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let c0_i32_159 : BitVec 32 := 0#32
  let v240 : BitVec 1 := Scalar.cmpi .sge v234 c0_i32_159
  let c3_i32 : BitVec 32 := 3#32
  let v3 : BitVec 1 := Scalar.cmpi .slt v2 c3_i32
  let v241 : BitVec 1 := Scalar.andi v240 v3
  let v242 : BitVec 32 := Scalar.extui v241
  let c0_i32_160 : BitVec 32 := 0#32
  let v243 : BitVec 1 := Scalar.cmpi .ne v242 c0_i32_160
  v243

def k0_off103 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let v1275 : BitVec 32 := Scalar.maxsi c0_i32_1079 v234
  let v1276 : BitVec 32 := Scalar.minsi c3_i32_1080 v1275
  let c2_i32_1084 : BitVec 32 := 2#32
  ![v1276.toNat, 2]
def k0_off104 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_153 : BitVec 32 := 1#32
  let v233 : BitVec 32 := Scalar.subi v2 c1_i32_153
  let c2_i32_154 : BitVec 32 := 2#32
  let v234 : BitVec 32 := Scalar.subi v233 c2_i32_154
  let v1275 : BitVec 32 := Scalar.maxsi c0_i32_1079 v234
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev31 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond48 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let c3_i32_161 : BitVec 32 := 3#32
  let v244 : BitVec 1 := Scalar.cmpi .sle v236 c3_i32_161
  let v245 : BitVec 32 := Scalar.extui v244
  let c0_i32_162 : BitVec 32 := 0#32
  let v246 : BitVec 1 := Scalar.cmpi .ne v245 c0_i32_162
  v246

def k0_off105 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let v1275 : BitVec 32 := Scalar.maxsi c0_i32_1079 v236
  let v1276 : BitVec 32 := Scalar.minsi c3_i32_1080 v1275
  let c2_i32_1083 : BitVec 32 := 2#32
  ![v1276.toNat, 2]
def k0_off106 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let v1275 : BitVec 32 := Scalar.maxsi c0_i32_1079 v236
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_cond49 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let c3_i32_163 : BitVec 32 := 3#32
  let v247 : BitVec 1 := Scalar.cmpi .sle v236 c3_i32_163
  let c0_i32 : BitVec 32 := 0#32
  let v4 : BitVec 1 := Scalar.cmpi .sgt v2 c0_i32
  let v248 : BitVec 1 := Scalar.andi v247 v4
  let v249 : BitVec 32 := Scalar.extui v248
  let c0_i32_164 : BitVec 32 := 0#32
  let v250 : BitVec 1 := Scalar.cmpi .ne v249 c0_i32_164
  v250

def k0_off107 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let v1275 : BitVec 32 := Scalar.maxsi c0_i32_1079 v236
  let v1276 : BitVec 32 := Scalar.minsi c3_i32_1080 v1275
  let c2_i32_1084 : BitVec 32 := 2#32
  ![v1276.toNat, 2]
def k0_off108 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v235 : BitVec 32 := Scalar.addi v2 c1_i32_155
  let c2_i32_156 : BitVec 32 := 2#32
  let v236 : BitVec 32 := Scalar.addi v235 c2_i32_156
  let v1275 : BitVec 32 := Scalar.maxsi c0_i32_1079 v236
  let v1276 : BitVec 32 := Scalar.minsi c3_i32_1080 v1275
  let c2_i32_1082 : BitVec 32 := 2#32
  let c0_i32_1087 : BitVec 32 := 0#32
  let c0_i32_1088 : BitVec 32 := 0#32
  ![v1276.toNat, 2, 0, 0]
def k0_dev32 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond50 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let c0_i32_169 : BitVec 32 := 0#32
  let v255 : BitVec 1 := Scalar.cmpi .sge v252 c0_i32_169
  let v256 : BitVec 32 := Scalar.extui v255
  let c0_i32_170 : BitVec 32 := 0#32
  let v257 : BitVec 1 := Scalar.cmpi .ne v256 c0_i32_170
  v257

def k0_off109 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let v1275 : BitVec 32 := Scalar.maxsi c0_i32_1079 v252
  let v1276 : BitVec 32 := Scalar.minsi c3_i32_1080 v1275
  let c3_i32_1083 : BitVec 32 := 3#32
  ![v1276.toNat, 3]
def k0_off110 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let v1275 : BitVec 32 := Scalar.maxsi c0_i32_1079 v252
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond51 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let c0_i32_171 : BitVec 32 := 0#32
  let v258 : BitVec 1 := Scalar.cmpi .sge v252 c0_i32_171
  let c3_i32 : BitVec 32 := 3#32
  let v3 : BitVec 1 := Scalar.cmpi .slt v2 c3_i32
  let v259 : BitVec 1 := Scalar.andi v258 v3
  let v260 : BitVec 32 := Scalar.extui v259
  let c0_i32_172 : BitVec 32 := 0#32
  let v261 : BitVec 1 := Scalar.cmpi .ne v260 c0_i32_172
  v261

def k0_off111 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let v1275 : BitVec 32 := Scalar.maxsi c0_i32_1079 v252
  let v1276 : BitVec 32 := Scalar.minsi c3_i32_1080 v1275
  let c3_i32_1084 : BitVec 32 := 3#32
  ![v1276.toNat, 3]
def k0_off112 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v251 : BitVec 32 := Scalar.subi v2 c1_i32_165
  let c2_i32_166 : BitVec 32 := 2#32
  let v252 : BitVec 32 := Scalar.subi v251 c2_i32_166
  let v1275 : BitVec 32 := Scalar.maxsi c0_i32_1079 v252
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev33 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 32 := Scalar.addi v2 c1_i32_0
  let c3_i32_1 : BitVec 32 := 3#32
  let v6 : BitVec 32 := Scalar.minsi v5 c3_i32_1
  let c1_i32_1085 : BitVec 32 := 1#32
  let v1277 : BitVec 32 := Scalar.muli v6 c1_i32_1085
  let v1278 : BitVec 32 := Scalar.addi c0_i32_1086 v1277
  v1278.toNat
def k0_cond52 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let c3_i32_173 : BitVec 32 := 3#32
  let v262 : BitVec 1 := Scalar.cmpi .sle v254 c3_i32_173
  let v263 : BitVec 32 := Scalar.extui v262
  let c0_i32_174 : BitVec 32 := 0#32
  let v264 : BitVec 1 := Scalar.cmpi .ne v263 c0_i32_174
  v264

def k0_off113 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let v1275 : BitVec 32 := Scalar.maxsi c0_i32_1079 v254
  let v1276 : BitVec 32 := Scalar.minsi c3_i32_1080 v1275
  let c3_i32_1083 : BitVec 32 := 3#32
  ![v1276.toNat, 3]
def k0_off114 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let v1275 : BitVec 32 := Scalar.maxsi c0_i32_1079 v254
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_cond53 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let c3_i32_175 : BitVec 32 := 3#32
  let v265 : BitVec 1 := Scalar.cmpi .sle v254 c3_i32_175
  let c0_i32 : BitVec 32 := 0#32
  let v4 : BitVec 1 := Scalar.cmpi .sgt v2 c0_i32
  let v266 : BitVec 1 := Scalar.andi v265 v4
  let v267 : BitVec 32 := Scalar.extui v266
  let c0_i32_176 : BitVec 32 := 0#32
  let v268 : BitVec 1 := Scalar.cmpi .ne v267 c0_i32_176
  v268

def k0_off115 (d0 : Dev nD) : Fin 2 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let v1275 : BitVec 32 := Scalar.maxsi c0_i32_1079 v254
  let v1276 : BitVec 32 := Scalar.minsi c3_i32_1080 v1275
  let c3_i32_1084 : BitVec 32 := 3#32
  ![v1276.toNat, 3]
def k0_off116 (d0 : Dev nD) : Fin 4 → Nat :=
  let c3_i32_1080 : BitVec 32 := 3#32
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v253 : BitVec 32 := Scalar.addi v2 c1_i32_167
  let c2_i32_168 : BitVec 32 := 2#32
  let v254 : BitVec 32 := Scalar.addi v253 c2_i32_168
  let v1275 : BitVec 32 := Scalar.maxsi c0_i32_1079 v254
  let v1276 : BitVec 32 := Scalar.minsi c3_i32_1080 v1275
  let c3_i32_1082 : BitVec 32 := 3#32
  let c0_i32_1087 : BitVec 32 := 0#32
  let c0_i32_1088 : BitVec 32 := 0#32
  ![v1276.toNat, 3, 0, 0]
def k0_dev34 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.subi v2 c1_i32_2
  let c0_i32_3 : BitVec 32 := 0#32
  let v8 : BitVec 32 := Scalar.maxsi v7 c0_i32_3
  let c1_i32_1085 : BitVec 32 := 1#32
  let v1277 : BitVec 32 := Scalar.muli v8 c1_i32_1085
  let v1278 : BitVec 32 := Scalar.addi c0_i32_1086 v1277
  v1278.toNat
def k0_cond54 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 1 := Scalar.cmpi .slt v2 c3_i32
  let c0_i32_177 : BitVec 32 := 0#32
  let v269 : BitVec 32 := Scalar.subi v2 c0_i32_177
  let c0_i32_178 : BitVec 32 := 0#32
  let v270 : BitVec 1 := Scalar.cmpi .sge v269 c0_i32_178
  let v271 : BitVec 1 := Scalar.andi v3 v270
  let v272 : BitVec 32 := Scalar.extui v271
  let c0_i32_179 : BitVec 32 := 0#32
  let v273 : BitVec 1 := Scalar.cmpi .ne v272 c0_i32_179
  v273

def k0_off117 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1079 : BitVec 32 := 0#32
  let v1275 : BitVec 32 := Scalar.subi v2 c0_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off118 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1079 : BitVec 32 := 0#32
  let v1275 : BitVec 32 := Scalar.subi v2 c0_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off119 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1091 : BitVec 32 := 0#32
  let v1284 : BitVec 32 := Scalar.subi v2 c0_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off120 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1091 : BitVec 32 := 0#32
  let v1284 : BitVec 32 := Scalar.subi v2 c0_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off121 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1103 : BitVec 32 := 0#32
  let v1293 : BitVec 32 := Scalar.subi v2 c0_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off122 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1103 : BitVec 32 := 0#32
  let v1293 : BitVec 32 := Scalar.subi v2 c0_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off123 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1115 : BitVec 32 := 0#32
  let v1302 : BitVec 32 := Scalar.subi v2 c0_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off124 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1115 : BitVec 32 := 0#32
  let v1302 : BitVec 32 := Scalar.subi v2 c0_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
def k0_cond55 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let c0_i32_180 : BitVec 32 := 0#32
  let v274 : BitVec 32 := Scalar.addi v2 c0_i32_180
  let c3_i32_181 : BitVec 32 := 3#32
  let v275 : BitVec 1 := Scalar.cmpi .sle v274 c3_i32_181
  let v276 : BitVec 1 := Scalar.andi v4 v275
  let v277 : BitVec 32 := Scalar.extui v276
  let c0_i32_182 : BitVec 32 := 0#32
  let v278 : BitVec 1 := Scalar.cmpi .ne v277 c0_i32_182
  v278

def k0_off125 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1079 : BitVec 32 := 0#32
  let v1275 : BitVec 32 := Scalar.addi v2 c0_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off126 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1079 : BitVec 32 := 0#32
  let v1275 : BitVec 32 := Scalar.addi v2 c0_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off127 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1091 : BitVec 32 := 0#32
  let v1284 : BitVec 32 := Scalar.addi v2 c0_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off128 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1091 : BitVec 32 := 0#32
  let v1284 : BitVec 32 := Scalar.addi v2 c0_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off129 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1103 : BitVec 32 := 0#32
  let v1293 : BitVec 32 := Scalar.addi v2 c0_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off130 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1103 : BitVec 32 := 0#32
  let v1293 : BitVec 32 := Scalar.addi v2 c0_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off131 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1115 : BitVec 32 := 0#32
  let v1302 : BitVec 32 := Scalar.addi v2 c0_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off132 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1115 : BitVec 32 := 0#32
  let v1302 : BitVec 32 := Scalar.addi v2 c0_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
def k0_cond56 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 1 := Scalar.cmpi .slt v2 c3_i32
  let c1_i32_183 : BitVec 32 := 1#32
  let v279 : BitVec 32 := Scalar.subi v2 c1_i32_183
  let c0_i32_184 : BitVec 32 := 0#32
  let v280 : BitVec 1 := Scalar.cmpi .sge v279 c0_i32_184
  let v281 : BitVec 1 := Scalar.andi v3 v280
  let v282 : BitVec 32 := Scalar.extui v281
  let c0_i32_185 : BitVec 32 := 0#32
  let v283 : BitVec 1 := Scalar.cmpi .ne v282 c0_i32_185
  v283

def k0_off133 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1079 : BitVec 32 := 1#32
  let v1275 : BitVec 32 := Scalar.subi v2 c1_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off134 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1079 : BitVec 32 := 1#32
  let v1275 : BitVec 32 := Scalar.subi v2 c1_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off135 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1091 : BitVec 32 := 1#32
  let v1284 : BitVec 32 := Scalar.subi v2 c1_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off136 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1091 : BitVec 32 := 1#32
  let v1284 : BitVec 32 := Scalar.subi v2 c1_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off137 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1103 : BitVec 32 := 1#32
  let v1293 : BitVec 32 := Scalar.subi v2 c1_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off138 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1103 : BitVec 32 := 1#32
  let v1293 : BitVec 32 := Scalar.subi v2 c1_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off139 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1115 : BitVec 32 := 1#32
  let v1302 : BitVec 32 := Scalar.subi v2 c1_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off140 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1115 : BitVec 32 := 1#32
  let v1302 : BitVec 32 := Scalar.subi v2 c1_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
def k0_cond57 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let c1_i32_186 : BitVec 32 := 1#32
  let v284 : BitVec 32 := Scalar.addi v2 c1_i32_186
  let c3_i32_187 : BitVec 32 := 3#32
  let v285 : BitVec 1 := Scalar.cmpi .sle v284 c3_i32_187
  let v286 : BitVec 1 := Scalar.andi v4 v285
  let v287 : BitVec 32 := Scalar.extui v286
  let c0_i32_188 : BitVec 32 := 0#32
  let v288 : BitVec 1 := Scalar.cmpi .ne v287 c0_i32_188
  v288

def k0_off141 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1079 : BitVec 32 := 1#32
  let v1275 : BitVec 32 := Scalar.addi v2 c1_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off142 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1079 : BitVec 32 := 1#32
  let v1275 : BitVec 32 := Scalar.addi v2 c1_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off143 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1091 : BitVec 32 := 1#32
  let v1284 : BitVec 32 := Scalar.addi v2 c1_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off144 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1091 : BitVec 32 := 1#32
  let v1284 : BitVec 32 := Scalar.addi v2 c1_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off145 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1103 : BitVec 32 := 1#32
  let v1293 : BitVec 32 := Scalar.addi v2 c1_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off146 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1103 : BitVec 32 := 1#32
  let v1293 : BitVec 32 := Scalar.addi v2 c1_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off147 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1115 : BitVec 32 := 1#32
  let v1302 : BitVec 32 := Scalar.addi v2 c1_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off148 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1115 : BitVec 32 := 1#32
  let v1302 : BitVec 32 := Scalar.addi v2 c1_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
def k0_cond58 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 1 := Scalar.cmpi .slt v2 c3_i32
  let c2_i32_189 : BitVec 32 := 2#32
  let v289 : BitVec 32 := Scalar.subi v2 c2_i32_189
  let c0_i32_190 : BitVec 32 := 0#32
  let v290 : BitVec 1 := Scalar.cmpi .sge v289 c0_i32_190
  let v291 : BitVec 1 := Scalar.andi v3 v290
  let v292 : BitVec 32 := Scalar.extui v291
  let c0_i32_191 : BitVec 32 := 0#32
  let v293 : BitVec 1 := Scalar.cmpi .ne v292 c0_i32_191
  v293

def k0_off149 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1079 : BitVec 32 := 2#32
  let v1275 : BitVec 32 := Scalar.subi v2 c2_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off150 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1079 : BitVec 32 := 2#32
  let v1275 : BitVec 32 := Scalar.subi v2 c2_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off151 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1091 : BitVec 32 := 2#32
  let v1284 : BitVec 32 := Scalar.subi v2 c2_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off152 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1091 : BitVec 32 := 2#32
  let v1284 : BitVec 32 := Scalar.subi v2 c2_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off153 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1103 : BitVec 32 := 2#32
  let v1293 : BitVec 32 := Scalar.subi v2 c2_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off154 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1103 : BitVec 32 := 2#32
  let v1293 : BitVec 32 := Scalar.subi v2 c2_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off155 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1115 : BitVec 32 := 2#32
  let v1302 : BitVec 32 := Scalar.subi v2 c2_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off156 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1115 : BitVec 32 := 2#32
  let v1302 : BitVec 32 := Scalar.subi v2 c2_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
def k0_cond59 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let c2_i32_192 : BitVec 32 := 2#32
  let v294 : BitVec 32 := Scalar.addi v2 c2_i32_192
  let c3_i32_193 : BitVec 32 := 3#32
  let v295 : BitVec 1 := Scalar.cmpi .sle v294 c3_i32_193
  let v296 : BitVec 1 := Scalar.andi v4 v295
  let v297 : BitVec 32 := Scalar.extui v296
  let c0_i32_194 : BitVec 32 := 0#32
  let v298 : BitVec 1 := Scalar.cmpi .ne v297 c0_i32_194
  v298

def k0_off157 (d0 : Dev nD) : Fin 2 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1079 : BitVec 32 := 2#32
  let v1275 : BitVec 32 := Scalar.addi v2 c2_i32_1079
  let v1276 : BitVec 32 := Scalar.maxsi c0_i32_1080 v1275
  let v1277 : BitVec 32 := Scalar.minsi c3_i32_1081 v1276
  let c0_i32_1084 : BitVec 32 := 0#32
  ![v1277.toNat, 0]
def k0_off158 (d0 : Dev nD) : Fin 4 → Nat :=
  let c3_i32_1081 : BitVec 32 := 3#32
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1079 : BitVec 32 := 2#32
  let v1275 : BitVec 32 := Scalar.addi v2 c2_i32_1079
  let v1276 : BitVec 32 := Scalar.maxsi c0_i32_1080 v1275
  let v1277 : BitVec 32 := Scalar.minsi c3_i32_1081 v1276
  let c0_i32_1083 : BitVec 32 := 0#32
  let c0_i32_1087 : BitVec 32 := 0#32
  let c0_i32_1088 : BitVec 32 := 0#32
  ![v1277.toNat, 0, 0, 0]
def k0_off159 (d0 : Dev nD) : Fin 2 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1091 : BitVec 32 := 2#32
  let v1284 : BitVec 32 := Scalar.addi v2 c2_i32_1091
  let v1285 : BitVec 32 := Scalar.maxsi c0_i32_1092 v1284
  let v1286 : BitVec 32 := Scalar.minsi c3_i32_1093 v1285
  let c1_i32_1096 : BitVec 32 := 1#32
  ![v1286.toNat, 1]
def k0_off160 (d0 : Dev nD) : Fin 4 → Nat :=
  let c3_i32_1093 : BitVec 32 := 3#32
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1091 : BitVec 32 := 2#32
  let v1284 : BitVec 32 := Scalar.addi v2 c2_i32_1091
  let v1285 : BitVec 32 := Scalar.maxsi c0_i32_1092 v1284
  let v1286 : BitVec 32 := Scalar.minsi c3_i32_1093 v1285
  let c1_i32_1095 : BitVec 32 := 1#32
  let c0_i32_1099 : BitVec 32 := 0#32
  let c0_i32_1100 : BitVec 32 := 0#32
  ![v1286.toNat, 1, 0, 0]
def k0_off161 (d0 : Dev nD) : Fin 2 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1103 : BitVec 32 := 2#32
  let v1293 : BitVec 32 := Scalar.addi v2 c2_i32_1103
  let v1294 : BitVec 32 := Scalar.maxsi c0_i32_1104 v1293
  let v1295 : BitVec 32 := Scalar.minsi c3_i32_1105 v1294
  let c2_i32_1108 : BitVec 32 := 2#32
  ![v1295.toNat, 2]
def k0_off162 (d0 : Dev nD) : Fin 4 → Nat :=
  let c3_i32_1105 : BitVec 32 := 3#32
  let c0_i32_1104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1103 : BitVec 32 := 2#32
  let v1293 : BitVec 32 := Scalar.addi v2 c2_i32_1103
  let v1294 : BitVec 32 := Scalar.maxsi c0_i32_1104 v1293
  let v1295 : BitVec 32 := Scalar.minsi c3_i32_1105 v1294
  let c2_i32_1107 : BitVec 32 := 2#32
  let c0_i32_1111 : BitVec 32 := 0#32
  let c0_i32_1112 : BitVec 32 := 0#32
  ![v1295.toNat, 2, 0, 0]
def k0_off163 (d0 : Dev nD) : Fin 2 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1115 : BitVec 32 := 2#32
  let v1302 : BitVec 32 := Scalar.addi v2 c2_i32_1115
  let v1303 : BitVec 32 := Scalar.maxsi c0_i32_1116 v1302
  let v1304 : BitVec 32 := Scalar.minsi c3_i32_1117 v1303
  let c3_i32_1120 : BitVec 32 := 3#32
  ![v1304.toNat, 3]
def k0_off164 (d0 : Dev nD) : Fin 4 → Nat :=
  let c3_i32_1117 : BitVec 32 := 3#32
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1115 : BitVec 32 := 2#32
  let v1302 : BitVec 32 := Scalar.addi v2 c2_i32_1115
  let v1303 : BitVec 32 := Scalar.maxsi c0_i32_1116 v1302
  let v1304 : BitVec 32 := Scalar.minsi c3_i32_1117 v1303
  let c3_i32_1119 : BitVec 32 := 3#32
  let c0_i32_1123 : BitVec 32 := 0#32
  let c0_i32_1124 : BitVec 32 := 0#32
  ![v1304.toNat, 3, 0, 0]
abbrev stage0_0 : Fin 1 → Memref sig .tc .vmem S2x512x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x8x64, .bf16⟩
  | .hbm, ⟨1, _⟩ => ⟨S2x2048x8x64, .bf16⟩
  | .hbm, ⟨2, _⟩ => ⟨S2x2048x8x64, .bf16⟩
  | .hbm, ⟨3, _⟩ => ⟨S2x8x2048x2048, .f32⟩
  | .hbm, ⟨4, _⟩ => ⟨S2x8x2048x2048, .bf16⟩
  | .hbm, ⟨5, _⟩ => ⟨S_, .bf16⟩
  | .hbm, ⟨6, _⟩ => ⟨S2x8x2048x2048, .bf16⟩
  | .hbm, ⟨7, _⟩ => ⟨S2x8x2048x2048, .bf16⟩
  | .hbm, ⟨8, _⟩ => ⟨S_, .bf16⟩
  | .hbm, ⟨9, _⟩ => ⟨S2x8x2048, .bf16⟩
  | .hbm, ⟨10, _⟩ => ⟨S2x8x2048x1, .bf16⟩
  | .hbm, ⟨11, _⟩ => ⟨S2x8x2048x2048, .bf16⟩
  | .hbm, ⟨12, _⟩ => ⟨S2x8x2048x2048, .bf16⟩
  | .hbm, ⟨13, _⟩ => ⟨S2x8x2048x2048, .bf16⟩
  | .hbm, ⟨14, _⟩ => ⟨S2x8x2048x2048, .f32⟩
  | .hbm, ⟨15, _⟩ => ⟨S_, .f32⟩
  | .hbm, ⟨16, _⟩ => ⟨S2x8x2048, .f32⟩
  | .hbm, ⟨17, _⟩ => ⟨S2x8x2048x1, .f32⟩
  | .hbm, ⟨18, _⟩ => ⟨S2x8x2048x1, .bf16⟩
  | .hbm, ⟨19, _⟩ => ⟨S2x8x2048x2048, .bf16⟩
  | .hbm, ⟨20, _⟩ => ⟨S2x8x2048x2048, .bf16⟩
  | .hbm, ⟨21, _⟩ => ⟨S2x8x64x2048, .f32⟩
  | .hbm, ⟨22, _⟩ => ⟨S2x2048x8x64, .f32⟩
  | .hbm, ⟨23, _⟩ => ⟨S2x2048x8x64, .bf16⟩
  | .hbm, ⟨24, _⟩ => ⟨S2x2048x8x64, .f32⟩
  | _, _ => ⟨S2x2048x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.IdealPlan.lean ====
/-
# The plan of the kernel's transfers

Every device `y` of the line owns one chunk of keys and values, in four pieces (keys and values of each of
the two batches). A piece travels right over the devices after its owner and left over the devices before
it, one device at a time. This module names the pieces, says who sends and who receives which, and gives
the schedule of the semaphores: what each unit of each semaphore hands over.
-/
module

public import proofs.«01_k».proof.Proof.Gen.KernelIdeal.Frame
public import proofs.«01_k».proof.Proof.Gen.KernelIdeal.Skeleton
public import Idealize.ShloMosaic.Lib.Rounds
public import Idealize.ShloMosaic.Lib.Pipeline.Launch
public import Idealize.ShloMosaic.Lib.Pipeline.Kit
public import Idealize.ShloMosaic.Lib.Tactic
public import Idealize.ShloMosaic.Lib.Quiescent

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's copy of the rounds algebra: a cell's duties are named by `Bool`. -/
abbrev UB : Type := URounds (GSem nD τ sig) Bool
/-- The pipeline's copy beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces, neighbours, who sends and who receives -/

/-- A slot of the gather buffer: chunk, piece. -/
abbrev Slot : Type := Fin 4 × Fin 4
/-- A transfer's name: direction (`0` right, `1` left) and slot. -/
abbrev Key : Type := Fin 2 × Slot

set_option backward.proofsInPublic true in
/-- The neighbour in a direction, around the ring (the ring's closing edge is never used). -/
def nb (d : Fin 2) (c : Dev nD) : Dev nD :=
  if d = 0 then ⟨(c.val + 1) % 4, Nat.mod_lt _ (by decide)⟩ else ⟨(c.val + 3) % 4, Nat.mod_lt _ (by decide)⟩

theorem nb_nb (d : Fin 2) (c : Dev nD) : nb (1 - d) (nb d c) = c := by revert d c; decide
theorem nb_nb' (d : Fin 2) (c : Dev nD) : nb d (nb (1 - d) c) = c := by revert d c; decide

/-- Device `c` sends the key: its own chunk and those it received from the other side, unless it is the last. -/
def sends (c : Dev nD) (k : Key) : Bool :=
  if k.1 = 0 then decide (k.2.1.val ≤ c.val) && decide (c.val < 3) else decide (c.val ≤ k.2.1.val) && decide (0 < c.val)
/-- Device `c` receives the key: a chunk of a device on the side it comes from. -/
def recvs (c : Dev nD) (k : Key) : Bool :=
  if k.1 = 0 then decide (k.2.1.val < c.val) else decide (c.val < k.2.1.val)
/-- Device `c` holds the key's slot once it has it: the slot belongs to this direction. -/
def holds (c : Dev nD) (k : Key) : Bool :=
  if k.1 = 0 then decide (k.2.1.val ≤ c.val) else decide (c.val ≤ k.2.1.val)

theorem recvs_nb (c : Dev nD) (k : Key) (h : sends c k = true) : recvs (nb k.1 c) k = true := by revert c k; decide +kernel
theorem sends_of_recvs (c : Dev nD) (k : Key) (h : recvs (nb k.1 c) k = true) : sends c k = true := by revert c k; decide +kernel
theorem holds_of_sends (c : Dev nD) (k : Key) (h : sends c k = true) : holds c k = true := by revert c k; decide +kernel
theorem holds_of_recvs (c : Dev nD) (k : Key) (h : recvs c k = true) : holds c k = true := by revert c k; decide +kernel

/-! ## The semaphores -/

def sIdx (k : Key) : ℕ := 4 + 32 * k.1.val + 4 * k.2.1.val + k.2.2.val
def rIdx (k : Key) : ℕ := 20 + 32 * k.1.val + 4 * k.2.1.val + k.2.2.val
theorem sIdx_lt (k : Key) : sIdx k < 68 := by unfold sIdx; omega
theorem rIdx_lt (k : Key) : rIdx k < 68 := by unfold rIdx; omega

/-- The send and receive semaphores of a key; the runtime's barrier semaphore. -/
def sendS (k : Key) : DmaSem sig := ⟨sIdx k, sIdx_lt k⟩
def recvS (k : Key) : DmaSem sig := ⟨rIdx k, rIdx_lt k⟩
abbrev barS : Sem sig := (SemArray.scalar (sig.barrier 0 rfl) : Sems sig S_).sem

abbrev barCell (c : Dev nD) : GSem nD τ sig := ((c : Thread nD τ), .reg barS)
abbrev sendCell (c : Dev nD) (k : Key) : GSem nD τ sig := ((c : Thread nD τ), .dma (sendS k))
abbrev recvCell (c : Dev nD) (k : Key) : GSem nD τ sig := ((c : Thread nD τ), .dma (recvS k))

/-- The key a DMA semaphore belongs to, and whether it is a receive semaphore. -/
def keyAt (i : ℕ) : Key :=
  (⟨(i - 4) / 32 % 2, Nat.mod_lt _ (by decide)⟩, ⟨(i - 4) % 16 / 4 % 4, Nat.mod_lt _ (by decide)⟩, ⟨(i - 4) % 4, Nat.mod_lt _ (by decide)⟩)
def isR (i : ℕ) : Bool := decide ((i - 4) % 32 / 16 = 1)

theorem keyAt_s (k : Key) : keyAt (sIdx k) = k := by revert k; decide +kernel
theorem keyAt_r (k : Key) : keyAt (rIdx k) = k := by revert k; decide +kernel
theorem isR_s (k : Key) : isR (sIdx k) = false := by revert k; decide +kernel
theorem isR_r (k : Key) : isR (rIdx k) = true := by revert k; decide +kernel

/-! ## The slots and their contents -/

theorem slot_inb (s : Slot) : ∀ i, (![s.1.val, s.2.val, 0, 0] : Fin 4 → ℕ) i + S1x1x512x512.size i ≤ S4x4x512x512.size i := by
  revert s; decide +kernel

/-- The slot's memref, as the kernel slices it for a transfer. -/
abbrev slotM (s : Slot) : Memref sig .tc .vmem S512x512 .bf16 :=
  ((Memref.whole cc0_scratch0).slice (Rect.unit (s := S4x4x512x512) ![s.1.val, s.2.val, 0, 0] S1x1x512x512.size (slot_inb s)) (fun _ => rfl)).squeeze
    S512x512 squeezes_S1x1x512x512_S512x512

/-- A transfer's credit. -/
abbrev N : ℕ := (slotM (0, 0)).view.dmaCredit
theorem N_pos : 0 < N := View.dmaCredit_pos _ (by decide)
theorem credit_slot (s : Slot) : (slotM s).view.dmaCredit = N := rfl

/-- A share of a slot on a device, at contents `f` of the gather buffer. -/
def slotPts (c : Dev nD) (s : Slot) (q : PosShare TreeShare) (f : Buf (Elt F) ((slotM s).view.loc (c : Thread nD τ))) : sProp 𝕄 :=
  (slotM s).view.loc (c : Thread nD τ) ↦[(slotM s).view.set]{q} f

omit [FloatOps F] in
instance slotPts_storable (c : Dev nD) (s : Slot) (q) (f) : BI.Storable (upEmb : UEmb _ 𝕄) (slotPts (F := F) c s q f) := by
  unfold slotPts; infer_instance

/-- The share of a slot that belongs to a key: an own chunk is halved over the two directions, another's is whole. -/
def shr (c : Dev nD) (k : Key) : PosShare TreeShare :=
  if k.2.1.val = c.val then (if k.1 = 0 then fullShare.left else fullShare.right) else fullShare

/-- What a transfer lands: the slot it was read from. -/
theorem landed (s : Slot) (f g : (cc0_scratch0 : Ref sig .tc).ty.Contents (Elt F)) :
    ∀ i ∈ (slotM s).view.set, (slotM s).view.write (Elt F) g ((slotM s).view.read (Elt F) f) Finset.univ i = f i := by
  intro i hi
  rw [View.write_read_eq_piecewise]
  exact Finset.piecewise_eq_of_mem _ _ _ hi

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged blocks of queries, keys and values on device `c`. -/
def qStg (c : Dev nD) : (cc0_stg0_0 : Ref sig .tc).ty.Contents (Elt F) :=
  (win0_0.blk (0 : Fin 1)).view.read (Elt F) ((s₀ m ρ).mem ((c : Thread nD τ).loc main_arg0))
def kStg (c : Dev nD) : (cc0_stg1_0 : Ref sig .tc).ty.Contents (Elt F) :=
  (win0_1.blk (0 : Fin 1)).view.read (Elt F) ((s₀ m ρ).mem ((c : Thread nD τ).loc main_arg1))
def vStg (c : Dev nD) : (cc0_stg2_0 : Ref sig .tc).ty.Contents (Elt F) :=
  (win0_2.blk (0 : Fin 1)).view.read (Elt F) ((s₀ m ρ).mem ((c : Thread nD τ).loc main_arg2))

/-- The rectangle of one batch of a staged block. -/
abbrev batchK (f : (cc0_stg1_0 : Ref sig .tc).ty.Contents (Elt F)) (b : Fin 2) : Vec F S1x512x8x64 .bf16 :=
  match b with
  | 0 => (Memref.whole cc0_stg1_0).view.readAt (Elt F) (Rect.unit (s := S2x512x8x64) ![0, 0, 0, 0] S1x512x8x64.size inb_S2x512x8x64_S1x512x8x64_0_0_0_0).toLoadRect f
  | 1 => (Memref.whole cc0_stg1_0).view.readAt (Elt F) (Rect.unit (s := S2x512x8x64) ![1, 0, 0, 0] S1x512x8x64.size inb_S2x512x8x64_S1x512x8x64_1_0_0_0).toLoadRect f
abbrev batchV (f : (cc0_stg2_0 : Ref sig .tc).ty.Contents (Elt F)) (b : Fin 2) : Vec F S1x512x8x64 .bf16 :=
  match b with
  | 0 => (Memref.whole cc0_stg2_0).view.readAt (Elt F) (Rect.unit (s := S2x512x8x64) ![0, 0, 0, 0] S1x512x8x64.size inb_S2x512x8x64_S1x512x8x64_0_0_0_0).toLoadRect f
  | 1 => (Memref.whole cc0_stg2_0).view.readAt (Elt F) (Rect.unit (s := S2x512x8x64) ![1, 0, 0, 0] S1x512x8x64.size inb_S2x512x8x64_S1x512x8x64_1_0_0_0).toLoadRect f

/-- What device `c` stores into the slot of its own chunk's piece. -/
def piece (c : Dev nD) (p : Fin 4) : Vec F S1x1x512x512 .bf16 :=
  match p with
  | 0 => k0_pay2 (batchK (kStg m ρ c) 0)
  | 1 => k0_pay4 (k0_pay3 (batchK (kStg m ρ c) 1))
  | 2 => k0_pay5 (batchV (vStg m ρ c) 0)
  | 3 => k0_pay6 (batchV (vStg m ρ c) 1)

/-- The gathered keys and values: every chunk's pieces in their slots. The same on every device. -/
def KV : (cc0_scratch0 : Ref sig .tc).ty.Contents (Elt F) := fun (i : S4x4x512x512.Idx) =>
  piece m ρ (⟨(i 0).val, (i 0).isLt⟩ : Dev nD) (⟨(i 1).val, (i 1).isLt⟩ : Fin 4)
    (fun a => match a with
      | ⟨0, _⟩ => ⟨0, Nat.one_pos⟩ | ⟨1, _⟩ => ⟨0, Nat.one_pos⟩ | ⟨2, _⟩ => ⟨(i 2).val, (i 2).isLt⟩ | ⟨3, _⟩ => ⟨(i 3).val, (i 3).isLt⟩)

/-! ## The schedule -/

/-- What a barrier unit hands device `c` from its neighbour in direction `d`: the slots there that `c` will send to. -/
def barPay (d : Fin 2) (c : Dev nD) : sProp 𝕄 :=
  bigSep Finset.univ fun s : Slot => if sends c (d, s) then iprop(∃ f, slotPts (F := F) (nb d c) s fullShare f) else iprop(emp)
def recvPay (c : Dev nD) (k : Key) : sProp 𝕄 := slotPts c k.2 fullShare (KV m ρ)
def sendPay (c : Dev nD) (k : Key) : sProp 𝕄 := slotPts c k.2 (shr c k) (KV m ρ)

omit [FloatOps F] in
instance barPay_storable (d : Fin 2) (c : Dev nD) : BI.Storable (upEmb : UEmb _ 𝕄) (barPay (F := F) d c) := by
  unfold barPay
  have : ∀ s : Slot, BI.Storable (upEmb : UEmb _ 𝕄) (if sends c (d, s) then iprop(∃ f, slotPts (F := F) (nb d c) s fullShare f) else iprop(emp)) := by
    intro s; split <;> infer_instance
  infer_instance
instance recvPay_storable (c : Dev nD) (k : Key) : BI.Storable (upEmb : UEmb _ 𝕄) (recvPay m ρ c k) := by unfold recvPay; infer_instance
instance sendPay_storable (c : Dev nD) (k : Key) : BI.Storable (upEmb : UEmb _ 𝕄) (sendPay m ρ c k) := by unfold sendPay; infer_instance

/-- The barrier units a device gets: `false` from the left neighbour, `true` from the right one, where there is one. -/
def barDuties (c : Dev nD) : Finset Bool := Finset.univ.filter fun d => if d then c.val < 3 else 0 < c.val

/-- Whether device `c` uses the DMA semaphore. -/
def used (c : Dev nD) (i : ℕ) : Bool := decide (4 ≤ i) && (if isR i then recvs c (keyAt i) else sends c (keyAt i))
theorem used_s (c : Dev nD) (k : Key) : used c (sIdx k) = sends c k := by
  have h : 4 ≤ sIdx k := by unfold sIdx; omega
  unfold used; rw [isR_s, keyAt_s, decide_eq_true h]; rfl
theorem used_r (c : Dev nD) (k : Key) : used c (rIdx k) = recvs c k := by
  have h : 4 ≤ rIdx k := by unfold rIdx; omega
  unfold used; rw [isR_r, keyAt_r, decide_eq_true h]; rfl

def dutiesAt (c : Dev nD) : SemLoc sig → Finset Bool
  | .reg _ => barDuties c
  | .dma i => if used c i.val = true then {false} else ∅

/-- One round. A barrier cell has one unit from each neighbour; a DMA cell that is used has the block's credit. -/
def Rd : Rounds.Schedule (GSem nD τ sig) Bool 𝕄 where
  duties g r := if r = 0 ∧ g.1.2 = .tc then dutiesAt g.1.1 g.2 else ∅
  unitless _ := False
  amount g _ _ := match g.2 with
    | .reg _ => 1
    | .dma _ => N
  payload g _ d := match g.2 with
    | .reg _ => if d then barPay 0 g.1.1 else barPay 1 g.1.1
    | .dma i => if isR i.val then recvPay m ρ g.1.1 (keyAt i.val) else sendPay m ρ g.1.1 (keyAt i.val)
  amount_pos g _ _ _ := by
    obtain ⟨_, l⟩ := g
    cases l
    · exact Nat.one_pos
    · exact N_pos

instance Rd_payload_storable (g : GSem nD τ sig) (r : ℕ) (d : Bool) :
    BI.Storable (upEmb : UEmb _ 𝕄) ((Rd (F := F) m ρ).payload g r d) := by
  obtain ⟨t, l⟩ := g
  cases l
  · show BI.Storable upEmb (if d then barPay 0 t.1 else barPay 1 t.1)
    split <;> infer_instance
  · rename_i i
    show BI.Storable upEmb (if isR i.val then recvPay m ρ t.1 (keyAt i.val) else sendPay m ρ t.1 (keyAt i.val))
    split <;> infer_instance

section Sched
variable (c : Dev nD) (k : Key)

theorem duties_bar : (Rd (F := F) m ρ).duties (barCell c) 0 = barDuties c := by dsimp only [Rd]; exact if_pos ⟨rfl, rfl⟩
theorem duties_dma (i : DmaSem sig) :
    (Rd (F := F) m ρ).duties ((c : Thread nD τ), .dma i) 0 = if used c i.val = true then {false} else ∅ := by dsimp only [Rd]; exact if_pos ⟨rfl, rfl⟩
theorem duties_send (h : sends c k = true) : (Rd (F := F) m ρ).duties (sendCell c k) 0 = {false} := by
  rw [duties_dma, show (sendS k).val = sIdx k from rfl, used_s, if_pos h]
theorem duties_recv (h : recvs c k = true) : (Rd (F := F) m ρ).duties (recvCell c k) 0 = {false} := by
  rw [duties_dma, show (recvS k).val = rIdx k from rfl, used_r, if_pos h]
theorem duties_send_none (h : sends c k = false) : (Rd (F := F) m ρ).duties (sendCell c k) 0 = ∅ := by
  rw [duties_dma, show (sendS k).val = sIdx k from rfl, used_s, h]; rfl
theorem duties_recv_none (h : recvs c k = false) : (Rd (F := F) m ρ).duties (recvCell c k) 0 = ∅ := by
  rw [duties_dma, show (recvS k).val = rIdx k from rfl, used_r, h]; rfl
theorem duties_later (g : GSem nD τ sig) : ∀ r, 1 ≤ r → (Rd (F := F) m ρ).duties g r = ∅ :=
  fun r hr => if_neg fun h => by omega
theorem duties_send_all (h : sends c k = false) : ∀ r, 0 ≤ r → (Rd (F := F) m ρ).duties (sendCell c k) r = ∅ := fun r _ => by
  rcases Nat.eq_zero_or_pos r with rfl | hr
  · exact duties_send_none m ρ c k h
  · exact duties_later m ρ _ r hr
theorem duties_recv_all (h : recvs c k = false) : ∀ r, 0 ≤ r → (Rd (F := F) m ρ).duties (recvCell c k) r = ∅ := fun r _ => by
  rcases Nat.eq_zero_or_pos r with rfl | hr
  · exact duties_recv_none m ρ c k h
  · exact duties_later m ρ _ r hr

theorem amount_bar (d : Bool) : (Rd (F := F) m ρ).amount (barCell c) 0 d = 1 := rfl
theorem amount_send (d : Bool) : (Rd (F := F) m ρ).amount (sendCell c k) 0 d = N := rfl
theorem amount_recv (d : Bool) : (Rd (F := F) m ρ).amount (recvCell c k) 0 d = N := rfl

theorem expect_bar : (Rd (F := F) m ρ).expect (barCell c) 0 = (barDuties c).card := by
  unfold Schedule.expect Schedule.amountOf
  rw [duties_bar, Finset.sum_congr rfl fun d _ => amount_bar m ρ c d, Finset.sum_const, smul_eq_mul, Nat.mul_one]
theorem expect_send (h : sends c k = true) : (Rd (F := F) m ρ).expect (sendCell c k) 0 = N := by
  unfold Schedule.expect Schedule.amountOf; rw [duties_send m ρ c k h, Finset.sum_singleton, amount_send]
theorem expect_recv (h : recvs c k = true) : (Rd (F := F) m ρ).expect (recvCell c k) 0 = N := by
  unfold Schedule.expect Schedule.amountOf; rw [duties_recv m ρ c k h, Finset.sum_singleton, amount_recv]

theorem payload_bar_true : (Rd (F := F) m ρ).payload (barCell c) 0 true = barPay 0 c := rfl
theorem payload_bar_false : (Rd (F := F) m ρ).payload (barCell c) 0 false = barPay 1 c := rfl
theorem payload_send (d : Bool) : (Rd (F := F) m ρ).payload (sendCell c k) 0 d = sendPay m ρ c k := by
  show (if isR (sIdx k) then recvPay m ρ c (keyAt (sIdx k)) else sendPay m ρ c (keyAt (sIdx k))) = _
  rw [isR_s, keyAt_s]; rfl
theorem payload_recv (d : Bool) : (Rd (F := F) m ρ).payload (recvCell c k) 0 d = recvPay m ρ c k := by
  show (if isR (rIdx k) then recvPay m ρ c (keyAt (rIdx k)) else sendPay m ρ c (keyAt (rIdx k))) = _
  rw [isR_r, keyAt_r]; rfl

theorem rest_send (h : sends c k = true) :
    bigSep ((Rd (F := F) m ρ).duties (sendCell c k) 0 \ ∅) (fun d => (Rd (F := F) m ρ).payload (sendCell c k) 0 d) = sendPay m ρ c k := by
  rw [Finset.sdiff_empty, duties_send m ρ c k h, bigSep_singleton, payload_send]
theorem rest_recv (h : recvs c k = true) :
    bigSep ((Rd (F := F) m ρ).duties (recvCell c k) 0 \ ∅) (fun d => (Rd (F := F) m ρ).payload (recvCell c k) 0 d) = recvPay m ρ c k := by
  rw [Finset.sdiff_empty, duties_recv m ρ c k h, bigSep_singleton, payload_recv]

end Sched

end Cert.KernelIdeal.Att

end
-- ==== Proof.IdealOrder.lean ====
/-
# The order of the transfers

Levels of the semaphores, what a device still owes, and the program order of the sends and waits: which
operation comes when, on which piece, and which device performs it.
-/
module

public import proofs.«01_k».proof.Proof.IdealPlan

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- How far a received chunk has travelled when it reaches device `c`. -/
def dist (c : Dev nD) (k : Key) : ℕ := if k.1 = 0 then c.val - k.2.1.val else k.2.1.val - c.val

/-- Staging and send semaphores lowest, then the barrier, then the receives by distance travelled and piece. -/
def lv (g : GSem nD τ sig) (_ : Unit) : ℕ := match g.2 with
  | .reg _ => 1
  | .dma i => if 4 ≤ i.val ∧ isR i.val = true then 2 + 4 * dist g.1.1 (keyAt i.val) + (keyAt i.val).2.2.val else 0

theorem lv_bar (c : Dev nD) : lv (barCell c) () = 1 := rfl
theorem lv_recv (c : Dev nD) (k : Key) : lv (recvCell c k) () = 2 + 4 * dist c k + k.2.2.val := by
  show (if 4 ≤ rIdx k ∧ isR (rIdx k) = true then 2 + 4 * dist c (keyAt (rIdx k)) + (keyAt (rIdx k)).2.2.val else 0) = _
  rw [keyAt_r, isR_r, if_pos ⟨by unfold rIdx; omega, rfl⟩]
theorem lv_send (c : Dev nD) (k : Key) : lv (sendCell c k) () = 0 := by
  show (if 4 ≤ sIdx k ∧ isR (sIdx k) = true then _ else 0) = _
  rw [if_neg]; rintro ⟨-, h⟩; rw [isR_s] at h; cases h

/-- What device `c` still owes when it has yet to send the keys `u` marks. -/
def Osum (c : Dev nD) (u : Key → Bool) : CellTallies nD τ sig Unit :=
  ∑ k : Key, if u k then tallyAt (recvCell (nb k.1 c) k) () N else 0

theorem Osum_pos {c : Dev nD} {u : Key → Bool} {g : GSem nD τ sig} {i : Unit} (h : 0 < Osum c u g i) :
    ∃ k, u k = true ∧ g = recvCell (nb k.1 c) k := by
  unfold Osum at h
  rw [Finset.sum_apply, Finsupp.finset_sum_apply] at h
  obtain ⟨k, -, hk⟩ := Finset.exists_ne_zero_of_sum_ne_zero (Nat.pos_iff_ne_zero.mp h)
  refine ⟨k, ?_⟩
  by_cases hu : u k = true
  · rw [if_pos hu, tallyAt_apply] at hk
    by_cases hg : g = recvCell (nb k.1 c) k
    · exact ⟨hu, hg⟩
    · rw [if_neg (fun h => hg h.1)] at hk; exact absurd rfl hk
  · rw [if_neg hu] at hk; exact absurd rfl hk

/-- Sending a key settles its part of the debt. -/
theorem Osum_send (c : Dev nD) (u v : Key → Bool) (k : Key) (hu : u k = true) (hv : v k = false) (h : ∀ j, j ≠ k → v j = u j) :
    Osum c u = Osum c v + tallyAt (recvCell (nb k.1 c) k) () N := by
  unfold Osum
  rw [← Finset.sum_erase_add Finset.univ _ (Finset.mem_univ k), if_pos hu, ← Finset.sum_erase_add Finset.univ (fun j : Key => if v j = true then _ else _) (Finset.mem_univ k), hv]
  rw [if_neg Bool.false_ne_true, add_zero]
  congr 1
  exact Finset.sum_congr rfl fun j hj => by rw [h j (Finset.ne_of_mem_erase hj)]

omit [FloatOps F] in
/-- A wait below every receive the device has yet to feed. -/
theorem mayWait_of (c : Dev nD) (sm : SemLoc sig) (u : Key → Bool) (l : ℕ) (hl : lv ((c : Thread nD τ), sm) () ≤ l)
    (h : ∀ k, u k = true → l < lv (recvCell (nb k.1 c) k) ()) :
    (levAts L lv : sProp 𝕄) ⊢ MayWait (c : Thread nD τ) sm () (Osum c u) :=
  MayOwe.of_cut (L := L) (lev := lv) l (fun p hp => by rw [Finset.mem_singleton.mp hp, L_tc]; exact Finset.mem_singleton_self _)
    (fun g i hg => by obtain ⟨k, -, rfl⟩ := Osum_pos hg; rw [L_tc]; exact Finset.mem_singleton_self _)
    (fun p hp => by rw [Finset.mem_singleton.mp hp]; exact hl)
    (fun g i hg => by obtain ⟨k, hk, rfl⟩ := Osum_pos hg; exact h k hk)

/-! ## The order of the transfers -/

/-- An operation: kind (`0` wait for a receive, `1` send, `2` wait for a send), direction, how far the chunk's owner is, piece. -/
abbrev Op : Type := Fin 3 × Fin 2 × Fin 4 × Fin 4

def opKey (c : Dev nD) (o : Op) : Key :=
  (o.2.1, if o.2.1 = 0 then ⟨(c.val + 4 - o.2.2.1.val) % 4, Nat.mod_lt _ (by decide)⟩ else ⟨(c.val + o.2.2.1.val) % 4, Nat.mod_lt _ (by decide)⟩, o.2.2.2)
/-- Whether device `c` performs the operation. -/
def opValid (c : Dev nD) (o : Op) : Bool :=
  (if o.2.1 = 0 then decide (o.2.2.1.val ≤ c.val) else decide (c.val + o.2.2.1.val ≤ 3))
    && (decide (o.1 = 0) || (if o.2.1 = 0 then decide (c.val < 3) else decide (0 < c.val)))

/-- When the operations on a key come, counted in program order. -/
def tR (c : Dev nD) (k : Key) : ℕ := 8 + 16 * (dist c k - 1) + 4 * k.2.2.val + 2 * k.1.val
def tS (c : Dev nD) (k : Key) : ℕ :=
  if dist c k = 0 then 4 * k.1.val + k.2.2.val else 8 + 16 * (dist c k - 1) + 4 * k.2.2.val + 2 * k.1.val + 1
def tW (c : Dev nD) (k : Key) : ℕ := 56 + 8 * dist c k + 4 * k.1.val + k.2.2.val

/-- Before operation `n`: whether the key has been received (or never will be); -/
def aS (n : ℕ) (c : Dev nD) (k : Key) : Bool := !recvs c k || decide (tR c k < n)
/-- whether it is unsent (`0`), in flight (`1`), or sent and waited for or never to be sent (`2`). -/
def bS (n : ℕ) (c : Dev nD) (k : Key) : Fin 3 := if sends c k then (if n ≤ tS c k then 0 else if n ≤ tW c k then 1 else 2) else 2

def unsent (n : ℕ) (c : Dev nD) (k : Key) : Bool := decide (bS n c k = 0)

/-- The operations in program order. -/
def opAt (n : ℕ) : Op :=
  if n < 8 then (1, ⟨n / 4 % 2, Nat.mod_lt _ (by decide)⟩, 0, ⟨n % 4, Nat.mod_lt _ (by decide)⟩)
  else if n < 56 then (⟨(n - 8) % 2, by omega⟩, ⟨(n - 8) / 2 % 2, Nat.mod_lt _ (by decide)⟩, ⟨((n - 8) / 16 + 1) % 4, Nat.mod_lt _ (by decide)⟩, ⟨(n - 8) / 4 % 4, Nat.mod_lt _ (by decide)⟩)
  else (2, ⟨(n - 56) / 4 % 2, Nat.mod_lt _ (by decide)⟩, ⟨(n - 56) / 8 % 4, Nat.mod_lt _ (by decide)⟩, ⟨(n - 56) % 4, Nat.mod_lt _ (by decide)⟩)

/-- Operation `n` touches its key only, and nothing where it is not performed. -/
def quiet (n : ℕ) (c : Dev nD) (k : Key) : Bool := decide (aS (n + 1) c k = aS n c k) && decide (bS (n + 1) c k = bS n c k)

theorem op_other : ∀ n : Fin 80, ∀ c : Dev nD, ∀ k : Key, (opValid c (opAt n.val) && decide (k = opKey c (opAt n.val))) || quiet n.val c k = true := by
  decide +kernel

/-- What operation `n` does to its key where it is performed. -/
def opFacts (n : ℕ) (c : Dev nD) : Bool :=
  let k := opKey c (opAt n)
  match (opAt n).1 with
  | 0 => recvs c k && decide (aS n c k = false) && aS (n + 1) c k && decide (bS (n + 1) c k = bS n c k) && decide (bS n c k ≠ 1)
  | 1 => sends c k && aS n c k && aS (n + 1) c k && decide (bS n c k = 0) && decide (bS (n + 1) c k = 1)
  | 2 => sends c k && aS n c k && aS (n + 1) c k && decide (bS n c k = 1) && decide (bS (n + 1) c k = 2)

theorem op_facts : ∀ n : Fin 80, ∀ c : Dev nD, (!opValid c (opAt n.val) || opFacts n.val c) = true := by decide +kernel

/-- At the wait for a receive, every key yet to be sent goes to a receive of a higher level. -/
theorem op_level : ∀ n : Fin 80, ∀ c : Dev nD, ∀ k : Key, (opAt n.val).1 = 0 → opValid c (opAt n.val) = true → unsent n.val c k = true →
    4 * dist c (opKey c (opAt n.val)) + (opKey c (opAt n.val)).2.2.val < 4 * dist (nb k.1 c) k + k.2.2.val := by decide +kernel

theorem end_a : ∀ c : Dev nD, ∀ k : Key, aS 80 c k = true := by decide +kernel
theorem end_b : ∀ c : Dev nD, ∀ k : Key, bS 80 c k = 2 := by decide +kernel

end Cert.KernelIdeal.Att

end
-- ==== Proof.IdealSteps.lean ====
/-
# One transfer operation at a time

A device's state between two operations, and for each kind of operation that it carries the state before
it to the state after it.
-/
module

public import proofs.«01_k».proof.Proof.IdealOrder

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and what everybody knows of them -/

/-- A device's cells: the barrier's, and of every key the send (`false`) and the receive (`true`) semaphore's. -/
abbrev J : Type := Option (Bool × Key)
abbrev csem : J → SemLoc sig
  | none => .reg barS
  | some (false, k) => .dma (sendS k)
  | some (true, k) => .dma (recvS k)
abbrev kcell (cj : Dev nD × J) : GSem nD τ sig := ((cj.1 : Thread nD τ), csem cj.2)

/-- The invariants of all cells, under the names `K` they were allocated at, and that every cell has reached its round. -/
def records (K : Dev nD × J → ℕ) : sProp 𝕄 :=
  iprop((bigSep Finset.univ fun cj : Dev nD × J => cellInv ER (Rd m ρ) (K cj) (kcell cj))
    ∗ bigSep Finset.univ fun cj : Dev nD × J => reached ER (kcell cj) 0)

instance records_persistent (K : Dev nD × J → ℕ) : BI.Persistent (records m ρ K) := by unfold records; infer_instance

theorem one_of (cj : Dev nD × J) (Φ : Dev nD × J → sProp 𝕄) : (bigSep Finset.univ Φ : sProp 𝕄) ⊢ Φ cj := bigSep_elim (Finset.mem_univ cj)
theorem inv_at (K : Dev nD × J → ℕ) (cj : Dev nD × J) : records m ρ K ⊢ cellInv ER (Rd m ρ) (K cj) (kcell cj) := by
  unfold records
  iintro ⟨H, -⟩
  iapply (one_of cj (fun cj : Dev nD × J => (cellInv ER (Rd m ρ) (K cj) (kcell cj) : sProp 𝕄)))
  iexact H
theorem reached_at (K : Dev nD × J → ℕ) (cj : Dev nD × J) : records m ρ K ⊢ reached ER (kcell cj) 0 := by
  unfold records
  iintro ⟨-, H⟩
  iapply (one_of cj (fun cj : Dev nD × J => (reached ER (kcell cj) 0 : sProp 𝕄)))
  iexact H

/-! ## A device's state between two operations -/

/-- The receive cell of a key: waited for and closed, or still with its credit. -/
def KRa (c : Dev nD) (a : Bool) (k : Key) : sProp 𝕄 :=
  if a then semVal (recvCell c k) 0 else iprop(cred (tallyAt (recvCell c k) () N) ∗ atPos ER (recvCell c k) 0 ∅ 0)
/-- The send cell of a key: before the send, with all the send needs; in flight; closed. -/
def KRb (c : Dev nD) (b : Fin 3) (k : Key) : sProp 𝕄 :=
  if b = 0 then iprop(atPos ER (sendCell c k) 0 ∅ 0 ∗ dutyTok ER (sendCell c k) 0 false ∗ dutyTok ER (recvCell (nb k.1 c) k) 0 false
      ∗ ∃ f, slotPts (F := F) (nb k.1 c) k.2 fullShare f)
  else if b = 1 then iprop(atPos ER (sendCell c k) 0 ∅ 0 ∗ cred (tallyAt (sendCell c k) () N))
  else semVal (sendCell c k) 0
/-- The key's slot, when the device holds it: received and not in flight. -/
def KRs (c : Dev nD) (a : Bool) (b : Fin 3) (k : Key) : sProp 𝕄 :=
  if (a && decide (b ≠ 1) && holds c k) = true then slotPts c k.2 (shr c k) (KV m ρ) else iprop(emp)
def KR (c : Dev nD) (a : Bool) (b : Fin 3) (k : Key) : sProp 𝕄 := iprop(KRa (F := F) c a k ∗ KRb (F := F) c b k ∗ KRs m ρ c a b k)

theorem KRa_true (c : Dev nD) (k : Key) : KRa (F := F) c true k = semVal (recvCell c k) 0 := if_pos rfl
theorem KRa_false (c : Dev nD) (k : Key) : KRa (F := F) c false k = iprop(cred (tallyAt (recvCell c k) () N) ∗ atPos ER (recvCell c k) 0 ∅ 0) :=
  if_neg Bool.false_ne_true
theorem KRb_0 (c : Dev nD) (k : Key) : KRb (F := F) c 0 k = iprop(atPos ER (sendCell c k) 0 ∅ 0 ∗ dutyTok ER (sendCell c k) 0 false
    ∗ dutyTok ER (recvCell (nb k.1 c) k) 0 false ∗ ∃ f, slotPts (F := F) (nb k.1 c) k.2 fullShare f) := if_pos rfl
theorem KRb_1 (c : Dev nD) (k : Key) : KRb (F := F) c 1 k = iprop(atPos ER (sendCell c k) 0 ∅ 0 ∗ cred (tallyAt (sendCell c k) () N)) := by
  unfold KRb; rw [if_neg (by decide), if_pos rfl]
theorem KRb_2 (c : Dev nD) (k : Key) : KRb (F := F) c 2 k = semVal (sendCell c k) 0 := by
  unfold KRb; rw [if_neg (by decide), if_neg (by decide)]
theorem KRs_on (c : Dev nD) (b : Fin 3) (k : Key) (hb : b ≠ 1) (h : holds c k = true) : KRs m ρ c true b k = slotPts c k.2 (shr c k) (KV m ρ) := by
  unfold KRs; rw [if_pos (by rw [h, decide_eq_true hb]; rfl)]
theorem KRs_off (c : Dev nD) (a : Bool) (b : Fin 3) (k : Key) (h : a = false ∨ b = 1 ∨ holds c k = false) : KRs m ρ c a b k = iprop(emp) := by
  unfold KRs; rw [if_neg]
  rcases h with rfl | rfl | h
  · rw [Bool.false_and, Bool.false_and]; exact Bool.false_ne_true
  · rw [decide_eq_false (fun h => h rfl), Bool.and_false, Bool.false_and]; exact Bool.false_ne_true
  · rw [h, Bool.and_false]; exact Bool.false_ne_true

/-- Device `c` before operation `n`. -/
def St (K : Dev nD × J → ℕ) (n : ℕ) (c : Dev nD) : sProp 𝕄 :=
  iprop(records m ρ K ∗ levAts L lv
    ∗ ∃ W, owes (c : Thread nD τ) (Osum c (unsent n c)) W ∗ bigSep Finset.univ fun k : Key => KR m ρ c (aS n c k) (bS n c k) k)

abbrev 𝒱₀ : Variants := Variants.none

section Steps
variable (K : Dev nD × J → ℕ) (n : Fin 80) (c : Dev nD)

/-- Off its key an operation changes nothing. -/
theorem off_key (k : Key) (h : k ≠ opKey c (opAt n.val)) :
    aS (n.val + 1) c k = aS n.val c k ∧ bS (n.val + 1) c k = bS n.val c k := by
  have := op_other n c k
  rw [decide_eq_false h, Bool.and_false, Bool.false_or] at this
  unfold quiet at this
  simp only [decide_eq_true_eq, Bool.and_eq_true] at this
  exact this

/-- An operation that is not performed changes nothing. -/
theorem skip (h : opValid c (opAt n.val) = false) : St m ρ K n.val c ⊢ St m ρ K (n.val + 1) c := by
  have e : ∀ k, aS (n.val + 1) c k = aS n.val c k ∧ bS (n.val + 1) c k = bS n.val c k := fun k => by
    have := op_other n c k
    rw [h, Bool.false_and, Bool.false_or] at this
    unfold quiet at this
    simp only [decide_eq_true_eq, Bool.and_eq_true] at this
    exact this
  have hu : unsent (n.val + 1) c = unsent n.val c := funext fun k => by unfold unsent; rw [(e k).2]
  unfold St
  rw [hu, bigSep_congr (s := Finset.univ) (fun (k : Key) _ => by rw [(e k).1, (e k).2] :
    ∀ k ∈ Finset.univ, KR m ρ c (aS (n.val + 1) c k) (bS (n.val + 1) c k) k = KR m ρ c (aS n.val c k) (bS n.val c k) k)]

theorem shr_recv (k : Key) (h : recvs c k = true) : shr c k = fullShare := by
  unfold shr; rw [if_neg]
  intro e; unfold recvs at h; rw [e] at h; simp at h

set_option maxHeartbeats 1000000 in
/-- A wait for a receive: the slot comes with the gathered contents. -/
theorem wait_recv (hk : (opAt n.val).1 = 0) (hv : opValid c (opAt n.val) = true) {sm : DmaSem sig} (hs : sm = recvS (opKey c (opAt n.val)))
    {src dst : Memref sig .tc .vmem S512x512 .bf16} {h1 : src.view.WordExact} {h2 : dst.view.WordExact} (hd : dst.view.dmaCredit = N) :
    St m ρ K n.val c ⊢ wp frame (wpE (defs₀ (F := F)) 𝒱₀ c none) Set.univ
      (Prog.lift (.waitDma2 sm src dst h1 h2) : Prog (TpuEff nD τ sig (Elt F) Λ₀ .tc) PUnit) (fun _ => St m ρ K (n.val + 1) c) := by
  have hf := op_facts n c
  have hl := fun k => op_level n c k hk hv
  have ho := off_key n c
  rw [hv] at hf
  unfold opFacts at hf
  rw [hk] at hf
  generalize hkey : opKey c (opAt n.val) = k at *
  simp only [Bool.not_true, Bool.false_or, Bool.and_eq_true, decide_eq_true_eq] at hf
  obtain ⟨⟨⟨⟨hr, ha⟩, ha'⟩, hb⟩, hb1⟩ := hf
  subst hs
  have hu : unsent (n.val + 1) c = unsent n.val c := funext fun j => by
    unfold unsent
    by_cases hj : j = k
    · subst hj; rw [hb]
    · rw [(ho j hj).2]
  unfold St
  rw [hu]
  iintro ⟨#HR, #HL, ⟨%W, HO, HB⟩⟩
  ihave HB' := (bigSep_univ_update (Φ := fun j : Key => KR m ρ c (aS n.val c j) (bS n.val c j) j)
    (Ψ := fun j : Key => KR m ρ c (aS (n.val + 1) c j) (bS (n.val + 1) c j) j) k (fun j hj => by rw [(ho j hj).1, (ho j hj).2])) $$ HB
  icases HB' with ⟨HK, Hback⟩
  ihave HK' := (Entails.of_eq (show KR m ρ c (aS n.val c k) (bS n.val c k) k
      = iprop((cred (tallyAt (recvCell c k) () N) ∗ atPos ER (recvCell c k) 0 ∅ 0) ∗ KRb (F := F) c (bS n.val c k) k ∗ emp) by
    unfold KR; rw [ha, KRa_false, KRs_off m ρ c _ _ k (.inl rfl)])) $$ HK
  icases HK' with ⟨⟨Hc, Hat⟩, HK2, -⟩
  simp only [Prog.lift]
  iapply (Rounds.wp_wait_rest_token 𝒱₀ ER (Rd m ρ) (c : Thread nD τ) none (κ := K (c, some (true, k)))
      (wpE_waitDma2_eq 𝒱₀ (c : Thread nD τ) none Set.univ) (Set.mem_univ _) () (O := Osum c (unsent n.val c)) (W := W) (R := 0) (m := 0) (T := ∅)
      (by rw [Nat.zero_add, hd]; exact (expect_recv m ρ c k hr).symm)) $$ [Hc HO Hat]
  · isplitr; · iapply (inv_at m ρ K (c, some (true, k))); iexact HR
    isplitl [Hc]; · rw [hd]; iexact Hc
    isplitl [HO]; · iexact HO
    isplitr
    · iapply (mayWait_of (F := F) c (.dma (recvS k)) (unsent n.val c) (lv (recvCell c k) ()) le_rfl (fun j hj => by
        rw [lv_recv, lv_recv]; have := hl j hj; omega))
      iexact HL
    iexact Hat
  iintro ⟨HO, Hat, -, Hpay⟩
  ihave Hp := (Entails.of_eq (rest_recv m ρ c k hr)) $$ Hpay
  rw [wp_ret]
  imod (Rounds.cell_close ER (Rd m ρ) (Set.mem_univ (K (c, some (true, k)))) (fun h => h) (R := 0 + 1) (duties_later m ρ (recvCell c k))) $$ [Hat] with Hz
  · isplitr; · iapply (inv_at m ρ K (c, some (true, k))); iexact HR
    iexact Hat
  imodintro
  isplitr; · iexact HR
  isplitr; · iexact HL
  iexists _
  isplitl [HO]; · iexact HO
  iapply Hback
  iapply (Entails.of_eq (show iprop(semVal (recvCell c k) 0 ∗ KRb (F := F) c (bS n.val c k) k ∗ recvPay m ρ c k)
      = KR m ρ c (aS (n.val + 1) c k) (bS (n.val + 1) c k) k by
    unfold KR recvPay; rw [ha', hb, KRa_true, KRs_on m ρ c _ k hb1 (holds_of_recvs c k hr), shr_recv c k hr]))
  isplitl [Hz]; · iexact Hz
  isplitl [HK2]; · iexact HK2
  iexact Hp

set_option maxHeartbeats 1000000 in
/-- A wait for a send: the share lent to it comes back. -/
theorem wait_send (hk : (opAt n.val).1 = 2) (hv : opValid c (opAt n.val) = true) {sm : DmaSem sig} (hs : sm = sendS (opKey c (opAt n.val)))
    {src dst : Memref sig .tc .vmem S512x512 .bf16} {h1 : src.view.WordExact} {h2 : dst.view.WordExact} (hd : dst.view.dmaCredit = N)
    (hz : ∀ k, unsent n.val c k = false) :
    St m ρ K n.val c ⊢ wp frame (wpE (defs₀ (F := F)) 𝒱₀ c none) Set.univ
      (Prog.lift (.waitDma2 sm src dst h1 h2) : Prog (TpuEff nD τ sig (Elt F) Λ₀ .tc) PUnit) (fun _ => St m ρ K (n.val + 1) c) := by
  have hf := op_facts n c
  have ho := off_key n c
  rw [hv] at hf
  unfold opFacts at hf
  rw [hk] at hf
  generalize hkey : opKey c (opAt n.val) = k at *
  simp only [Bool.not_true, Bool.false_or, Bool.and_eq_true, decide_eq_true_eq] at hf
  obtain ⟨⟨⟨⟨hr, ha⟩, ha'⟩, hb⟩, hb'⟩ := hf
  subst hs
  have hu : unsent (n.val + 1) c = unsent n.val c := funext fun j => by
    unfold unsent
    by_cases hj : j = k
    · subst hj; rw [hb, hb']; rfl
    · rw [(ho j hj).2]
  unfold St
  rw [hu]
  iintro ⟨#HR, #HL, ⟨%W, HO, HB⟩⟩
  ihave HB' := (bigSep_univ_update (Φ := fun j : Key => KR m ρ c (aS n.val c j) (bS n.val c j) j)
    (Ψ := fun j : Key => KR m ρ c (aS (n.val + 1) c j) (bS (n.val + 1) c j) j) k (fun j hj => by rw [(ho j hj).1, (ho j hj).2])) $$ HB
  icases HB' with ⟨HK, Hback⟩
  ihave HK' := (Entails.of_eq (show KR m ρ c (aS n.val c k) (bS n.val c k) k
      = iprop(KRa (F := F) c true k ∗ (atPos ER (sendCell c k) 0 ∅ 0 ∗ cred (tallyAt (sendCell c k) () N)) ∗ emp) by
    unfold KR; rw [ha, hb, KRb_1, KRs_off m ρ c _ _ k (.inr (.inl rfl))])) $$ HK
  icases HK' with ⟨HK1, ⟨Hat, Hc⟩, -⟩
  simp only [Prog.lift]
  iapply (Rounds.wp_wait_rest_token 𝒱₀ ER (Rd m ρ) (c : Thread nD τ) none (κ := K (c, some (false, k)))
      (wpE_waitDma2_eq 𝒱₀ (c : Thread nD τ) none Set.univ) (Set.mem_univ _) () (O := Osum c (unsent n.val c)) (W := W) (R := 0) (m := 0) (T := ∅)
      (by rw [Nat.zero_add, hd]; exact (expect_send m ρ c k hr).symm)) $$ [Hc HO Hat]
  · isplitr; · iapply (inv_at m ρ K (c, some (false, k))); iexact HR
    isplitl [Hc]; · rw [hd]; iexact Hc
    isplitl [HO]; · iexact HO
    isplitr
    · iapply (mayWait_of (F := F) c (.dma (sendS k)) (unsent n.val c) (lv (sendCell c k) ()) le_rfl (fun j hj => by
        rw [hz j] at hj; cases hj))
      iexact HL
    iexact Hat
  iintro ⟨HO, Hat, -, Hpay⟩
  ihave Hp := (Entails.of_eq (rest_send m ρ c k hr)) $$ Hpay
  rw [wp_ret]
  imod (Rounds.cell_close ER (Rd m ρ) (Set.mem_univ (K (c, some (false, k)))) (fun h => h) (R := 0 + 1) (duties_later m ρ (sendCell c k))) $$ [Hat] with Hz
  · isplitr; · iapply (inv_at m ρ K (c, some (false, k))); iexact HR
    iexact Hat
  imodintro
  isplitr; · iexact HR
  isplitr; · iexact HL
  iexists _
  isplitl [HO]; · iexact HO
  iapply Hback
  iapply (Entails.of_eq (show iprop(KRa (F := F) c true k ∗ semVal (sendCell c k) 0 ∗ sendPay m ρ c k)
      = KR m ρ c (aS (n.val + 1) c k) (bS (n.val + 1) c k) k by
    unfold KR sendPay; rw [ha', hb', KRb_2, KRs_on m ρ c _ k (by decide) (holds_of_sends c k hr)]))
  isplitl [HK1]; · iexact HK1
  isplitl [Hz]; · iexact Hz
  iexact Hp

set_option maxHeartbeats 1000000 in
/-- A send: the key's slot is lent to it, the neighbour's slot goes with it. -/
theorem do_send (hk : (opAt n.val).1 = 1) (hv : opValid c (opAt n.val) = true) {sS rS : DmaSem sig}
    (hs : sS = sendS (opKey c (opAt n.val))) (hr : rS = recvS (opKey c (opAt n.val)))
    {c' : Dev nD} (hc' : c' = nb (opKey c (opAt n.val)).1 c)
    {src : Memref sig .tc .vmem S512x512 .bf16} {dst : Memref sig (Dev.tc c' : Thread nD τ).2.kind .vmem S512x512 .bf16}
    (hsr : src = slotM (opKey c (opAt n.val)).2) (hds : dst = slotM (opKey c (opAt n.val)).2)
    {hsc : dst.view.ref.isScScratch = false} {h1 : src.view.WordExact} {h2 : dst.view.WordExact}
    {h3 : DmaTarget.Typed .vmem (.dma rS) (.remote (Dev.tc c' : Thread nD τ) dst (.dma sS) hsc)} :
    St m ρ K n.val c ⊢ wp frame (wpE (defs₀ (F := F)) 𝒱₀ c none) Set.univ
      (Prog.lift (.enqueueDma src (.remote (Dev.tc c' : Thread nD τ) dst (.dma sS) hsc) (.dma rS) h1 h2 h3) :
        Prog (TpuEff nD τ sig (Elt F) Λ₀ .tc) PUnit) (fun _ => St m ρ K (n.val + 1) c) := by
  have hf := op_facts n c
  have ho := off_key n c
  rw [hv] at hf
  unfold opFacts at hf
  rw [hk] at hf
  generalize hkey : opKey c (opAt n.val) = k at *
  simp only [Bool.not_true, Bool.false_or, Bool.and_eq_true, decide_eq_true_eq] at hf
  obtain ⟨⟨⟨⟨hsd, ha⟩, ha'⟩, hb⟩, hb'⟩ := hf
  subst hs hr hc'
  subst hsr hds
  have hO : Osum c (unsent n.val c) = Osum c (unsent (n.val + 1) c) + tallyAt (recvCell (nb k.1 c) k) () N :=
    Osum_send c _ _ k (by unfold unsent; rw [hb]; rfl) (by unfold unsent; rw [hb']; rfl) (fun j hj => by unfold unsent; rw [(ho j hj).2])
  unfold St
  rw [hO]
  iintro ⟨#HR, #HL, ⟨%W, HO, HB⟩⟩
  ihave HB' := (bigSep_univ_update (Φ := fun j : Key => KR m ρ c (aS n.val c j) (bS n.val c j) j)
    (Ψ := fun j : Key => KR m ρ c (aS (n.val + 1) c j) (bS (n.val + 1) c j) j) k (fun j hj => by rw [(ho j hj).1, (ho j hj).2])) $$ HB
  icases HB' with ⟨HK, Hback⟩
  ihave HK' := (Entails.of_eq (show KR m ρ c (aS n.val c k) (bS n.val c k) k
      = iprop(KRa (F := F) c true k ∗ (atPos ER (sendCell c k) 0 ∅ 0 ∗ dutyTok ER (sendCell c k) 0 false
          ∗ dutyTok ER (recvCell (nb k.1 c) k) 0 false ∗ ∃ f, slotPts (F := F) (nb k.1 c) k.2 fullShare f) ∗ slotPts c k.2 (shr c k) (KV m ρ)) by
    unfold KR; rw [ha, hb, KRb_0, KRs_on m ρ c _ k (by decide) (holds_of_sends c k hsd)])) $$ HK
  icases HK' with ⟨HK1, ⟨Hat, HtS, HtR, ⟨%fn, Hdst⟩⟩, HK3⟩
  unfold slotPts
  simp only [Prog.lift]
  iapply (Rounds.wp_send_pointsTo 𝒱₀ ER (Rd m ρ) (c : Thread nD τ) none (κ₁ := K (c, some (false, k))) (κ₂ := K (nb k.1 c, some (true, k)))
    (r₁ := 0) (r₂ := 0) (d₁ := false) (d₂ := false) (fd := fn) (fs := KV m ρ) (q := shr c k)
    (by rw [duties_send m ρ c k hsd]; exact Finset.mem_singleton_self _)
    (by rw [duties_recv m ρ (nb k.1 c) k (recvs_nb c k hsd)]; exact Finset.mem_singleton_self _)
    () () N rfl (amount_send m ρ c k false) (amount_recv m ρ (nb k.1 c) k false) (Osum c (unsent (n.val + 1) c)) rfl (W := W)
    (by rw [payload_send]; exact BI.Entails.refl _)
    (by rw [payload_recv]; unfold recvPay slotPts; exact Entails.of_eq (pointsTo_congr (landed k.2 (KV m ρ) fn)))) $$ [HK3 Hdst HO HtS HtR]
  · isplitr; · iapply (inv_at m ρ K (c, some (false, k))); iexact HR
    isplitr; · iapply (inv_at m ρ K (nb k.1 c, some (true, k))); iexact HR
    isplitl [HK3]; · iexact HK3
    isplitl [Hdst]; · iexact Hdst
    isplitl [HO]; · iexact HO
    isplitl [HtS]; · iexact HtS
    isplitr; · iapply (reached_at m ρ K (c, some (false, k))); iexact HR
    isplitl [HtR]; · iexact HtR
    iapply (reached_at m ρ K (nb k.1 c, some (true, k))); iexact HR
  iintro ⟨Hc, HO⟩
  rw [wp_ret]
  imodintro
  isplitr; · iexact HR
  isplitr; · iexact HL
  iexists _
  isplitl [HO]; · iexact HO
  iapply Hback
  iapply (Entails.of_eq (show iprop(KRa (F := F) c true k ∗ (atPos ER (sendCell c k) 0 ∅ 0 ∗ cred (tallyAt (sendCell c k) () N)) ∗ emp)
      = KR m ρ c (aS (n.val + 1) c k) (bS (n.val + 1) c k) k by
    unfold KR; rw [ha', hb', KRb_1, KRs_off m ρ c _ _ k (.inr (.inl rfl))]))
  isplitl [HK1]; · iexact HK1
  isplitl [Hat Hc]
  · isplitl [Hat]; · iexact Hat
    iexact Hc
  iempintro

end Steps

end Cert.KernelIdeal.Att

end
-- ==== Proof.IdealFacts.lean ====
/-
# What the printed conditions and offsets are

Each transfer of the program is guarded by a condition on the device's position and slices the semaphore arrays
and the gather buffer at computed offsets. Here each is what the order of operations says.
-/
module

public import proofs.«01_k».proof.Proof.IdealSteps

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A slot's offsets into a semaphore array and into the gather buffer. -/
def off2 (s : Slot) : Fin 2 → ℕ := ![s.1.val, s.2.val]
def off4 (s : Slot) : Fin 4 → ℕ := ![s.1.val, s.2.val, 0, 0]

private theorem sems0_at : ∀ s : Slot, ∀ inb : (∀ i, (off2 s) i + S1x1.size i ≤ S4x4.size i),
    ((cc0_scratch1.slice (Rect.unit (s := S4x4) (off2 s) S1x1.size inb)).squeeze S_ squeezes_S1x1_S_).sem = sendS (0, s) := by decide +kernel
theorem semS0 {o : Fin 2 → ℕ} {inb : ∀ i, o i + S1x1.size i ≤ S4x4.size i} (k : Key) (h1 : k.1 = 0) (h : o = off2 k.2) :
    ((cc0_scratch1.slice (Rect.unit (s := S4x4) o S1x1.size inb)).squeeze S_ squeezes_S1x1_S_).sem = sendS k := by
  subst h
  rw [sems0_at]
  congr 1
  exact Prod.ext h1.symm rfl
private theorem semr0_at : ∀ s : Slot, ∀ inb : (∀ i, (off2 s) i + S1x1.size i ≤ S4x4.size i),
    ((cc0_scratch2.slice (Rect.unit (s := S4x4) (off2 s) S1x1.size inb)).squeeze S_ squeezes_S1x1_S_).sem = recvS (0, s) := by decide +kernel
theorem semR0 {o : Fin 2 → ℕ} {inb : ∀ i, o i + S1x1.size i ≤ S4x4.size i} (k : Key) (h1 : k.1 = 0) (h : o = off2 k.2) :
    ((cc0_scratch2.slice (Rect.unit (s := S4x4) o S1x1.size inb)).squeeze S_ squeezes_S1x1_S_).sem = recvS k := by
  subst h
  rw [semr0_at]
  congr 1
  exact Prod.ext h1.symm rfl
private theorem sems1_at : ∀ s : Slot, ∀ inb : (∀ i, (off2 s) i + S1x1.size i ≤ S4x4.size i),
    ((cc0_scratch3.slice (Rect.unit (s := S4x4) (off2 s) S1x1.size inb)).squeeze S_ squeezes_S1x1_S_).sem = sendS (1, s) := by decide +kernel
theorem semS1 {o : Fin 2 → ℕ} {inb : ∀ i, o i + S1x1.size i ≤ S4x4.size i} (k : Key) (h1 : k.1 = 1) (h : o = off2 k.2) :
    ((cc0_scratch3.slice (Rect.unit (s := S4x4) o S1x1.size inb)).squeeze S_ squeezes_S1x1_S_).sem = sendS k := by
  subst h
  rw [sems1_at]
  congr 1
  exact Prod.ext h1.symm rfl
private theorem semr1_at : ∀ s : Slot, ∀ inb : (∀ i, (off2 s) i + S1x1.size i ≤ S4x4.size i),
    ((cc0_scratch4.slice (Rect.unit (s := S4x4) (off2 s) S1x1.size inb)).squeeze S_ squeezes_S1x1_S_).sem = recvS (1, s) := by decide +kernel
theorem semR1 {o : Fin 2 → ℕ} {inb : ∀ i, o i + S1x1.size i ≤ S4x4.size i} (k : Key) (h1 : k.1 = 1) (h : o = off2 k.2) :
    ((cc0_scratch4.slice (Rect.unit (s := S4x4) o S1x1.size inb)).squeeze S_ squeezes_S1x1_S_).sem = recvS k := by
  subst h
  rw [semr1_at]
  congr 1
  exact Prod.ext h1.symm rfl
theorem mem_slot {o : Fin 4 → ℕ} {inb : ∀ i, o i + S1x1x512x512.size i ≤ S4x4x512x512.size i} (s : Slot) (h : o = off4 s) :
    ((Memref.whole cc0_scratch0).slice (Rect.unit (s := S4x4x512x512) o S1x1x512x512.size inb) (fun _ => rfl)).squeeze
      S512x512 squeezes_S1x1x512x512_S512x512 = slotM s := by subst h; rfl

theorem credit_mem {o : Fin 4 → ℕ} {inb : ∀ i, o i + S1x1x512x512.size i ≤ S4x4x512x512.size i} :
    (((Memref.whole cc0_scratch0).slice (Rect.unit (s := S4x4x512x512) o S1x1x512x512.size inb) (fun _ => rfl)).squeeze
      S512x512 squeezes_S1x1x512x512_S512x512).view.dmaCredit = N := rfl

/-! ## The transfers, one by one: where the condition holds, the operation is performed on its key; where not, it is not -/

theorem does0 : ∀ c : Dev nD, k0_cond4 c = 1#1 → opValid c (opAt 0) = true ∧ (opKey c (opAt 0)).1 = 0 ∧ k0_off5 c = off2 (opKey c (opAt 0)).2 ∧ k0_off6 c = off4 (opKey c (opAt 0)).2 ∧ k0_dev3 c = (nb (opKey c (opAt 0)).1 c).val := by decide +kernel
theorem skips0 : ∀ c : Dev nD, ¬ k0_cond4 c = 1#1 → opValid c (opAt 0) = false := by decide +kernel
theorem does1 : ∀ c : Dev nD, k0_cond4 c = 1#1 → opValid c (opAt 1) = true ∧ (opKey c (opAt 1)).1 = 0 ∧ k0_off7 c = off2 (opKey c (opAt 1)).2 ∧ k0_off8 c = off4 (opKey c (opAt 1)).2 ∧ k0_dev4 c = (nb (opKey c (opAt 1)).1 c).val := by decide +kernel
theorem skips1 : ∀ c : Dev nD, ¬ k0_cond4 c = 1#1 → opValid c (opAt 1) = false := by decide +kernel
theorem does2 : ∀ c : Dev nD, k0_cond4 c = 1#1 → opValid c (opAt 2) = true ∧ (opKey c (opAt 2)).1 = 0 ∧ k0_off9 c = off2 (opKey c (opAt 2)).2 ∧ k0_off10 c = off4 (opKey c (opAt 2)).2 ∧ k0_dev5 c = (nb (opKey c (opAt 2)).1 c).val := by decide +kernel
theorem skips2 : ∀ c : Dev nD, ¬ k0_cond4 c = 1#1 → opValid c (opAt 2) = false := by decide +kernel
theorem does3 : ∀ c : Dev nD, k0_cond4 c = 1#1 → opValid c (opAt 3) = true ∧ (opKey c (opAt 3)).1 = 0 ∧ k0_off11 c = off2 (opKey c (opAt 3)).2 ∧ k0_off12 c = off4 (opKey c (opAt 3)).2 ∧ k0_dev6 c = (nb (opKey c (opAt 3)).1 c).val := by decide +kernel
theorem skips3 : ∀ c : Dev nD, ¬ k0_cond4 c = 1#1 → opValid c (opAt 3) = false := by decide +kernel
theorem does4 : ∀ c : Dev nD, k0_cond5 c = 1#1 → opValid c (opAt 4) = true ∧ (opKey c (opAt 4)).1 = 1 ∧ k0_off13 c = off2 (opKey c (opAt 4)).2 ∧ k0_off14 c = off4 (opKey c (opAt 4)).2 ∧ k0_dev7 c = (nb (opKey c (opAt 4)).1 c).val := by decide +kernel
theorem skips4 : ∀ c : Dev nD, ¬ k0_cond5 c = 1#1 → opValid c (opAt 4) = false := by decide +kernel
theorem does5 : ∀ c : Dev nD, k0_cond5 c = 1#1 → opValid c (opAt 5) = true ∧ (opKey c (opAt 5)).1 = 1 ∧ k0_off15 c = off2 (opKey c (opAt 5)).2 ∧ k0_off16 c = off4 (opKey c (opAt 5)).2 ∧ k0_dev8 c = (nb (opKey c (opAt 5)).1 c).val := by decide +kernel
theorem skips5 : ∀ c : Dev nD, ¬ k0_cond5 c = 1#1 → opValid c (opAt 5) = false := by decide +kernel
theorem does6 : ∀ c : Dev nD, k0_cond5 c = 1#1 → opValid c (opAt 6) = true ∧ (opKey c (opAt 6)).1 = 1 ∧ k0_off17 c = off2 (opKey c (opAt 6)).2 ∧ k0_off18 c = off4 (opKey c (opAt 6)).2 ∧ k0_dev9 c = (nb (opKey c (opAt 6)).1 c).val := by decide +kernel
theorem skips6 : ∀ c : Dev nD, ¬ k0_cond5 c = 1#1 → opValid c (opAt 6) = false := by decide +kernel
theorem does7 : ∀ c : Dev nD, k0_cond5 c = 1#1 → opValid c (opAt 7) = true ∧ (opKey c (opAt 7)).1 = 1 ∧ k0_off19 c = off2 (opKey c (opAt 7)).2 ∧ k0_off20 c = off4 (opKey c (opAt 7)).2 ∧ k0_dev10 c = (nb (opKey c (opAt 7)).1 c).val := by decide +kernel
theorem skips7 : ∀ c : Dev nD, ¬ k0_cond5 c = 1#1 → opValid c (opAt 7) = false := by decide +kernel
theorem does8 : ∀ c : Dev nD, k0_cond6 c = 1#1 → opValid c (opAt 8) = true ∧ (opKey c (opAt 8)).1 = 0 ∧ k0_off21 c = off2 (opKey c (opAt 8)).2 := by decide +kernel
theorem skips8 : ∀ c : Dev nD, ¬ k0_cond6 c = 1#1 → opValid c (opAt 8) = false := by decide +kernel
theorem does9 : ∀ c : Dev nD, k0_cond7 c = 1#1 → opValid c (opAt 9) = true ∧ (opKey c (opAt 9)).1 = 0 ∧ k0_off23 c = off2 (opKey c (opAt 9)).2 ∧ k0_off24 c = off4 (opKey c (opAt 9)).2 ∧ k0_dev11 c = (nb (opKey c (opAt 9)).1 c).val := by decide +kernel
theorem skips9 : ∀ c : Dev nD, ¬ k0_cond7 c = 1#1 → opValid c (opAt 9) = false := by decide +kernel
theorem does10 : ∀ c : Dev nD, k0_cond8 c = 1#1 → opValid c (opAt 10) = true ∧ (opKey c (opAt 10)).1 = 1 ∧ k0_off25 c = off2 (opKey c (opAt 10)).2 := by decide +kernel
theorem skips10 : ∀ c : Dev nD, ¬ k0_cond8 c = 1#1 → opValid c (opAt 10) = false := by decide +kernel
theorem does11 : ∀ c : Dev nD, k0_cond9 c = 1#1 → opValid c (opAt 11) = true ∧ (opKey c (opAt 11)).1 = 1 ∧ k0_off27 c = off2 (opKey c (opAt 11)).2 ∧ k0_off28 c = off4 (opKey c (opAt 11)).2 ∧ k0_dev12 c = (nb (opKey c (opAt 11)).1 c).val := by decide +kernel
theorem skips11 : ∀ c : Dev nD, ¬ k0_cond9 c = 1#1 → opValid c (opAt 11) = false := by decide +kernel
theorem does12 : ∀ c : Dev nD, k0_cond10 c = 1#1 → opValid c (opAt 12) = true ∧ (opKey c (opAt 12)).1 = 0 ∧ k0_off29 c = off2 (opKey c (opAt 12)).2 := by decide +kernel
theorem skips12 : ∀ c : Dev nD, ¬ k0_cond10 c = 1#1 → opValid c (opAt 12) = false := by decide +kernel
theorem does13 : ∀ c : Dev nD, k0_cond11 c = 1#1 → opValid c (opAt 13) = true ∧ (opKey c (opAt 13)).1 = 0 ∧ k0_off31 c = off2 (opKey c (opAt 13)).2 ∧ k0_off32 c = off4 (opKey c (opAt 13)).2 ∧ k0_dev13 c = (nb (opKey c (opAt 13)).1 c).val := by decide +kernel
theorem skips13 : ∀ c : Dev nD, ¬ k0_cond11 c = 1#1 → opValid c (opAt 13) = false := by decide +kernel
theorem does14 : ∀ c : Dev nD, k0_cond12 c = 1#1 → opValid c (opAt 14) = true ∧ (opKey c (opAt 14)).1 = 1 ∧ k0_off33 c = off2 (opKey c (opAt 14)).2 := by decide +kernel
theorem skips14 : ∀ c : Dev nD, ¬ k0_cond12 c = 1#1 → opValid c (opAt 14) = false := by decide +kernel
theorem does15 : ∀ c : Dev nD, k0_cond13 c = 1#1 → opValid c (opAt 15) = true ∧ (opKey c (opAt 15)).1 = 1 ∧ k0_off35 c = off2 (opKey c (opAt 15)).2 ∧ k0_off36 c = off4 (opKey c (opAt 15)).2 ∧ k0_dev14 c = (nb (opKey c (opAt 15)).1 c).val := by decide +kernel
theorem skips15 : ∀ c : Dev nD, ¬ k0_cond13 c = 1#1 → opValid c (opAt 15) = false := by decide +kernel
theorem does16 : ∀ c : Dev nD, k0_cond14 c = 1#1 → opValid c (opAt 16) = true ∧ (opKey c (opAt 16)).1 = 0 ∧ k0_off37 c = off2 (opKey c (opAt 16)).2 := by decide +kernel
theorem skips16 : ∀ c : Dev nD, ¬ k0_cond14 c = 1#1 → opValid c (opAt 16) = false := by decide +kernel
theorem does17 : ∀ c : Dev nD, k0_cond15 c = 1#1 → opValid c (opAt 17) = true ∧ (opKey c (opAt 17)).1 = 0 ∧ k0_off39 c = off2 (opKey c (opAt 17)).2 ∧ k0_off40 c = off4 (opKey c (opAt 17)).2 ∧ k0_dev15 c = (nb (opKey c (opAt 17)).1 c).val := by decide +kernel
theorem skips17 : ∀ c : Dev nD, ¬ k0_cond15 c = 1#1 → opValid c (opAt 17) = false := by decide +kernel
theorem does18 : ∀ c : Dev nD, k0_cond16 c = 1#1 → opValid c (opAt 18) = true ∧ (opKey c (opAt 18)).1 = 1 ∧ k0_off41 c = off2 (opKey c (opAt 18)).2 := by decide +kernel
theorem skips18 : ∀ c : Dev nD, ¬ k0_cond16 c = 1#1 → opValid c (opAt 18) = false := by decide +kernel
theorem does19 : ∀ c : Dev nD, k0_cond17 c = 1#1 → opValid c (opAt 19) = true ∧ (opKey c (opAt 19)).1 = 1 ∧ k0_off43 c = off2 (opKey c (opAt 19)).2 ∧ k0_off44 c = off4 (opKey c (opAt 19)).2 ∧ k0_dev16 c = (nb (opKey c (opAt 19)).1 c).val := by decide +kernel
theorem skips19 : ∀ c : Dev nD, ¬ k0_cond17 c = 1#1 → opValid c (opAt 19) = false := by decide +kernel
theorem does20 : ∀ c : Dev nD, k0_cond18 c = 1#1 → opValid c (opAt 20) = true ∧ (opKey c (opAt 20)).1 = 0 ∧ k0_off45 c = off2 (opKey c (opAt 20)).2 := by decide +kernel
theorem skips20 : ∀ c : Dev nD, ¬ k0_cond18 c = 1#1 → opValid c (opAt 20) = false := by decide +kernel
theorem does21 : ∀ c : Dev nD, k0_cond19 c = 1#1 → opValid c (opAt 21) = true ∧ (opKey c (opAt 21)).1 = 0 ∧ k0_off47 c = off2 (opKey c (opAt 21)).2 ∧ k0_off48 c = off4 (opKey c (opAt 21)).2 ∧ k0_dev17 c = (nb (opKey c (opAt 21)).1 c).val := by decide +kernel
theorem skips21 : ∀ c : Dev nD, ¬ k0_cond19 c = 1#1 → opValid c (opAt 21) = false := by decide +kernel
theorem does22 : ∀ c : Dev nD, k0_cond20 c = 1#1 → opValid c (opAt 22) = true ∧ (opKey c (opAt 22)).1 = 1 ∧ k0_off49 c = off2 (opKey c (opAt 22)).2 := by decide +kernel
theorem skips22 : ∀ c : Dev nD, ¬ k0_cond20 c = 1#1 → opValid c (opAt 22) = false := by decide +kernel
theorem does23 : ∀ c : Dev nD, k0_cond21 c = 1#1 → opValid c (opAt 23) = true ∧ (opKey c (opAt 23)).1 = 1 ∧ k0_off51 c = off2 (opKey c (opAt 23)).2 ∧ k0_off52 c = off4 (opKey c (opAt 23)).2 ∧ k0_dev18 c = (nb (opKey c (opAt 23)).1 c).val := by decide +kernel
theorem skips23 : ∀ c : Dev nD, ¬ k0_cond21 c = 1#1 → opValid c (opAt 23) = false := by decide +kernel
theorem does24 : ∀ c : Dev nD, k0_cond22 c = 1#1 → opValid c (opAt 24) = true ∧ (opKey c (opAt 24)).1 = 0 ∧ k0_off53 c = off2 (opKey c (opAt 24)).2 := by decide +kernel
theorem skips24 : ∀ c : Dev nD, ¬ k0_cond22 c = 1#1 → opValid c (opAt 24) = false := by decide +kernel
theorem does25 : ∀ c : Dev nD, k0_cond23 c = 1#1 → opValid c (opAt 25) = true ∧ (opKey c (opAt 25)).1 = 0 ∧ k0_off55 c = off2 (opKey c (opAt 25)).2 ∧ k0_off56 c = off4 (opKey c (opAt 25)).2 ∧ k0_dev19 c = (nb (opKey c (opAt 25)).1 c).val := by decide +kernel
theorem skips25 : ∀ c : Dev nD, ¬ k0_cond23 c = 1#1 → opValid c (opAt 25) = false := by decide +kernel
theorem does26 : ∀ c : Dev nD, k0_cond24 c = 1#1 → opValid c (opAt 26) = true ∧ (opKey c (opAt 26)).1 = 1 ∧ k0_off57 c = off2 (opKey c (opAt 26)).2 := by decide +kernel
theorem skips26 : ∀ c : Dev nD, ¬ k0_cond24 c = 1#1 → opValid c (opAt 26) = false := by decide +kernel
theorem does27 : ∀ c : Dev nD, k0_cond25 c = 1#1 → opValid c (opAt 27) = true ∧ (opKey c (opAt 27)).1 = 1 ∧ k0_off59 c = off2 (opKey c (opAt 27)).2 ∧ k0_off60 c = off4 (opKey c (opAt 27)).2 ∧ k0_dev20 c = (nb (opKey c (opAt 27)).1 c).val := by decide +kernel
theorem skips27 : ∀ c : Dev nD, ¬ k0_cond25 c = 1#1 → opValid c (opAt 27) = false := by decide +kernel
theorem does28 : ∀ c : Dev nD, k0_cond26 c = 1#1 → opValid c (opAt 28) = true ∧ (opKey c (opAt 28)).1 = 0 ∧ k0_off61 c = off2 (opKey c (opAt 28)).2 := by decide +kernel
theorem skips28 : ∀ c : Dev nD, ¬ k0_cond26 c = 1#1 → opValid c (opAt 28) = false := by decide +kernel
theorem does29 : ∀ c : Dev nD, k0_cond27 c = 1#1 → opValid c (opAt 29) = true ∧ (opKey c (opAt 29)).1 = 0 ∧ k0_off63 c = off2 (opKey c (opAt 29)).2 ∧ k0_off64 c = off4 (opKey c (opAt 29)).2 ∧ k0_dev21 c = (nb (opKey c (opAt 29)).1 c).val := by decide +kernel
theorem skips29 : ∀ c : Dev nD, ¬ k0_cond27 c = 1#1 → opValid c (opAt 29) = false := by decide +kernel
theorem does30 : ∀ c : Dev nD, k0_cond28 c = 1#1 → opValid c (opAt 30) = true ∧ (opKey c (opAt 30)).1 = 1 ∧ k0_off65 c = off2 (opKey c (opAt 30)).2 := by decide +kernel
theorem skips30 : ∀ c : Dev nD, ¬ k0_cond28 c = 1#1 → opValid c (opAt 30) = false := by decide +kernel
theorem does31 : ∀ c : Dev nD, k0_cond29 c = 1#1 → opValid c (opAt 31) = true ∧ (opKey c (opAt 31)).1 = 1 ∧ k0_off67 c = off2 (opKey c (opAt 31)).2 ∧ k0_off68 c = off4 (opKey c (opAt 31)).2 ∧ k0_dev22 c = (nb (opKey c (opAt 31)).1 c).val := by decide +kernel
theorem skips31 : ∀ c : Dev nD, ¬ k0_cond29 c = 1#1 → opValid c (opAt 31) = false := by decide +kernel
theorem does32 : ∀ c : Dev nD, k0_cond30 c = 1#1 → opValid c (opAt 32) = true ∧ (opKey c (opAt 32)).1 = 0 ∧ k0_off69 c = off2 (opKey c (opAt 32)).2 := by decide +kernel
theorem skips32 : ∀ c : Dev nD, ¬ k0_cond30 c = 1#1 → opValid c (opAt 32) = false := by decide +kernel
theorem does33 : ∀ c : Dev nD, k0_cond31 c = 1#1 → opValid c (opAt 33) = true ∧ (opKey c (opAt 33)).1 = 0 ∧ k0_off71 c = off2 (opKey c (opAt 33)).2 ∧ k0_off72 c = off4 (opKey c (opAt 33)).2 ∧ k0_dev23 c = (nb (opKey c (opAt 33)).1 c).val := by decide +kernel
theorem skips33 : ∀ c : Dev nD, ¬ k0_cond31 c = 1#1 → opValid c (opAt 33) = false := by decide +kernel
theorem does34 : ∀ c : Dev nD, k0_cond32 c = 1#1 → opValid c (opAt 34) = true ∧ (opKey c (opAt 34)).1 = 1 ∧ k0_off73 c = off2 (opKey c (opAt 34)).2 := by decide +kernel
theorem skips34 : ∀ c : Dev nD, ¬ k0_cond32 c = 1#1 → opValid c (opAt 34) = false := by decide +kernel
theorem does35 : ∀ c : Dev nD, k0_cond33 c = 1#1 → opValid c (opAt 35) = true ∧ (opKey c (opAt 35)).1 = 1 ∧ k0_off75 c = off2 (opKey c (opAt 35)).2 ∧ k0_off76 c = off4 (opKey c (opAt 35)).2 ∧ k0_dev24 c = (nb (opKey c (opAt 35)).1 c).val := by decide +kernel
theorem skips35 : ∀ c : Dev nD, ¬ k0_cond33 c = 1#1 → opValid c (opAt 35) = false := by decide +kernel
theorem does36 : ∀ c : Dev nD, k0_cond34 c = 1#1 → opValid c (opAt 36) = true ∧ (opKey c (opAt 36)).1 = 0 ∧ k0_off77 c = off2 (opKey c (opAt 36)).2 := by decide +kernel
theorem skips36 : ∀ c : Dev nD, ¬ k0_cond34 c = 1#1 → opValid c (opAt 36) = false := by decide +kernel
theorem does37 : ∀ c : Dev nD, k0_cond35 c = 1#1 → opValid c (opAt 37) = true ∧ (opKey c (opAt 37)).1 = 0 ∧ k0_off79 c = off2 (opKey c (opAt 37)).2 ∧ k0_off80 c = off4 (opKey c (opAt 37)).2 ∧ k0_dev25 c = (nb (opKey c (opAt 37)).1 c).val := by decide +kernel
theorem skips37 : ∀ c : Dev nD, ¬ k0_cond35 c = 1#1 → opValid c (opAt 37) = false := by decide +kernel
theorem does38 : ∀ c : Dev nD, k0_cond36 c = 1#1 → opValid c (opAt 38) = true ∧ (opKey c (opAt 38)).1 = 1 ∧ k0_off81 c = off2 (opKey c (opAt 38)).2 := by decide +kernel
theorem skips38 : ∀ c : Dev nD, ¬ k0_cond36 c = 1#1 → opValid c (opAt 38) = false := by decide +kernel
theorem does39 : ∀ c : Dev nD, k0_cond37 c = 1#1 → opValid c (opAt 39) = true ∧ (opKey c (opAt 39)).1 = 1 ∧ k0_off83 c = off2 (opKey c (opAt 39)).2 ∧ k0_off84 c = off4 (opKey c (opAt 39)).2 ∧ k0_dev26 c = (nb (opKey c (opAt 39)).1 c).val := by decide +kernel
theorem skips39 : ∀ c : Dev nD, ¬ k0_cond37 c = 1#1 → opValid c (opAt 39) = false := by decide +kernel
theorem does40 : ∀ c : Dev nD, k0_cond38 c = 1#1 → opValid c (opAt 40) = true ∧ (opKey c (opAt 40)).1 = 0 ∧ k0_off85 c = off2 (opKey c (opAt 40)).2 := by decide +kernel
theorem skips40 : ∀ c : Dev nD, ¬ k0_cond38 c = 1#1 → opValid c (opAt 40) = false := by decide +kernel
theorem does41 : ∀ c : Dev nD, k0_cond39 c = 1#1 → opValid c (opAt 41) = true ∧ (opKey c (opAt 41)).1 = 0 ∧ k0_off87 c = off2 (opKey c (opAt 41)).2 ∧ k0_off88 c = off4 (opKey c (opAt 41)).2 ∧ k0_dev27 c = (nb (opKey c (opAt 41)).1 c).val := by decide +kernel
theorem skips41 : ∀ c : Dev nD, ¬ k0_cond39 c = 1#1 → opValid c (opAt 41) = false := by decide +kernel
theorem does42 : ∀ c : Dev nD, k0_cond40 c = 1#1 → opValid c (opAt 42) = true ∧ (opKey c (opAt 42)).1 = 1 ∧ k0_off89 c = off2 (opKey c (opAt 42)).2 := by decide +kernel
theorem skips42 : ∀ c : Dev nD, ¬ k0_cond40 c = 1#1 → opValid c (opAt 42) = false := by decide +kernel
theorem does43 : ∀ c : Dev nD, k0_cond41 c = 1#1 → opValid c (opAt 43) = true ∧ (opKey c (opAt 43)).1 = 1 ∧ k0_off91 c = off2 (opKey c (opAt 43)).2 ∧ k0_off92 c = off4 (opKey c (opAt 43)).2 ∧ k0_dev28 c = (nb (opKey c (opAt 43)).1 c).val := by decide +kernel
theorem skips43 : ∀ c : Dev nD, ¬ k0_cond41 c = 1#1 → opValid c (opAt 43) = false := by decide +kernel
theorem does44 : ∀ c : Dev nD, k0_cond42 c = 1#1 → opValid c (opAt 44) = true ∧ (opKey c (opAt 44)).1 = 0 ∧ k0_off93 c = off2 (opKey c (opAt 44)).2 := by decide +kernel
theorem skips44 : ∀ c : Dev nD, ¬ k0_cond42 c = 1#1 → opValid c (opAt 44) = false := by decide +kernel
theorem does45 : ∀ c : Dev nD, k0_cond43 c = 1#1 → opValid c (opAt 45) = true ∧ (opKey c (opAt 45)).1 = 0 ∧ k0_off95 c = off2 (opKey c (opAt 45)).2 ∧ k0_off96 c = off4 (opKey c (opAt 45)).2 ∧ k0_dev29 c = (nb (opKey c (opAt 45)).1 c).val := by decide +kernel
theorem skips45 : ∀ c : Dev nD, ¬ k0_cond43 c = 1#1 → opValid c (opAt 45) = false := by decide +kernel
theorem does46 : ∀ c : Dev nD, k0_cond44 c = 1#1 → opValid c (opAt 46) = true ∧ (opKey c (opAt 46)).1 = 1 ∧ k0_off97 c = off2 (opKey c (opAt 46)).2 := by decide +kernel
theorem skips46 : ∀ c : Dev nD, ¬ k0_cond44 c = 1#1 → opValid c (opAt 46) = false := by decide +kernel
theorem does47 : ∀ c : Dev nD, k0_cond45 c = 1#1 → opValid c (opAt 47) = true ∧ (opKey c (opAt 47)).1 = 1 ∧ k0_off99 c = off2 (opKey c (opAt 47)).2 ∧ k0_off100 c = off4 (opKey c (opAt 47)).2 ∧ k0_dev30 c = (nb (opKey c (opAt 47)).1 c).val := by decide +kernel
theorem skips47 : ∀ c : Dev nD, ¬ k0_cond45 c = 1#1 → opValid c (opAt 47) = false := by decide +kernel
theorem does48 : ∀ c : Dev nD, k0_cond46 c = 1#1 → opValid c (opAt 48) = true ∧ (opKey c (opAt 48)).1 = 0 ∧ k0_off101 c = off2 (opKey c (opAt 48)).2 := by decide +kernel
theorem skips48 : ∀ c : Dev nD, ¬ k0_cond46 c = 1#1 → opValid c (opAt 48) = false := by decide +kernel
theorem does49 : ∀ c : Dev nD, k0_cond47 c = 1#1 → opValid c (opAt 49) = true ∧ (opKey c (opAt 49)).1 = 0 ∧ k0_off103 c = off2 (opKey c (opAt 49)).2 ∧ k0_off104 c = off4 (opKey c (opAt 49)).2 ∧ k0_dev31 c = (nb (opKey c (opAt 49)).1 c).val := by decide +kernel
theorem skips49 : ∀ c : Dev nD, ¬ k0_cond47 c = 1#1 → opValid c (opAt 49) = false := by decide +kernel
theorem does50 : ∀ c : Dev nD, k0_cond48 c = 1#1 → opValid c (opAt 50) = true ∧ (opKey c (opAt 50)).1 = 1 ∧ k0_off105 c = off2 (opKey c (opAt 50)).2 := by decide +kernel
theorem skips50 : ∀ c : Dev nD, ¬ k0_cond48 c = 1#1 → opValid c (opAt 50) = false := by decide +kernel
theorem does51 : ∀ c : Dev nD, k0_cond49 c = 1#1 → opValid c (opAt 51) = true ∧ (opKey c (opAt 51)).1 = 1 ∧ k0_off107 c = off2 (opKey c (opAt 51)).2 ∧ k0_off108 c = off4 (opKey c (opAt 51)).2 ∧ k0_dev32 c = (nb (opKey c (opAt 51)).1 c).val := by decide +kernel
theorem skips51 : ∀ c : Dev nD, ¬ k0_cond49 c = 1#1 → opValid c (opAt 51) = false := by decide +kernel
theorem does52 : ∀ c : Dev nD, k0_cond50 c = 1#1 → opValid c (opAt 52) = true ∧ (opKey c (opAt 52)).1 = 0 ∧ k0_off109 c = off2 (opKey c (opAt 52)).2 := by decide +kernel
theorem skips52 : ∀ c : Dev nD, ¬ k0_cond50 c = 1#1 → opValid c (opAt 52) = false := by decide +kernel
theorem does53 : ∀ c : Dev nD, k0_cond51 c = 1#1 → opValid c (opAt 53) = true ∧ (opKey c (opAt 53)).1 = 0 ∧ k0_off111 c = off2 (opKey c (opAt 53)).2 ∧ k0_off112 c = off4 (opKey c (opAt 53)).2 ∧ k0_dev33 c = (nb (opKey c (opAt 53)).1 c).val := by decide +kernel
theorem skips53 : ∀ c : Dev nD, ¬ k0_cond51 c = 1#1 → opValid c (opAt 53) = false := by decide +kernel
theorem does54 : ∀ c : Dev nD, k0_cond52 c = 1#1 → opValid c (opAt 54) = true ∧ (opKey c (opAt 54)).1 = 1 ∧ k0_off113 c = off2 (opKey c (opAt 54)).2 := by decide +kernel
theorem skips54 : ∀ c : Dev nD, ¬ k0_cond52 c = 1#1 → opValid c (opAt 54) = false := by decide +kernel
theorem does55 : ∀ c : Dev nD, k0_cond53 c = 1#1 → opValid c (opAt 55) = true ∧ (opKey c (opAt 55)).1 = 1 ∧ k0_off115 c = off2 (opKey c (opAt 55)).2 ∧ k0_off116 c = off4 (opKey c (opAt 55)).2 ∧ k0_dev34 c = (nb (opKey c (opAt 55)).1 c).val := by decide +kernel
theorem skips55 : ∀ c : Dev nD, ¬ k0_cond53 c = 1#1 → opValid c (opAt 55) = false := by decide +kernel
theorem does56 : ∀ c : Dev nD, k0_cond54 c = 1#1 → opValid c (opAt 56) = true ∧ (opKey c (opAt 56)).1 = 0 ∧ k0_off117 c = off2 (opKey c (opAt 56)).2 := by decide +kernel
theorem skips56 : ∀ c : Dev nD, ¬ k0_cond54 c = 1#1 → opValid c (opAt 56) = false := by decide +kernel
theorem does57 : ∀ c : Dev nD, k0_cond54 c = 1#1 → opValid c (opAt 57) = true ∧ (opKey c (opAt 57)).1 = 0 ∧ k0_off119 c = off2 (opKey c (opAt 57)).2 := by decide +kernel
theorem skips57 : ∀ c : Dev nD, ¬ k0_cond54 c = 1#1 → opValid c (opAt 57) = false := by decide +kernel
theorem does58 : ∀ c : Dev nD, k0_cond54 c = 1#1 → opValid c (opAt 58) = true ∧ (opKey c (opAt 58)).1 = 0 ∧ k0_off121 c = off2 (opKey c (opAt 58)).2 := by decide +kernel
theorem skips58 : ∀ c : Dev nD, ¬ k0_cond54 c = 1#1 → opValid c (opAt 58) = false := by decide +kernel
theorem does59 : ∀ c : Dev nD, k0_cond54 c = 1#1 → opValid c (opAt 59) = true ∧ (opKey c (opAt 59)).1 = 0 ∧ k0_off123 c = off2 (opKey c (opAt 59)).2 := by decide +kernel
theorem skips59 : ∀ c : Dev nD, ¬ k0_cond54 c = 1#1 → opValid c (opAt 59) = false := by decide +kernel
theorem does60 : ∀ c : Dev nD, k0_cond55 c = 1#1 → opValid c (opAt 60) = true ∧ (opKey c (opAt 60)).1 = 1 ∧ k0_off125 c = off2 (opKey c (opAt 60)).2 := by decide +kernel
theorem skips60 : ∀ c : Dev nD, ¬ k0_cond55 c = 1#1 → opValid c (opAt 60) = false := by decide +kernel
theorem does61 : ∀ c : Dev nD, k0_cond55 c = 1#1 → opValid c (opAt 61) = true ∧ (opKey c (opAt 61)).1 = 1 ∧ k0_off127 c = off2 (opKey c (opAt 61)).2 := by decide +kernel
theorem skips61 : ∀ c : Dev nD, ¬ k0_cond55 c = 1#1 → opValid c (opAt 61) = false := by decide +kernel
theorem does62 : ∀ c : Dev nD, k0_cond55 c = 1#1 → opValid c (opAt 62) = true ∧ (opKey c (opAt 62)).1 = 1 ∧ k0_off129 c = off2 (opKey c (opAt 62)).2 := by decide +kernel
theorem skips62 : ∀ c : Dev nD, ¬ k0_cond55 c = 1#1 → opValid c (opAt 62) = false := by decide +kernel
theorem does63 : ∀ c : Dev nD, k0_cond55 c = 1#1 → opValid c (opAt 63) = true ∧ (opKey c (opAt 63)).1 = 1 ∧ k0_off131 c = off2 (opKey c (opAt 63)).2 := by decide +kernel
theorem skips63 : ∀ c : Dev nD, ¬ k0_cond55 c = 1#1 → opValid c (opAt 63) = false := by decide +kernel
theorem does64 : ∀ c : Dev nD, k0_cond56 c = 1#1 → opValid c (opAt 64) = true ∧ (opKey c (opAt 64)).1 = 0 ∧ k0_off133 c = off2 (opKey c (opAt 64)).2 := by decide +kernel
theorem skips64 : ∀ c : Dev nD, ¬ k0_cond56 c = 1#1 → opValid c (opAt 64) = false := by decide +kernel
theorem does65 : ∀ c : Dev nD, k0_cond56 c = 1#1 → opValid c (opAt 65) = true ∧ (opKey c (opAt 65)).1 = 0 ∧ k0_off135 c = off2 (opKey c (opAt 65)).2 := by decide +kernel
theorem skips65 : ∀ c : Dev nD, ¬ k0_cond56 c = 1#1 → opValid c (opAt 65) = false := by decide +kernel
theorem does66 : ∀ c : Dev nD, k0_cond56 c = 1#1 → opValid c (opAt 66) = true ∧ (opKey c (opAt 66)).1 = 0 ∧ k0_off137 c = off2 (opKey c (opAt 66)).2 := by decide +kernel
theorem skips66 : ∀ c : Dev nD, ¬ k0_cond56 c = 1#1 → opValid c (opAt 66) = false := by decide +kernel
theorem does67 : ∀ c : Dev nD, k0_cond56 c = 1#1 → opValid c (opAt 67) = true ∧ (opKey c (opAt 67)).1 = 0 ∧ k0_off139 c = off2 (opKey c (opAt 67)).2 := by decide +kernel
theorem skips67 : ∀ c : Dev nD, ¬ k0_cond56 c = 1#1 → opValid c (opAt 67) = false := by decide +kernel
theorem does68 : ∀ c : Dev nD, k0_cond57 c = 1#1 → opValid c (opAt 68) = true ∧ (opKey c (opAt 68)).1 = 1 ∧ k0_off141 c = off2 (opKey c (opAt 68)).2 := by decide +kernel
theorem skips68 : ∀ c : Dev nD, ¬ k0_cond57 c = 1#1 → opValid c (opAt 68) = false := by decide +kernel
theorem does69 : ∀ c : Dev nD, k0_cond57 c = 1#1 → opValid c (opAt 69) = true ∧ (opKey c (opAt 69)).1 = 1 ∧ k0_off143 c = off2 (opKey c (opAt 69)).2 := by decide +kernel
theorem skips69 : ∀ c : Dev nD, ¬ k0_cond57 c = 1#1 → opValid c (opAt 69) = false := by decide +kernel
theorem does70 : ∀ c : Dev nD, k0_cond57 c = 1#1 → opValid c (opAt 70) = true ∧ (opKey c (opAt 70)).1 = 1 ∧ k0_off145 c = off2 (opKey c (opAt 70)).2 := by decide +kernel
theorem skips70 : ∀ c : Dev nD, ¬ k0_cond57 c = 1#1 → opValid c (opAt 70) = false := by decide +kernel
theorem does71 : ∀ c : Dev nD, k0_cond57 c = 1#1 → opValid c (opAt 71) = true ∧ (opKey c (opAt 71)).1 = 1 ∧ k0_off147 c = off2 (opKey c (opAt 71)).2 := by decide +kernel
theorem skips71 : ∀ c : Dev nD, ¬ k0_cond57 c = 1#1 → opValid c (opAt 71) = false := by decide +kernel
theorem does72 : ∀ c : Dev nD, k0_cond58 c = 1#1 → opValid c (opAt 72) = true ∧ (opKey c (opAt 72)).1 = 0 ∧ k0_off149 c = off2 (opKey c (opAt 72)).2 := by decide +kernel
theorem skips72 : ∀ c : Dev nD, ¬ k0_cond58 c = 1#1 → opValid c (opAt 72) = false := by decide +kernel
theorem does73 : ∀ c : Dev nD, k0_cond58 c = 1#1 → opValid c (opAt 73) = true ∧ (opKey c (opAt 73)).1 = 0 ∧ k0_off151 c = off2 (opKey c (opAt 73)).2 := by decide +kernel
theorem skips73 : ∀ c : Dev nD, ¬ k0_cond58 c = 1#1 → opValid c (opAt 73) = false := by decide +kernel
theorem does74 : ∀ c : Dev nD, k0_cond58 c = 1#1 → opValid c (opAt 74) = true ∧ (opKey c (opAt 74)).1 = 0 ∧ k0_off153 c = off2 (opKey c (opAt 74)).2 := by decide +kernel
theorem skips74 : ∀ c : Dev nD, ¬ k0_cond58 c = 1#1 → opValid c (opAt 74) = false := by decide +kernel
theorem does75 : ∀ c : Dev nD, k0_cond58 c = 1#1 → opValid c (opAt 75) = true ∧ (opKey c (opAt 75)).1 = 0 ∧ k0_off155 c = off2 (opKey c (opAt 75)).2 := by decide +kernel
theorem skips75 : ∀ c : Dev nD, ¬ k0_cond58 c = 1#1 → opValid c (opAt 75) = false := by decide +kernel
theorem does76 : ∀ c : Dev nD, k0_cond59 c = 1#1 → opValid c (opAt 76) = true ∧ (opKey c (opAt 76)).1 = 1 ∧ k0_off157 c = off2 (opKey c (opAt 76)).2 := by decide +kernel
theorem skips76 : ∀ c : Dev nD, ¬ k0_cond59 c = 1#1 → opValid c (opAt 76) = false := by decide +kernel
theorem does77 : ∀ c : Dev nD, k0_cond59 c = 1#1 → opValid c (opAt 77) = true ∧ (opKey c (opAt 77)).1 = 1 ∧ k0_off159 c = off2 (opKey c (opAt 77)).2 := by decide +kernel
theorem skips77 : ∀ c : Dev nD, ¬ k0_cond59 c = 1#1 → opValid c (opAt 77) = false := by decide +kernel
theorem does78 : ∀ c : Dev nD, k0_cond59 c = 1#1 → opValid c (opAt 78) = true ∧ (opKey c (opAt 78)).1 = 1 ∧ k0_off161 c = off2 (opKey c (opAt 78)).2 := by decide +kernel
theorem skips78 : ∀ c : Dev nD, ¬ k0_cond59 c = 1#1 → opValid c (opAt 78) = false := by decide +kernel
theorem does79 : ∀ c : Dev nD, k0_cond59 c = 1#1 → opValid c (opAt 79) = true ∧ (opKey c (opAt 79)).1 = 1 ∧ k0_off163 c = off2 (opKey c (opAt 79)).2 := by decide +kernel
theorem skips79 : ∀ c : Dev nD, ¬ k0_cond59 c = 1#1 → opValid c (opAt 79) = false := by decide +kernel

/-- From the send waits on nothing is left to send. -/
theorem all_sent : ∀ n : Fin 80, 56 ≤ n.val → ∀ c : Dev nD, ∀ k, unsent n.val c k = false := by decide +kernel

end Cert.KernelIdeal.Att

end
-- ==== Proof.IdealComm.lean ====
/-
# The transfers of the program

The parts of the program that only move data, each carrying a device's state over its transfers.
-/
module

public import proofs.«01_k».proof.Proof.IdealFacts

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-! ## Guarded operations -/

/-- Run on device `c` from `P`, the program ends with `Q`. -/
def Run (c : Dev nD) {β : Type} (P : sProp 𝕄) (p : Prog (TpuEff nD τ sig (Elt F) Λ₀ .tc) β) (Q : β → sProp 𝕄) : Prop :=
  P ⊢ wp frame (wpE (defs₀ (F := F)) 𝒱₀ c none) Set.univ p Q

theorem seq_two {c : Dev nD} {α β : Type} {P P₁ : sProp 𝕄} {Q : β → sProp 𝕄}
    {p : Prog (TpuEff nD τ sig (Elt F) Λ₀ .tc) α} {q : α → Prog (TpuEff nD τ sig (Elt F) Λ₀ .tc) β}
    (h1 : Run c P p (fun _ => P₁)) (h2 : ∀ a, Run c P₁ (q a) Q) : Run c P (p >>= q) Q := by
  unfold Run at *
  rw [wp_bind]
  exact h1.trans (wp_mono _ _ _ h2)

theorem ret_same {c : Dev nD} {β : Type} {P : sProp 𝕄} {x : β} :
    Run c P (pure x : Prog (TpuEff nD τ sig (Elt F) Λ₀ .tc) β) (fun _ => P) :=
  le_wp_ret _ _ _ x (fun _ => P)

theorem Run.pre {c : Dev nD} {β : Type} {P P' : sProp 𝕄} {Q : β → sProp 𝕄} {p : Prog (TpuEff nD τ sig (Elt F) Λ₀ .tc) β}
    (h : P ⊢ P') (hr : Run c P' p Q) : Run c P p Q := h.trans hr

/-- One guarded operation before the rest. -/
theorem if_one {c : Dev nD} {β : Type} {P P' : sProp 𝕄} {Q : β → sProp 𝕄} {cond : Prop} {hdec : Decidable cond}
    {rest : Prog (TpuEff nD τ sig (Elt F) Λ₀ .tc) β} {w : cond → Prog (TpuEff nD τ sig (Elt F) Λ₀ .tc) PUnit}
    (h1 : ∀ h, Run c P (w h) (fun _ => P')) (h2 : ¬ cond → P ⊢ P') (hr : Run c P' rest Q) :
    Run c P (if h : cond then (w h >>= fun _ => rest) else rest : Prog (TpuEff nD τ sig (Elt F) Λ₀ .tc) β) Q := by
  by_cases h : cond
  · rw [dif_pos h]; exact seq_two (h1 h) fun _ => hr
  · rw [dif_neg h]; exact hr.pre (h2 h)

/-- A guarded group: a part and two operations. -/
theorem if_three {c : Dev nD} {α β : Type} {P P₁ P₂ P' : sProp 𝕄} {Q : β → sProp 𝕄} {cond : Prop} {hdec : Decidable cond}
    {rest : Prog (TpuEff nD τ sig (Elt F) Λ₀ .tc) β} {u : cond → Prog (TpuEff nD τ sig (Elt F) Λ₀ .tc) α}
    {v w : cond → α → Prog (TpuEff nD τ sig (Elt F) Λ₀ .tc) PUnit}
    (h1 : ∀ h, Run c P (u h) (fun _ => P₁)) (h2 : ∀ h a, Run c P₁ (v h a) (fun _ => P₂)) (h3 : ∀ h a, Run c P₂ (w h a) (fun _ => P'))
    (h4 : ¬ cond → P ⊢ P') (hr : Run c P' rest Q) :
    Run c P (if h : cond then (u h >>= fun a => v h a >>= fun _ => w h a >>= fun _ => rest) else rest : Prog (TpuEff nD τ sig (Elt F) Λ₀ .tc) β) Q := by
  by_cases h : cond
  · rw [dif_pos h]; exact seq_two (h1 h) fun a => seq_two (h2 h a) fun _ => seq_two (h3 h a) fun _ => hr
  · rw [dif_neg h]; exact hr.pre (h4 h)

/-! ## The parts -/

theorem part1_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v6 : BitVec 32) (k0_h4 : k0_cond4 d0 = 1#1) :
    Run d0 (St m ρ K 0 d0) (k0_part1 arg0 harg0 arg1 harg1 arg2 harg2 arg3 harg3 (Memref.whole cc0_scratch0) (Memref.isWhole_whole _) cc0_scratch1 cc0_scratch2 cc0_scratch3 cc0_scratch4 d0 v2 v6 k0_h4) (fun _ => St m ρ K 2 d0) := by
  rw [k0_part1_eq_skeleton]
  unfold k0_part1_skel
  refine seq_two (P₁ := St m ρ K 1 d0) (do_send m ρ K 0 d0 (by decide) (does0 d0 k0_h4).1 (by exact semS0 _ (does0 d0 k0_h4).2.1 (does0 d0 k0_h4).2.2.1) (by exact semR0 _ (does0 d0 k0_h4).2.1 (does0 d0 k0_h4).2.2.1) (by exact Fin.ext (does0 d0 k0_h4).2.2.2.2) (by exact mem_slot _ (does0 d0 k0_h4).2.2.2.1) (by exact mem_slot _ (does0 d0 k0_h4).2.2.2.1)) fun _ => ?_
  refine seq_two (P₁ := St m ρ K 2 d0) (do_send m ρ K 1 d0 (by decide) (does1 d0 k0_h4).1 (by exact semS0 _ (does1 d0 k0_h4).2.1 (does1 d0 k0_h4).2.2.1) (by exact semR0 _ (does1 d0 k0_h4).2.1 (does1 d0 k0_h4).2.2.1) (by exact Fin.ext (does1 d0 k0_h4).2.2.2.2) (by exact mem_slot _ (does1 d0 k0_h4).2.2.2.1) (by exact mem_slot _ (does1 d0 k0_h4).2.2.2.1)) fun _ => ?_
  exact ret_same

theorem part2_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v8 : BitVec 32) (k0_h5 : k0_cond5 d0 = 1#1) :
    Run d0 (St m ρ K 4 d0) (k0_part2 arg0 harg0 arg1 harg1 arg2 harg2 arg3 harg3 (Memref.whole cc0_scratch0) (Memref.isWhole_whole _) cc0_scratch1 cc0_scratch2 cc0_scratch3 cc0_scratch4 d0 v2 v8 k0_h5) (fun _ => St m ρ K 6 d0) := by
  rw [k0_part2_eq_skeleton]
  unfold k0_part2_skel
  refine seq_two (P₁ := St m ρ K 5 d0) (do_send m ρ K 4 d0 (by decide) (does4 d0 k0_h5).1 (by exact semS1 _ (does4 d0 k0_h5).2.1 (does4 d0 k0_h5).2.2.1) (by exact semR1 _ (does4 d0 k0_h5).2.1 (does4 d0 k0_h5).2.2.1) (by exact Fin.ext (does4 d0 k0_h5).2.2.2.2) (by exact mem_slot _ (does4 d0 k0_h5).2.2.2.1) (by exact mem_slot _ (does4 d0 k0_h5).2.2.2.1)) fun _ => ?_
  refine seq_two (P₁ := St m ρ K 6 d0) (do_send m ρ K 5 d0 (by decide) (does5 d0 k0_h5).1 (by exact semS1 _ (does5 d0 k0_h5).2.1 (does5 d0 k0_h5).2.2.1) (by exact semR1 _ (does5 d0 k0_h5).2.1 (does5 d0 k0_h5).2.2.1) (by exact Fin.ext (does5 d0 k0_h5).2.2.2.2) (by exact mem_slot _ (does5 d0 k0_h5).2.2.2.1) (by exact mem_slot _ (does5 d0 k0_h5).2.2.2.1)) fun _ => ?_
  exact ret_same

theorem part3_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h54 : k0_cond54 d0 = 1#1) :
    Run d0 (St m ρ K 56 d0) (k0_part3 arg0 harg0 arg1 harg1 arg2 harg2 arg3 harg3 (Memref.whole cc0_scratch0) (Memref.isWhole_whole _) cc0_scratch1 cc0_scratch2 cc0_scratch3 cc0_scratch4 d0 v2 k0_h54) (fun _ => St m ρ K 58 d0) := by
  rw [k0_part3_eq_skeleton]
  unfold k0_part3_skel
  refine seq_two (P₁ := St m ρ K 57 d0) (wait_send m ρ K 56 d0 (by decide) (does56 d0 k0_h54).1 (by exact semS0 _ (does56 d0 k0_h54).2.1 (does56 d0 k0_h54).2.2) (by exact credit_mem) (all_sent 56 (by decide) d0)) fun _ => ?_
  refine seq_two (P₁ := St m ρ K 58 d0) (wait_send m ρ K 57 d0 (by decide) (does57 d0 k0_h54).1 (by exact semS0 _ (does57 d0 k0_h54).2.1 (does57 d0 k0_h54).2.2) (by exact credit_mem) (all_sent 57 (by decide) d0)) fun _ => ?_
  exact ret_same

theorem part4_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h55 : k0_cond55 d0 = 1#1) :
    Run d0 (St m ρ K 60 d0) (k0_part4 arg0 harg0 arg1 harg1 arg2 harg2 arg3 harg3 (Memref.whole cc0_scratch0) (Memref.isWhole_whole _) cc0_scratch1 cc0_scratch2 cc0_scratch3 cc0_scratch4 d0 v2 k0_h55) (fun _ => St m ρ K 62 d0) := by
  rw [k0_part4_eq_skeleton]
  unfold k0_part4_skel
  refine seq_two (P₁ := St m ρ K 61 d0) (wait_send m ρ K 60 d0 (by decide) (does60 d0 k0_h55).1 (by exact semS1 _ (does60 d0 k0_h55).2.1 (does60 d0 k0_h55).2.2) (by exact credit_mem) (all_sent 60 (by decide) d0)) fun _ => ?_
  refine seq_two (P₁ := St m ρ K 62 d0) (wait_send m ρ K 61 d0 (by decide) (does61 d0 k0_h55).1 (by exact semS1 _ (does61 d0 k0_h55).2.1 (does61 d0 k0_h55).2.2) (by exact credit_mem) (all_sent 61 (by decide) d0)) fun _ => ?_
  exact ret_same

theorem part5_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h56 : k0_cond56 d0 = 1#1) :
    Run d0 (St m ρ K 64 d0) (k0_part5 arg0 harg0 arg1 harg1 arg2 harg2 arg3 harg3 (Memref.whole cc0_scratch0) (Memref.isWhole_whole _) cc0_scratch1 cc0_scratch2 cc0_scratch3 cc0_scratch4 d0 v2 k0_h56) (fun _ => St m ρ K 66 d0) := by
  rw [k0_part5_eq_skeleton]
  unfold k0_part5_skel
  refine seq_two (P₁ := St m ρ K 65 d0) (wait_send m ρ K 64 d0 (by decide) (does64 d0 k0_h56).1 (by exact semS0 _ (does64 d0 k0_h56).2.1 (does64 d0 k0_h56).2.2) (by exact credit_mem) (all_sent 64 (by decide) d0)) fun _ => ?_
  refine seq_two (P₁ := St m ρ K 66 d0) (wait_send m ρ K 65 d0 (by decide) (does65 d0 k0_h56).1 (by exact semS0 _ (does65 d0 k0_h56).2.1 (does65 d0 k0_h56).2.2) (by exact credit_mem) (all_sent 65 (by decide) d0)) fun _ => ?_
  exact ret_same

theorem part6_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h57 : k0_cond57 d0 = 1#1) :
    Run d0 (St m ρ K 68 d0) (k0_part6 arg0 harg0 arg1 harg1 arg2 harg2 arg3 harg3 (Memref.whole cc0_scratch0) (Memref.isWhole_whole _) cc0_scratch1 cc0_scratch2 cc0_scratch3 cc0_scratch4 d0 v2 k0_h57) (fun _ => St m ρ K 70 d0) := by
  rw [k0_part6_eq_skeleton]
  unfold k0_part6_skel
  refine seq_two (P₁ := St m ρ K 69 d0) (wait_send m ρ K 68 d0 (by decide) (does68 d0 k0_h57).1 (by exact semS1 _ (does68 d0 k0_h57).2.1 (does68 d0 k0_h57).2.2) (by exact credit_mem) (all_sent 68 (by decide) d0)) fun _ => ?_
  refine seq_two (P₁ := St m ρ K 70 d0) (wait_send m ρ K 69 d0 (by decide) (does69 d0 k0_h57).1 (by exact semS1 _ (does69 d0 k0_h57).2.1 (does69 d0 k0_h57).2.2) (by exact credit_mem) (all_sent 69 (by decide) d0)) fun _ => ?_
  exact ret_same

theorem part7_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h58 : k0_cond58 d0 = 1#1) :
    Run d0 (St m ρ K 72 d0) (k0_part7 arg0 harg0 arg1 harg1 arg2 harg2 arg3 harg3 (Memref.whole cc0_scratch0) (Memref.isWhole_whole _) cc0_scratch1 cc0_scratch2 cc0_scratch3 cc0_scratch4 d0 v2 k0_h58) (fun _ => St m ρ K 74 d0) := by
  rw [k0_part7_eq_skeleton]
  unfold k0_part7_skel
  refine seq_two (P₁ := St m ρ K 73 d0) (wait_send m ρ K 72 d0 (by decide) (does72 d0 k0_h58).1 (by exact semS0 _ (does72 d0 k0_h58).2.1 (does72 d0 k0_h58).2.2) (by exact credit_mem) (all_sent 72 (by decide) d0)) fun _ => ?_
  refine seq_two (P₁ := St m ρ K 74 d0) (wait_send m ρ K 73 d0 (by decide) (does73 d0 k0_h58).1 (by exact semS0 _ (does73 d0 k0_h58).2.1 (does73 d0 k0_h58).2.2) (by exact credit_mem) (all_sent 73 (by decide) d0)) fun _ => ?_
  exact ret_same

theorem part8_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (k0_h59 : k0_cond59 d0 = 1#1) :
    Run d0 (St m ρ K 76 d0) (k0_part8 arg0 harg0 arg1 harg1 arg2 harg2 arg3 harg3 (Memref.whole cc0_scratch0) (Memref.isWhole_whole _) cc0_scratch1 cc0_scratch2 cc0_scratch3 cc0_scratch4 d0 v2 k0_h59) (fun _ => St m ρ K 78 d0) := by
  rw [k0_part8_eq_skeleton]
  unfold k0_part8_skel
  refine seq_two (P₁ := St m ρ K 77 d0) (wait_send m ρ K 76 d0 (by decide) (does76 d0 k0_h59).1 (by exact semS1 _ (does76 d0 k0_h59).2.1 (does76 d0 k0_h59).2.2) (by exact credit_mem) (all_sent 76 (by decide) d0)) fun _ => ?_
  refine seq_two (P₁ := St m ρ K 78 d0) (wait_send m ρ K 77 d0 (by decide) (does77 d0 k0_h59).1 (by exact semS1 _ (does77 d0 k0_h59).2.1 (does77 d0 k0_h59).2.2) (by exact credit_mem) (all_sent 77 (by decide) d0)) fun _ => ?_
  exact ret_same

set_option maxHeartbeats 4000000 in
theorem part11_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v54 : BitVec 32) (v56 : BitVec 32) :
    Run d0 (St m ρ K 8 d0) (k0_part11 arg0 harg0 arg1 harg1 arg2 harg2 arg3 harg3 (Memref.whole cc0_scratch0) (Memref.isWhole_whole _) cc0_scratch1 cc0_scratch2 cc0_scratch3 cc0_scratch4 d0 v2 v3 v4 v6 v8 v54 v56) (fun _ => St m ρ K 16 d0) := by
  rw [k0_part11_eq_skeleton]
  unfold k0_part11_skel
  refine if_one (P' := St m ρ K 9 d0) ?_ ?_ ?_
  · intro h; exact wait_recv m ρ K 8 d0 (by decide) (does8 d0 h).1 (by exact semR0 _ (does8 d0 h).2.1 (does8 d0 h).2.2) (by exact credit_mem)
  · exact fun h => skip m ρ K 8 d0 (skips8 d0 h)
  refine if_one (P' := St m ρ K 10 d0) ?_ ?_ ?_
  · intro h; exact do_send m ρ K 9 d0 (by decide) (does9 d0 h).1 (by exact semS0 _ (does9 d0 h).2.1 (does9 d0 h).2.2.1) (by exact semR0 _ (does9 d0 h).2.1 (does9 d0 h).2.2.1) (by exact Fin.ext (does9 d0 h).2.2.2.2) (by exact mem_slot _ (does9 d0 h).2.2.2.1) (by exact mem_slot _ (does9 d0 h).2.2.2.1)
  · exact fun h => skip m ρ K 9 d0 (skips9 d0 h)
  refine if_one (P' := St m ρ K 11 d0) ?_ ?_ ?_
  · intro h; exact wait_recv m ρ K 10 d0 (by decide) (does10 d0 h).1 (by exact semR1 _ (does10 d0 h).2.1 (does10 d0 h).2.2) (by exact credit_mem)
  · exact fun h => skip m ρ K 10 d0 (skips10 d0 h)
  refine if_one (P' := St m ρ K 12 d0) ?_ ?_ ?_
  · intro h; exact do_send m ρ K 11 d0 (by decide) (does11 d0 h).1 (by exact semS1 _ (does11 d0 h).2.1 (does11 d0 h).2.2.1) (by exact semR1 _ (does11 d0 h).2.1 (does11 d0 h).2.2.1) (by exact Fin.ext (does11 d0 h).2.2.2.2) (by exact mem_slot _ (does11 d0 h).2.2.2.1) (by exact mem_slot _ (does11 d0 h).2.2.2.1)
  · exact fun h => skip m ρ K 11 d0 (skips11 d0 h)
  refine if_one (P' := St m ρ K 13 d0) ?_ ?_ ?_
  · intro h; exact wait_recv m ρ K 12 d0 (by decide) (does12 d0 h).1 (by exact semR0 _ (does12 d0 h).2.1 (does12 d0 h).2.2) (by exact credit_mem)
  · exact fun h => skip m ρ K 12 d0 (skips12 d0 h)
  refine if_one (P' := St m ρ K 14 d0) ?_ ?_ ?_
  · intro h; exact do_send m ρ K 13 d0 (by decide) (does13 d0 h).1 (by exact semS0 _ (does13 d0 h).2.1 (does13 d0 h).2.2.1) (by exact semR0 _ (does13 d0 h).2.1 (does13 d0 h).2.2.1) (by exact Fin.ext (does13 d0 h).2.2.2.2) (by exact mem_slot _ (does13 d0 h).2.2.2.1) (by exact mem_slot _ (does13 d0 h).2.2.2.1)
  · exact fun h => skip m ρ K 13 d0 (skips13 d0 h)
  refine if_one (P' := St m ρ K 15 d0) ?_ ?_ ?_
  · intro h; exact wait_recv m ρ K 14 d0 (by decide) (does14 d0 h).1 (by exact semR1 _ (does14 d0 h).2.1 (does14 d0 h).2.2) (by exact credit_mem)
  · exact fun h => skip m ρ K 14 d0 (skips14 d0 h)
  refine if_one (P' := St m ρ K 16 d0) ?_ ?_ ?_
  · intro h; exact do_send m ρ K 15 d0 (by decide) (does15 d0 h).1 (by exact semS1 _ (does15 d0 h).2.1 (does15 d0 h).2.2.1) (by exact semR1 _ (does15 d0 h).2.1 (does15 d0 h).2.2.1) (by exact Fin.ext (does15 d0 h).2.2.2.2) (by exact mem_slot _ (does15 d0 h).2.2.2.1) (by exact mem_slot _ (does15 d0 h).2.2.2.1)
  · exact fun h => skip m ρ K 15 d0 (skips15 d0 h)
  exact ret_same

set_option maxHeartbeats 4000000 in
theorem part12_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v90 : BitVec 32) (c1_i32_60 : BitVec 32) :
    Run d0 (St m ρ K 16 d0) (k0_part12 arg0 harg0 arg1 harg1 arg2 harg2 arg3 harg3 (Memref.whole cc0_scratch0) (Memref.isWhole_whole _) cc0_scratch1 cc0_scratch2 cc0_scratch3 cc0_scratch4 d0 v2 v3 v4 v6 v8 v90 c1_i32_60) (fun _ => St m ρ K 23 d0) := by
  rw [k0_part12_eq_skeleton]
  unfold k0_part12_skel
  refine if_one (P' := St m ρ K 17 d0) ?_ ?_ ?_
  · intro h; exact wait_recv m ρ K 16 d0 (by decide) (does16 d0 h).1 (by exact semR0 _ (does16 d0 h).2.1 (does16 d0 h).2.2) (by exact credit_mem)
  · exact fun h => skip m ρ K 16 d0 (skips16 d0 h)
  refine if_one (P' := St m ρ K 18 d0) ?_ ?_ ?_
  · intro h; exact do_send m ρ K 17 d0 (by decide) (does17 d0 h).1 (by exact semS0 _ (does17 d0 h).2.1 (does17 d0 h).2.2.1) (by exact semR0 _ (does17 d0 h).2.1 (does17 d0 h).2.2.1) (by exact Fin.ext (does17 d0 h).2.2.2.2) (by exact mem_slot _ (does17 d0 h).2.2.2.1) (by exact mem_slot _ (does17 d0 h).2.2.2.1)
  · exact fun h => skip m ρ K 17 d0 (skips17 d0 h)
  refine if_one (P' := St m ρ K 19 d0) ?_ ?_ ?_
  · intro h; exact wait_recv m ρ K 18 d0 (by decide) (does18 d0 h).1 (by exact semR1 _ (does18 d0 h).2.1 (does18 d0 h).2.2) (by exact credit_mem)
  · exact fun h => skip m ρ K 18 d0 (skips18 d0 h)
  refine if_one (P' := St m ρ K 20 d0) ?_ ?_ ?_
  · intro h; exact do_send m ρ K 19 d0 (by decide) (does19 d0 h).1 (by exact semS1 _ (does19 d0 h).2.1 (does19 d0 h).2.2.1) (by exact semR1 _ (does19 d0 h).2.1 (does19 d0 h).2.2.1) (by exact Fin.ext (does19 d0 h).2.2.2.2) (by exact mem_slot _ (does19 d0 h).2.2.2.1) (by exact mem_slot _ (does19 d0 h).2.2.2.1)
  · exact fun h => skip m ρ K 19 d0 (skips19 d0 h)
  refine if_one (P' := St m ρ K 21 d0) ?_ ?_ ?_
  · intro h; exact wait_recv m ρ K 20 d0 (by decide) (does20 d0 h).1 (by exact semR0 _ (does20 d0 h).2.1 (does20 d0 h).2.2) (by exact credit_mem)
  · exact fun h => skip m ρ K 20 d0 (skips20 d0 h)
  refine if_one (P' := St m ρ K 22 d0) ?_ ?_ ?_
  · intro h; exact do_send m ρ K 21 d0 (by decide) (does21 d0 h).1 (by exact semS0 _ (does21 d0 h).2.1 (does21 d0 h).2.2.1) (by exact semR0 _ (does21 d0 h).2.1 (does21 d0 h).2.2.1) (by exact Fin.ext (does21 d0 h).2.2.2.2) (by exact mem_slot _ (does21 d0 h).2.2.2.1) (by exact mem_slot _ (does21 d0 h).2.2.2.1)
  · exact fun h => skip m ρ K 21 d0 (skips21 d0 h)
  refine if_one (P' := St m ρ K 23 d0) ?_ ?_ ?_
  · intro h; exact wait_recv m ρ K 22 d0 (by decide) (does22 d0 h).1 (by exact semR1 _ (does22 d0 h).2.1 (does22 d0 h).2.2) (by exact credit_mem)
  · exact fun h => skip m ρ K 22 d0 (skips22 d0 h)
  exact ret_same

set_option maxHeartbeats 4000000 in
theorem part13_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v110 : BitVec 32) (v123 : BitVec 32) :
    Run d0 (St m ρ K 23 d0) (k0_part13 arg0 harg0 arg1 harg1 arg2 harg2 arg3 harg3 (Memref.whole cc0_scratch0) (Memref.isWhole_whole _) cc0_scratch1 cc0_scratch2 cc0_scratch3 cc0_scratch4 d0 v2 v3 v4 v6 v8 v110 v123) (fun _ => St m ρ K 30 d0) := by
  rw [k0_part13_eq_skeleton]
  unfold k0_part13_skel
  refine if_one (P' := St m ρ K 24 d0) ?_ ?_ ?_
  · intro h; exact do_send m ρ K 23 d0 (by decide) (does23 d0 h).1 (by exact semS1 _ (does23 d0 h).2.1 (does23 d0 h).2.2.1) (by exact semR1 _ (does23 d0 h).2.1 (does23 d0 h).2.2.1) (by exact Fin.ext (does23 d0 h).2.2.2.2) (by exact mem_slot _ (does23 d0 h).2.2.2.1) (by exact mem_slot _ (does23 d0 h).2.2.2.1)
  · exact fun h => skip m ρ K 23 d0 (skips23 d0 h)
  refine if_one (P' := St m ρ K 25 d0) ?_ ?_ ?_
  · intro h; exact wait_recv m ρ K 24 d0 (by decide) (does24 d0 h).1 (by exact semR0 _ (does24 d0 h).2.1 (does24 d0 h).2.2) (by exact credit_mem)
  · exact fun h => skip m ρ K 24 d0 (skips24 d0 h)
  refine if_one (P' := St m ρ K 26 d0) ?_ ?_ ?_
  · intro h; exact do_send m ρ K 25 d0 (by decide) (does25 d0 h).1 (by exact semS0 _ (does25 d0 h).2.1 (does25 d0 h).2.2.1) (by exact semR0 _ (does25 d0 h).2.1 (does25 d0 h).2.2.1) (by exact Fin.ext (does25 d0 h).2.2.2.2) (by exact mem_slot _ (does25 d0 h).2.2.2.1) (by exact mem_slot _ (does25 d0 h).2.2.2.1)
  · exact fun h => skip m ρ K 25 d0 (skips25 d0 h)
  refine if_one (P' := St m ρ K 27 d0) ?_ ?_ ?_
  · intro h; exact wait_recv m ρ K 26 d0 (by decide) (does26 d0 h).1 (by exact semR1 _ (does26 d0 h).2.1 (does26 d0 h).2.2) (by exact credit_mem)
  · exact fun h => skip m ρ K 26 d0 (skips26 d0 h)
  refine if_one (P' := St m ρ K 28 d0) ?_ ?_ ?_
  · intro h; exact do_send m ρ K 27 d0 (by decide) (does27 d0 h).1 (by exact semS1 _ (does27 d0 h).2.1 (does27 d0 h).2.2.1) (by exact semR1 _ (does27 d0 h).2.1 (does27 d0 h).2.2.1) (by exact Fin.ext (does27 d0 h).2.2.2.2) (by exact mem_slot _ (does27 d0 h).2.2.2.1) (by exact mem_slot _ (does27 d0 h).2.2.2.1)
  · exact fun h => skip m ρ K 27 d0 (skips27 d0 h)
  refine if_one (P' := St m ρ K 29 d0) ?_ ?_ ?_
  · intro h; exact wait_recv m ρ K 28 d0 (by decide) (does28 d0 h).1 (by exact semR0 _ (does28 d0 h).2.1 (does28 d0 h).2.2) (by exact credit_mem)
  · exact fun h => skip m ρ K 28 d0 (skips28 d0 h)
  refine if_one (P' := St m ρ K 30 d0) ?_ ?_ ?_
  · intro h; exact do_send m ρ K 29 d0 (by decide) (does29 d0 h).1 (by exact semS0 _ (does29 d0 h).2.1 (does29 d0 h).2.2.1) (by exact semR0 _ (does29 d0 h).2.1 (does29 d0 h).2.2.1) (by exact Fin.ext (does29 d0 h).2.2.2.2) (by exact mem_slot _ (does29 d0 h).2.2.2.1) (by exact mem_slot _ (does29 d0 h).2.2.2.1)
  · exact fun h => skip m ρ K 29 d0 (skips29 d0 h)
  exact ret_same

set_option maxHeartbeats 4000000 in
theorem part14_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v146 : BitVec 32) (v154 : BitVec 1) :
    Run d0 (St m ρ K 30 d0) (k0_part14 arg0 harg0 arg1 harg1 arg2 harg2 arg3 harg3 (Memref.whole cc0_scratch0) (Memref.isWhole_whole _) cc0_scratch1 cc0_scratch2 cc0_scratch3 cc0_scratch4 d0 v2 v3 v4 v6 v8 v146 v154) (fun _ => St m ρ K 37 d0) := by
  rw [k0_part14_eq_skeleton]
  unfold k0_part14_skel
  refine if_one (P' := St m ρ K 31 d0) ?_ ?_ ?_
  · intro h; exact wait_recv m ρ K 30 d0 (by decide) (does30 d0 h).1 (by exact semR1 _ (does30 d0 h).2.1 (does30 d0 h).2.2) (by exact credit_mem)
  · exact fun h => skip m ρ K 30 d0 (skips30 d0 h)
  refine if_one (P' := St m ρ K 32 d0) ?_ ?_ ?_
  · intro h; exact do_send m ρ K 31 d0 (by decide) (does31 d0 h).1 (by exact semS1 _ (does31 d0 h).2.1 (does31 d0 h).2.2.1) (by exact semR1 _ (does31 d0 h).2.1 (does31 d0 h).2.2.1) (by exact Fin.ext (does31 d0 h).2.2.2.2) (by exact mem_slot _ (does31 d0 h).2.2.2.1) (by exact mem_slot _ (does31 d0 h).2.2.2.1)
  · exact fun h => skip m ρ K 31 d0 (skips31 d0 h)
  refine if_one (P' := St m ρ K 33 d0) ?_ ?_ ?_
  · intro h; exact wait_recv m ρ K 32 d0 (by decide) (does32 d0 h).1 (by exact semR0 _ (does32 d0 h).2.1 (does32 d0 h).2.2) (by exact credit_mem)
  · exact fun h => skip m ρ K 32 d0 (skips32 d0 h)
  refine if_one (P' := St m ρ K 34 d0) ?_ ?_ ?_
  · intro h; exact do_send m ρ K 33 d0 (by decide) (does33 d0 h).1 (by exact semS0 _ (does33 d0 h).2.1 (does33 d0 h).2.2.1) (by exact semR0 _ (does33 d0 h).2.1 (does33 d0 h).2.2.1) (by exact Fin.ext (does33 d0 h).2.2.2.2) (by exact mem_slot _ (does33 d0 h).2.2.2.1) (by exact mem_slot _ (does33 d0 h).2.2.2.1)
  · exact fun h => skip m ρ K 33 d0 (skips33 d0 h)
  refine if_one (P' := St m ρ K 35 d0) ?_ ?_ ?_
  · intro h; exact wait_recv m ρ K 34 d0 (by decide) (does34 d0 h).1 (by exact semR1 _ (does34 d0 h).2.1 (does34 d0 h).2.2) (by exact credit_mem)
  · exact fun h => skip m ρ K 34 d0 (skips34 d0 h)
  refine if_one (P' := St m ρ K 36 d0) ?_ ?_ ?_
  · intro h; exact do_send m ρ K 35 d0 (by decide) (does35 d0 h).1 (by exact semS1 _ (does35 d0 h).2.1 (does35 d0 h).2.2.1) (by exact semR1 _ (does35 d0 h).2.1 (does35 d0 h).2.2.1) (by exact Fin.ext (does35 d0 h).2.2.2.2) (by exact mem_slot _ (does35 d0 h).2.2.2.1) (by exact mem_slot _ (does35 d0 h).2.2.2.1)
  · exact fun h => skip m ρ K 35 d0 (skips35 d0 h)
  refine if_one (P' := St m ρ K 37 d0) ?_ ?_ ?_
  · intro h; exact wait_recv m ρ K 36 d0 (by decide) (does36 d0 h).1 (by exact semR0 _ (does36 d0 h).2.1 (does36 d0 h).2.2) (by exact credit_mem)
  · exact fun h => skip m ρ K 36 d0 (skips36 d0 h)
  exact ret_same

set_option maxHeartbeats 4000000 in
theorem part15_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v180 : BitVec 32) (v182 : BitVec 32) (c0_i32_124 : BitVec 32) :
    Run d0 (St m ρ K 37 d0) (k0_part15 arg0 harg0 arg1 harg1 arg2 harg2 arg3 harg3 (Memref.whole cc0_scratch0) (Memref.isWhole_whole _) cc0_scratch1 cc0_scratch2 cc0_scratch3 cc0_scratch4 d0 v2 v3 v4 v6 v8 v180 v182 c0_i32_124) (fun _ => St m ρ K 44 d0) := by
  rw [k0_part15_eq_skeleton]
  unfold k0_part15_skel
  refine if_one (P' := St m ρ K 38 d0) ?_ ?_ ?_
  · intro h; exact do_send m ρ K 37 d0 (by decide) (does37 d0 h).1 (by exact semS0 _ (does37 d0 h).2.1 (does37 d0 h).2.2.1) (by exact semR0 _ (does37 d0 h).2.1 (does37 d0 h).2.2.1) (by exact Fin.ext (does37 d0 h).2.2.2.2) (by exact mem_slot _ (does37 d0 h).2.2.2.1) (by exact mem_slot _ (does37 d0 h).2.2.2.1)
  · exact fun h => skip m ρ K 37 d0 (skips37 d0 h)
  refine if_one (P' := St m ρ K 39 d0) ?_ ?_ ?_
  · intro h; exact wait_recv m ρ K 38 d0 (by decide) (does38 d0 h).1 (by exact semR1 _ (does38 d0 h).2.1 (does38 d0 h).2.2) (by exact credit_mem)
  · exact fun h => skip m ρ K 38 d0 (skips38 d0 h)
  refine if_one (P' := St m ρ K 40 d0) ?_ ?_ ?_
  · intro h; exact do_send m ρ K 39 d0 (by decide) (does39 d0 h).1 (by exact semS1 _ (does39 d0 h).2.1 (does39 d0 h).2.2.1) (by exact semR1 _ (does39 d0 h).2.1 (does39 d0 h).2.2.1) (by exact Fin.ext (does39 d0 h).2.2.2.2) (by exact mem_slot _ (does39 d0 h).2.2.2.1) (by exact mem_slot _ (does39 d0 h).2.2.2.1)
  · exact fun h => skip m ρ K 39 d0 (skips39 d0 h)
  refine if_one (P' := St m ρ K 41 d0) ?_ ?_ ?_
  · intro h; exact wait_recv m ρ K 40 d0 (by decide) (does40 d0 h).1 (by exact semR0 _ (does40 d0 h).2.1 (does40 d0 h).2.2) (by exact credit_mem)
  · exact fun h => skip m ρ K 40 d0 (skips40 d0 h)
  refine if_one (P' := St m ρ K 42 d0) ?_ ?_ ?_
  · intro h; exact do_send m ρ K 41 d0 (by decide) (does41 d0 h).1 (by exact semS0 _ (does41 d0 h).2.1 (does41 d0 h).2.2.1) (by exact semR0 _ (does41 d0 h).2.1 (does41 d0 h).2.2.1) (by exact Fin.ext (does41 d0 h).2.2.2.2) (by exact mem_slot _ (does41 d0 h).2.2.2.1) (by exact mem_slot _ (does41 d0 h).2.2.2.1)
  · exact fun h => skip m ρ K 41 d0 (skips41 d0 h)
  refine if_one (P' := St m ρ K 43 d0) ?_ ?_ ?_
  · intro h; exact wait_recv m ρ K 42 d0 (by decide) (does42 d0 h).1 (by exact semR1 _ (does42 d0 h).2.1 (does42 d0 h).2.2) (by exact credit_mem)
  · exact fun h => skip m ρ K 42 d0 (skips42 d0 h)
  refine if_one (P' := St m ρ K 44 d0) ?_ ?_ ?_
  · intro h; exact do_send m ρ K 43 d0 (by decide) (does43 d0 h).1 (by exact semS1 _ (does43 d0 h).2.1 (does43 d0 h).2.2.1) (by exact semR1 _ (does43 d0 h).2.1 (does43 d0 h).2.2.1) (by exact Fin.ext (does43 d0 h).2.2.2.2) (by exact mem_slot _ (does43 d0 h).2.2.2.1) (by exact mem_slot _ (does43 d0 h).2.2.2.1)
  · exact fun h => skip m ρ K 43 d0 (skips43 d0 h)
  exact ret_same

set_option maxHeartbeats 4000000 in
theorem part16_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v216 : BitVec 32) (v217 : BitVec 32) (c2_i32_144 : BitVec 32) :
    Run d0 (St m ρ K 44 d0) (k0_part16 arg0 harg0 arg1 harg1 arg2 harg2 arg3 harg3 (Memref.whole cc0_scratch0) (Memref.isWhole_whole _) cc0_scratch1 cc0_scratch2 cc0_scratch3 cc0_scratch4 d0 v2 v3 v4 v6 v8 v216 v217 c2_i32_144) (fun _ => St m ρ K 51 d0) := by
  rw [k0_part16_eq_skeleton]
  unfold k0_part16_skel
  refine if_one (P' := St m ρ K 45 d0) ?_ ?_ ?_
  · intro h; exact wait_recv m ρ K 44 d0 (by decide) (does44 d0 h).1 (by exact semR0 _ (does44 d0 h).2.1 (does44 d0 h).2.2) (by exact credit_mem)
  · exact fun h => skip m ρ K 44 d0 (skips44 d0 h)
  refine if_one (P' := St m ρ K 46 d0) ?_ ?_ ?_
  · intro h; exact do_send m ρ K 45 d0 (by decide) (does45 d0 h).1 (by exact semS0 _ (does45 d0 h).2.1 (does45 d0 h).2.2.1) (by exact semR0 _ (does45 d0 h).2.1 (does45 d0 h).2.2.1) (by exact Fin.ext (does45 d0 h).2.2.2.2) (by exact mem_slot _ (does45 d0 h).2.2.2.1) (by exact mem_slot _ (does45 d0 h).2.2.2.1)
  · exact fun h => skip m ρ K 45 d0 (skips45 d0 h)
  refine if_one (P' := St m ρ K 47 d0) ?_ ?_ ?_
  · intro h; exact wait_recv m ρ K 46 d0 (by decide) (does46 d0 h).1 (by exact semR1 _ (does46 d0 h).2.1 (does46 d0 h).2.2) (by exact credit_mem)
  · exact fun h => skip m ρ K 46 d0 (skips46 d0 h)
  refine if_one (P' := St m ρ K 48 d0) ?_ ?_ ?_
  · intro h; exact do_send m ρ K 47 d0 (by decide) (does47 d0 h).1 (by exact semS1 _ (does47 d0 h).2.1 (does47 d0 h).2.2.1) (by exact semR1 _ (does47 d0 h).2.1 (does47 d0 h).2.2.1) (by exact Fin.ext (does47 d0 h).2.2.2.2) (by exact mem_slot _ (does47 d0 h).2.2.2.1) (by exact mem_slot _ (does47 d0 h).2.2.2.1)
  · exact fun h => skip m ρ K 47 d0 (skips47 d0 h)
  refine if_one (P' := St m ρ K 49 d0) ?_ ?_ ?_
  · intro h; exact wait_recv m ρ K 48 d0 (by decide) (does48 d0 h).1 (by exact semR0 _ (does48 d0 h).2.1 (does48 d0 h).2.2) (by exact credit_mem)
  · exact fun h => skip m ρ K 48 d0 (skips48 d0 h)
  refine if_one (P' := St m ρ K 50 d0) ?_ ?_ ?_
  · intro h; exact do_send m ρ K 49 d0 (by decide) (does49 d0 h).1 (by exact semS0 _ (does49 d0 h).2.1 (does49 d0 h).2.2.1) (by exact semR0 _ (does49 d0 h).2.1 (does49 d0 h).2.2.1) (by exact Fin.ext (does49 d0 h).2.2.2.2) (by exact mem_slot _ (does49 d0 h).2.2.2.1) (by exact mem_slot _ (does49 d0 h).2.2.2.1)
  · exact fun h => skip m ρ K 49 d0 (skips49 d0 h)
  refine if_one (P' := St m ρ K 51 d0) ?_ ?_ ?_
  · intro h; exact wait_recv m ρ K 50 d0 (by decide) (does50 d0 h).1 (by exact semR1 _ (does50 d0 h).2.1 (does50 d0 h).2.2) (by exact credit_mem)
  · exact fun h => skip m ρ K 50 d0 (skips50 d0 h)
  exact ret_same

set_option maxHeartbeats 4000000 in
theorem part17_ok (arg0 : Memref sig .tc .vmem S2x512x8x64 .bf16) (harg0 : arg0.IsWhole) (arg1 : Memref sig .tc .vmem S2x512x8x64 .bf16) (harg1 : arg1.IsWhole) (arg2 : Memref sig .tc .vmem S2x512x8x64 .bf16) (harg2 : arg2.IsWhole) (arg3 : Memref sig .tc .vmem S2x512x8x64 .f32) (harg3 : arg3.IsWhole) (d0 : Dev nD) (v2 : BitVec 32) (v3 : BitVec 1) (v4 : BitVec 1) (v6 : BitVec 32) (v8 : BitVec 32) (v236 : BitVec 32) :
    Run d0 (St m ρ K 51 d0) (k0_part17 arg0 harg0 arg1 harg1 arg2 harg2 arg3 harg3 (Memref.whole cc0_scratch0) (Memref.isWhole_whole _) cc0_scratch1 cc0_scratch2 cc0_scratch3 cc0_scratch4 d0 v2 v3 v4 v6 v8 v236) (fun _ => St m ρ K 64 d0) := by
  rw [k0_part17_eq_skeleton]
  unfold k0_part17_skel
  refine if_one (P' := St m ρ K 52 d0) ?_ ?_ ?_
  · intro h; exact do_send m ρ K 51 d0 (by decide) (does51 d0 h).1 (by exact semS1 _ (does51 d0 h).2.1 (does51 d0 h).2.2.1) (by exact semR1 _ (does51 d0 h).2.1 (does51 d0 h).2.2.1) (by exact Fin.ext (does51 d0 h).2.2.2.2) (by exact mem_slot _ (does51 d0 h).2.2.2.1) (by exact mem_slot _ (does51 d0 h).2.2.2.1)
  · exact fun h => skip m ρ K 51 d0 (skips51 d0 h)
  refine if_one (P' := St m ρ K 53 d0) ?_ ?_ ?_
  · intro h; exact wait_recv m ρ K 52 d0 (by decide) (does52 d0 h).1 (by exact semR0 _ (does52 d0 h).2.1 (does52 d0 h).2.2) (by exact credit_mem)
  · exact fun h => skip m ρ K 52 d0 (skips52 d0 h)
  refine if_one (P' := St m ρ K 54 d0) ?_ ?_ ?_
  · intro h; exact do_send m ρ K 53 d0 (by decide) (does53 d0 h).1 (by exact semS0 _ (does53 d0 h).2.1 (does53 d0 h).2.2.1) (by exact semR0 _ (does53 d0 h).2.1 (does53 d0 h).2.2.1) (by exact Fin.ext (does53 d0 h).2.2.2.2) (by exact mem_slot _ (does53 d0 h).2.2.2.1) (by exact mem_slot _ (does53 d0 h).2.2.2.1)
  · exact fun h => skip m ρ K 53 d0 (skips53 d0 h)
  refine if_one (P' := St m ρ K 55 d0) ?_ ?_ ?_
  · intro h; exact wait_recv m ρ K 54 d0 (by decide) (does54 d0 h).1 (by exact semR1 _ (does54 d0 h).2.1 (does54 d0 h).2.2) (by exact credit_mem)
  · exact fun h => skip m ρ K 54 d0 (skips54 d0 h)
  refine if_one (P' := St m ρ K 56 d0) ?_ ?_ ?_
  · intro h; exact do_send m ρ K 55 d0 (by decide) (does55 d0 h).1 (by exact semS1 _ (does55 d0 h).2.1 (does55 d0 h).2.2.1) (by exact semR1 _ (does55 d0 h).2.1 (does55 d0 h).2.2.1) (by exact Fin.ext (does55 d0 h).2.2.2.2) (by exact mem_slot _ (does55 d0 h).2.2.2.1) (by exact mem_slot _ (does55 d0 h).2.2.2.1)
  · exact fun h => skip m ρ K 55 d0 (skips55 d0 h)
  refine if_three (P₁ := St m ρ K 58 d0) (P₂ := St m ρ K 59 d0) (P' := St m ρ K 60 d0) ?_ ?_ ?_ ?_ ?_
  · intro h; exact part3_ok m ρ K _ _ _ _ _ _ _ _ _ _ h
  · intro h _; exact wait_send m ρ K 58 d0 (by decide) (does58 d0 h).1 (by exact semS0 _ (does58 d0 h).2.1 (does58 d0 h).2.2) (by exact credit_mem) (all_sent 58 (by decide) d0)
  · intro h _; exact wait_send m ρ K 59 d0 (by decide) (does59 d0 h).1 (by exact semS0 _ (does59 d0 h).2.1 (does59 d0 h).2.2) (by exact credit_mem) (all_sent 59 (by decide) d0)
  · exact fun h => ((skip m ρ K 56 d0 (skips56 d0 h)).trans (skip m ρ K 57 d0 (skips57 d0 h))).trans ((skip m ρ K 58 d0 (skips58 d0 h)).trans (skip m ρ K 59 d0 (skips59 d0 h)))
  refine if_three (P₁ := St m ρ K 62 d0) (P₂ := St m ρ K 63 d0) (P' := St m ρ K 64 d0) ?_ ?_ ?_ ?_ ?_
  · intro h; exact part4_ok m ρ K _ _ _ _ _ _ _ _ _ _ h
  · intro h _; exact wait_send m ρ K 62 d0 (by decide) (does62 d0 h).1 (by exact semS1 _ (does62 d0 h).2.1 (does62 d0 h).2.2) (by exact credit_mem) (all_sent 62 (by decide) d0)
  · intro h _; exact wait_send m ρ K 63 d0 (by decide) (does63 d0 h).1 (by exact semS1 _ (does63 d0 h).2.1 (does63 d0 h).2.2) (by exact credit_mem) (all_sent 63 (by decide) d0)
  · exact fun h => ((skip m ρ K 60 d0 (skips60 d0 h)).trans (skip m ρ K 61 d0 (skips61 d0 h))).trans ((skip m ρ K 62 d0 (skips62 d0 h)).trans (skip m ρ K 63 d0 (skips63 d0 h)))
  exact ret_same

end Cert.KernelIdeal.Att

end
-- ==== Proof.IdealHeads.lean ====
/-
# The sixteen heads

Once the keys and values are gathered the kernel computes one head after another: it reads the head's queries,
and of every chunk its keys and values, and stores the head's result. This module says what each part of the
program computes from the queries and the gathered keys and values, and that together they store `headOut`
of every batch and head.
-/
module

public import proofs.«01_k».proof.Proof.IdealComm

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What one head computes -/

/-- The exponentials of one chunk's scores. -/
def pexp (q k : FVec F S512x64 .bf16) : FVec F S512x512 .f32 :=
  exp (mulf (matmul dot_S512x64_S512x64_S512x512_1_1_0_0_n_n none q k (constant S512x512 .f32 0x00000000#32))
    (broadcast S512x512 (Scalar.ofBits .f32 0x3E000000#32)))
/-- Their sum over the chunk. -/
def psum (p : FVec F S512x512 .f32) : FVec F S512x1 .f32 :=
  shapeCast S512x1 (multiReduction .add [1] S512 p 0x00000000#32 reduces_S512x512_S512 (.inl rfl) rfl) shapeCasts_S512_S512x1
/-- The chunk's values weighted by them. -/
def pmul (p : FVec F S512x512 .f32) (v : FVec F S512x64 .bf16) : FVec F S512x64 .f32 :=
  matmul dot_S512x512_S512x64_S512x64_1_0_0_1_n_n none (truncf .bf16 p bitsLt_bf16_f32) v (constant S512x64 .f32 0x00000000#32)
abbrev castQ (v : Vec F S1x512x1x64 .bf16) : FVec F S512x64 .bf16 := shapeCast S512x64 v shapeCasts_S1x512x1x64_S512x64
abbrev castK (v : Vec F S1x1x512x64 .bf16) : FVec F S512x64 .bf16 := shapeCast S512x64 v shapeCasts_S1x1x512x64_S512x64

/-- A head's result from its queries and the four chunks' keys and values. -/
def headFn (q : FVec F S512x64 .bf16) (k0 k1 k2 k3 v0 v1 v2 v3 : FVec F S512x64 .bf16) : FVec F S1x512x1x64 .f32 :=
  shapeCast S1x512x1x64
    (divf (addf (addf (addf (pmul (pexp q k0) v0) (pmul (pexp q k1) v1)) (pmul (pexp q k2) v2)) (pmul (pexp q k3) v3))
      (broadcastTo S512x64 (addf (addf (addf (psum (pexp q k0)) (psum (pexp q k1))) (psum (pexp q k2))) (psum (pexp q k3)))
        broadcasts_S512x1_S512x64))
    shapeCasts_S512x64_S1x512x1x64

/-! ## The reads and the state -/

abbrev CQ : Type := (cc0_stg0_0 : Ref sig .tc).ty.Contents (Elt F)
abbrev CG : Type := (cc0_scratch0 : Ref sig .tc).ty.Contents (Elt F)
abbrev CO : Type := (cc0_stg3_0 : Ref sig .tc).ty.Contents (Elt F)
abbrev PO : Type := View.Piece (Elt F) S2x512x8x64 .f32

/-- The queries of a batch and head. -/
abbrev rdQ (q : CQ (F := F)) (o : Fin 4 → ℕ) (inb : ∀ i, o i + S1x512x1x64.size i ≤ S2x512x8x64.size i) : Vec F S1x512x1x64 .bf16 :=
  (Memref.whole cc0_stg0_0).view.readAt (Elt F) (Rect.unit (s := S2x512x8x64) o S1x512x1x64.size inb).toLoadRect q
/-- A chunk's keys or values of a head. -/
abbrev rdKV (kv : CG (F := F)) (o : Fin 4 → ℕ) (inb : ∀ i, o i + S1x1x512x64.size i ≤ S4x4x512x512.size i) : Vec F S1x1x512x64 .bf16 :=
  (Memref.whole cc0_scratch0).view.readAt (Elt F) (Rect.unit (s := S4x4x512x512) o S1x1x512x64.size inb).toLoadRect kv
abbrev outW (f : CO (F := F)) (L : List (PO (F := F))) : CO (F := F) := (Memref.whole cc0_stg3_0).view.writes (Elt F) f L
abbrev rdO (o' : CO (F := F)) (o : Fin 4 → ℕ) (inb : ∀ i, o i + S1x512x1x64.size i ≤ S2x512x8x64.size i) : Vec F S1x512x1x64 .f32 :=
  (Memref.whole cc0_stg3_0).view.readAt (Elt F) (Rect.unit (s := S2x512x8x64) o S1x512x1x64.size inb).toLoadRect o'
abbrev pc (o : Fin 4 → ℕ) (inb : ∀ i, o i + S1x512x1x64.size i ≤ S2x512x8x64.size i) (w : Vec F S1x512x1x64 .f32) : PO (F := F) :=
  ⟨Rect.unit (s := S2x512x8x64) o S1x512x1x64.size inb, w⟩

theorem inQ (b : Fin 2) (h : Fin 8) : ∀ i, (![b.val, 0, h.val, 0] : Fin 4 → ℕ) i + S1x512x1x64.size i ≤ S2x512x8x64.size i := by
  revert b h; decide +kernel
theorem inKV (i j : Fin 4) (h : Fin 8) : ∀ a, (![i.val, j.val, 0, 64 * h.val] : Fin 4 → ℕ) a + S1x1x512x64.size a ≤ S4x4x512x512.size a := by
  revert i j h; decide +kernel

/-- The queries of a batch and head; the keys or values of a piece of a chunk. -/
abbrev qOf (q : CQ (F := F)) (b : Fin 2) (h : Fin 8) : FVec F S512x64 .bf16 := castQ (rdQ q ![b.val, 0, h.val, 0] (inQ b h))
abbrev kvOf (kv : CG (F := F)) (i j : Fin 4) (h : Fin 8) : FVec F S512x64 .bf16 := castK (rdKV kv ![i.val, j.val, 0, 64 * h.val] (inKV i j h))
/-- The piece of the keys and that of the values of a batch. -/
abbrev jK (b : Fin 2) : Fin 4 := ⟨b.val, by omega⟩
abbrev jV (b : Fin 2) : Fin 4 := ⟨2 + b.val, by omega⟩

/-- The result of a batch and head. -/
def headOut (q : CQ (F := F)) (kv : CG (F := F)) (b : Fin 2) (h : Fin 8) : Vec F S1x512x1x64 .f32 :=
  headFn (qOf q b h) (kvOf kv 0 (jK b) h) (kvOf kv 1 (jK b) h) (kvOf kv 2 (jK b) h) (kvOf kv 3 (jK b) h)
    (kvOf kv 0 (jV b) h) (kvOf kv 1 (jV b) h) (kvOf kv 2 (jV b) h) (kvOf kv 3 (jV b) h)

/-- The stored piece of a batch and head. -/
abbrev pcOut (q : CQ (F := F)) (kv : CG (F := F)) (b : Fin 2) (h : Fin 8) : PO (F := F) := pc ![b.val, 0, h.val, 0] (inQ b h) (headOut q kv b h)

/-- While the heads are computed: the queries, the gathered keys and values, and the result so far. -/
def Cs (c : Dev nD) (q : CQ (F := F)) (kv : CG (F := F)) (f : CO (F := F)) (L : List (PO (F := F))) : sProp 𝕄 :=
  iprop((((Memref.whole cc0_stg0_0).view.loc (c : Thread nD τ)) ↦{fullShare} q) ∗ (((Memref.whole cc0_scratch0).view.loc (c : Thread nD τ)) ↦{fullShare} kv)
    ∗ (((Memref.whole cc0_stg3_0).view.loc (c : Thread nD τ)) ↦{fullShare} outW f L))

/-- The program ended with the value `x`. -/
def Ret {β : Type} (x : β) (P : sProp 𝕄) : β → sProp 𝕄 := fun a => iprop(⌜a = x⌝ ∗ P)

section Rules
variable {c : Dev nD} {q : CQ (F := F)} {kv : CG (F := F)} {f : CO (F := F)} {L : List (PO (F := F))}

theorem ret_val {β : Type} {P : sProp 𝕄} {x : β} : Run c P (pure x : Prog (TpuEff nD τ sig (Elt F) Λ₀ .tc) β) (Ret x P) := by
  have h : P ⊢ Ret x P x := by
    unfold Ret
    iintro H
    isplitr; · ipureintro; rfl
    iexact H
  exact h.trans (le_wp_ret _ _ _ x (Ret x P))

theorem seq_val {α β : Type} {P P₁ : sProp 𝕄} {Q : β → sProp 𝕄} {x : α}
    {p : Prog (TpuEff nD τ sig (Elt F) Λ₀ .tc) α} {k : α → Prog (TpuEff nD τ sig (Elt F) Λ₀ .tc) β}
    (h1 : Run c P p (Ret x P₁)) (h2 : Run c P₁ (k x) Q) : Run c P (p >>= k) Q := by
  unfold Run at *
  rw [wp_bind]
  refine h1.trans (wp_mono _ _ _ fun a => ?_)
  unfold Ret
  iintro ⟨%h, H⟩
  subst h
  iapply h2; iexact H

theorem ld_q {β : Type} {Q : β → sProp 𝕄} {r : LoadRect S2x512x8x64} {hl : (Memref.whole cc0_stg0_0 : Memref sig .tc .vmem S2x512x8x64 .bf16).view.LoadsAt r}
    {k : (r.shape.Idx → Elt F .bf16) → Prog (TpuEff nD τ sig (Elt F) Λ₀ .tc) β}
    (h : Run c (Cs c q kv f L) (k ((Memref.whole cc0_stg0_0).view.readAt (Elt F) r q)) Q) :
    Run c (Cs c q kv f L) (Prog.lift (.load (Memref.whole cc0_stg0_0) r hl) >>= k) Q := by
  unfold Run Cs at *
  simp only [Prog.lift, Prog.bind_op, Prog.bind_ret]
  iintro ⟨H1, H2, H3⟩
  iapply (wp_load 𝒱₀ (c : Thread nD τ) none Set.univ (m := Memref.whole cc0_stg0_0) (Finset.subset_univ _)) $$ H1; iintro H1
  iapply h
  isplitl [H1]; · iexact H1
  isplitl [H2] <;> iassumption

theorem ld_kv {β : Type} {Q : β → sProp 𝕄} {r : LoadRect S4x4x512x512} {hl : (Memref.whole cc0_scratch0 : Memref sig .tc .vmem S4x4x512x512 .bf16).view.LoadsAt r}
    {k : (r.shape.Idx → Elt F .bf16) → Prog (TpuEff nD τ sig (Elt F) Λ₀ .tc) β}
    (h : Run c (Cs c q kv f L) (k ((Memref.whole cc0_scratch0).view.readAt (Elt F) r kv)) Q) :
    Run c (Cs c q kv f L) (Prog.lift (.load (Memref.whole cc0_scratch0) r hl) >>= k) Q := by
  unfold Run Cs at *
  simp only [Prog.lift, Prog.bind_op, Prog.bind_ret]
  iintro ⟨H1, H2, H3⟩
  iapply (wp_load 𝒱₀ (c : Thread nD τ) none Set.univ (m := Memref.whole cc0_scratch0) (Finset.subset_univ _)) $$ H2; iintro H2
  iapply h
  isplitl [H1]; · iexact H1
  isplitl [H2] <;> iassumption

theorem ld_o {β : Type} {Q : β → sProp 𝕄} {r : LoadRect S2x512x8x64} {hl : (Memref.whole cc0_stg3_0 : Memref sig .tc .vmem S2x512x8x64 .f32).view.LoadsAt r}
    {k : (r.shape.Idx → Elt F .f32) → Prog (TpuEff nD τ sig (Elt F) Λ₀ .tc) β}
    (h : Run c (Cs c q kv f L) (k ((Memref.whole cc0_stg3_0).view.readAt (Elt F) r (outW f L))) Q) :
    Run c (Cs c q kv f L) (Prog.lift (.load (Memref.whole cc0_stg3_0) r hl) >>= k) Q := by
  unfold Run Cs at *
  simp only [Prog.lift, Prog.bind_op, Prog.bind_ret]
  iintro ⟨H1, H2, H3⟩
  iapply (wp_load 𝒱₀ (c : Thread nD τ) none Set.univ (m := Memref.whole cc0_stg3_0) (Finset.subset_univ _)) $$ H3; iintro H3
  iapply h
  isplitl [H1]; · iexact H1
  isplitl [H2] <;> iassumption

theorem st_o {β : Type} {Q : β → sProp 𝕄} {r : Rect S2x512x8x64} {w : r.shape.Idx → Elt F .f32}
    {hx : ((Memref.whole cc0_stg3_0 : Memref sig .tc .vmem S2x512x8x64 .f32).access r).Stores Finset.univ} {hm : Finset.univ = Finset.univ ∨ ∀ a, r.stride a = 1}
    {k : PUnit → Prog (TpuEff nD τ sig (Elt F) Λ₀ .tc) β}
    (h : Run c (Cs c q kv f (⟨r, w⟩ :: L)) (k ⟨⟩) Q) :
    Run c (Cs c q kv f L) (Prog.lift (.store (Memref.whole cc0_stg3_0) r w Finset.univ hx hm) >>= k) Q := by
  unfold Run Cs at *
  simp only [Prog.lift, Prog.bind_op, Prog.bind_ret]
  iintro ⟨H1, H2, H3⟩
  iapply (wp_store_writes 𝒱₀ (c : Thread nD τ) none Set.univ (m := Memref.whole cc0_stg3_0) (r := r) (Finset.subset_univ _)) $$ H3; iintro H3
  iapply h
  isplitl [H1]; · iexact H1
  isplitl [H2] <;> iassumption

end Rules

/-! ## The parts -/

section Parts
variable {c : Dev nD} {q : CQ (F := F)} {kv : CG (F := F)} {f : CO (F := F)} {L : List (PO (F := F))}

theorem head19_ok (v300 : FVec F S512x64 .bf16) (v308 : FVec F S512x1 .f32) (v312 : FVec F S512x64 .f32) :
    Run c (Cs c q kv f L) (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v300 v308 v312)
      (Ret ⟨k0_pay13 v300 v312 (rdKV kv ![1, 0, 0, 0] inb_S4x4x512x512_S1x1x512x64_1_0_0_0) (rdKV kv ![1, 2, 0, 0] inb_S4x4x512x512_S1x1x512x64_1_2_0_0) (rdKV kv ![2, 0, 0, 0] inb_S4x4x512x512_S1x1x512x64_2_0_0_0) (rdKV kv ![2, 2, 0, 0] inb_S4x4x512x512_S1x1x512x64_2_2_0_0), k0_pay14 v300 v308 (rdKV kv ![1, 0, 0, 0] inb_S4x4x512x512_S1x1x512x64_1_0_0_0) (rdKV kv ![2, 0, 0, 0] inb_S4x4x512x512_S1x1x512x64_2_0_0_0), k0_pay15 v300 (rdKV kv ![3, 0, 0, 0] inb_S4x4x512x512_S1x1x512x64_3_0_0_0), (Scalar.ofBits .f32 0x3E000000#32)⟩ (Cs c q kv f (L))) := by
  rw [k0_part19_eq_skeleton]
  unfold k0_part19_skel
  refine ld_kv ?_
  refine ld_kv ?_
  refine ld_kv ?_
  refine ld_kv ?_
  refine ld_kv ?_
  exact ret_val

theorem head20_ok (v339 : FVec F S512x64 .f32) (v340 : FVec F S512x1 .f32) (v343 : FVec F S512x512 .f32) (cst_239 : F .f32) :
    Run c (Cs c q kv f L) (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v339 v340 v343 cst_239)
      (Ret ⟨k0_pay17 (rdQ q ![0, 0, 1, 0] inb_S2x512x8x64_S1x512x1x64_0_0_1_0), k0_pay19 (rdQ q ![0, 0, 1, 0] inb_S2x512x8x64_S1x512x1x64_0_0_1_0) (rdKV kv ![0, 0, 0, 64] inb_S4x4x512x512_S1x1x512x64_0_0_0_64), k0_pay20 (rdQ q ![0, 0, 1, 0] inb_S2x512x8x64_S1x512x1x64_0_0_1_0) (rdKV kv ![0, 0, 0, 64] inb_S4x4x512x512_S1x1x512x64_0_0_0_64) (rdKV kv ![0, 2, 0, 64] inb_S4x4x512x512_S1x1x512x64_0_2_0_64)⟩ (Cs c q kv f (pc ![0, 0, 0, 0] inb_S2x512x8x64_S1x512x1x64_0_0_0_0 (k0_pay16 v339 v340 v343 cst_239 (rdKV kv ![3, 2, 0, 0] inb_S4x4x512x512_S1x1x512x64_3_2_0_0)) :: L))) := by
  rw [k0_part20_eq_skeleton]
  unfold k0_part20_skel
  refine ld_kv ?_
  refine ld_o ?_
  refine st_o ?_
  refine ld_q ?_
  refine ld_kv ?_
  refine ld_kv ?_
  exact ret_val

theorem head21_ok (v361 : FVec F S512x64 .bf16) (v369 : FVec F S512x1 .f32) (v373 : FVec F S512x64 .f32) :
    Run c (Cs c q kv f L) (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v361 v369 v373)
      (Ret ⟨k0_pay23 v361 v373 (rdKV kv ![1, 0, 0, 64] inb_S4x4x512x512_S1x1x512x64_1_0_0_64) (rdKV kv ![1, 2, 0, 64] inb_S4x4x512x512_S1x1x512x64_1_2_0_64) (rdKV kv ![2, 0, 0, 64] inb_S4x4x512x512_S1x1x512x64_2_0_0_64) (rdKV kv ![2, 2, 0, 64] inb_S4x4x512x512_S1x1x512x64_2_2_0_64), k0_pay24 v361 v369 (rdKV kv ![1, 0, 0, 64] inb_S4x4x512x512_S1x1x512x64_1_0_0_64) (rdKV kv ![2, 0, 0, 64] inb_S4x4x512x512_S1x1x512x64_2_0_0_64), k0_pay25 v361 (rdKV kv ![3, 0, 0, 64] inb_S4x4x512x512_S1x1x512x64_3_0_0_64)⟩ (Cs c q kv f (L))) := by
  rw [k0_part21_eq_skeleton]
  unfold k0_part21_skel
  refine ld_kv ?_
  refine ld_kv ?_
  refine ld_kv ?_
  refine ld_kv ?_
  refine ld_kv ?_
  exact ret_val

theorem head22_ok (v400 : FVec F S512x64 .f32) (v401 : FVec F S512x1 .f32) (v406 : FVec F S512x512 .f32) :
    Run c (Cs c q kv f L) (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v400 v401 v406)
      (Ret ⟨k0_pay27 (rdQ q ![0, 0, 2, 0] inb_S2x512x8x64_S1x512x1x64_0_0_2_0), k0_pay29 (rdQ q ![0, 0, 2, 0] inb_S2x512x8x64_S1x512x1x64_0_0_2_0) (rdKV kv ![0, 0, 0, 128] inb_S4x4x512x512_S1x1x512x64_0_0_0_128), k0_pay30 (rdQ q ![0, 0, 2, 0] inb_S2x512x8x64_S1x512x1x64_0_0_2_0) (rdKV kv ![0, 0, 0, 128] inb_S4x4x512x512_S1x1x512x64_0_0_0_128) (rdKV kv ![0, 2, 0, 128] inb_S4x4x512x512_S1x1x512x64_0_2_0_128), (rdKV kv ![1, 0, 0, 128] inb_S4x4x512x512_S1x1x512x64_1_0_0_128)⟩ (Cs c q kv f (pc ![0, 0, 1, 0] inb_S2x512x8x64_S1x512x1x64_0_0_1_0 (k0_pay26 v400 v401 v406 (rdKV kv ![3, 2, 0, 64] inb_S4x4x512x512_S1x1x512x64_3_2_0_64)) :: L))) := by
  rw [k0_part22_eq_skeleton]
  unfold k0_part22_skel
  refine ld_kv ?_
  refine ld_o ?_
  refine st_o ?_
  refine ld_q ?_
  refine ld_kv ?_
  refine ld_kv ?_
  refine ld_kv ?_
  exact ret_val

theorem head23_ok (v422 : FVec F S512x64 .bf16) (v430 : FVec F S512x1 .f32) (v434 : FVec F S512x64 .f32) (v435 : Vec F S1x1x512x64 .bf16) :
    Run c (Cs c q kv f L) (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v422 v430 v434 v435)
      (Ret ⟨k0_pay33 v422 v434 v435 (rdKV kv ![1, 2, 0, 128] inb_S4x4x512x512_S1x1x512x64_1_2_0_128) (rdKV kv ![2, 0, 0, 128] inb_S4x4x512x512_S1x1x512x64_2_0_0_128) (rdKV kv ![2, 2, 0, 128] inb_S4x4x512x512_S1x1x512x64_2_2_0_128), k0_pay34 v422 v430 v435 (rdKV kv ![2, 0, 0, 128] inb_S4x4x512x512_S1x1x512x64_2_0_0_128), k0_pay35 v422 (rdKV kv ![3, 0, 0, 128] inb_S4x4x512x512_S1x1x512x64_3_0_0_128)⟩ (Cs c q kv f (L))) := by
  rw [k0_part23_eq_skeleton]
  unfold k0_part23_skel
  refine ld_kv ?_
  refine ld_kv ?_
  refine ld_kv ?_
  refine ld_kv ?_
  exact ret_val

theorem head24_ok (v461 : FVec F S512x64 .f32) (v462 : FVec F S512x1 .f32) (v468 : FVec F S512x512 .f32) :
    Run c (Cs c q kv f L) (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v461 v462 v468)
      (Ret ⟨k0_pay37 (rdQ q ![0, 0, 3, 0] inb_S2x512x8x64_S1x512x1x64_0_0_3_0), k0_pay39 (rdQ q ![0, 0, 3, 0] inb_S2x512x8x64_S1x512x1x64_0_0_3_0) (rdKV kv ![0, 0, 0, 192] inb_S4x4x512x512_S1x1x512x64_0_0_0_192), k0_pay40 (rdQ q ![0, 0, 3, 0] inb_S2x512x8x64_S1x512x1x64_0_0_3_0) (rdKV kv ![0, 0, 0, 192] inb_S4x4x512x512_S1x1x512x64_0_0_0_192) (rdKV kv ![0, 2, 0, 192] inb_S4x4x512x512_S1x1x512x64_0_2_0_192), k0_pay41 (rdKV kv ![1, 0, 0, 192] inb_S4x4x512x512_S1x1x512x64_1_0_0_192), (constant S512x512 .f32 0x00000000#32)⟩ (Cs c q kv f (pc ![0, 0, 2, 0] inb_S2x512x8x64_S1x512x1x64_0_0_2_0 (k0_pay36 v461 v462 v468 (rdKV kv ![3, 2, 0, 128] inb_S4x4x512x512_S1x1x512x64_3_2_0_128)) :: L))) := by
  rw [k0_part24_eq_skeleton]
  unfold k0_part24_skel
  refine ld_kv ?_
  refine ld_o ?_
  refine st_o ?_
  refine ld_q ?_
  refine ld_kv ?_
  refine ld_kv ?_
  refine ld_kv ?_
  exact ret_val

theorem head25_ok (v483 : FVec F S512x64 .bf16) (v491 : FVec F S512x1 .f32) (v495 : FVec F S512x64 .f32) (v497 : FVec F S512x64 .bf16) (cst_379 : FVec F S512x512 .f32) :
    Run c (Cs c q kv f L) (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v483 v491 v495 v497 cst_379)
      (Ret ⟨k0_pay44 v483 v495 v497 cst_379 (rdKV kv ![1, 2, 0, 192] inb_S4x4x512x512_S1x1x512x64_1_2_0_192) (rdKV kv ![2, 0, 0, 192] inb_S4x4x512x512_S1x1x512x64_2_0_0_192) (rdKV kv ![2, 2, 0, 192] inb_S4x4x512x512_S1x1x512x64_2_2_0_192), k0_pay45 v483 v491 v497 cst_379 (rdKV kv ![2, 0, 0, 192] inb_S4x4x512x512_S1x1x512x64_2_0_0_192), k0_pay46 v483 (rdKV kv ![3, 0, 0, 192] inb_S4x4x512x512_S1x1x512x64_3_0_0_192), k0_pay47 v483 (rdKV kv ![3, 0, 0, 192] inb_S4x4x512x512_S1x1x512x64_3_0_0_192)⟩ (Cs c q kv f (L))) := by
  rw [k0_part25_eq_skeleton]
  unfold k0_part25_skel
  refine ld_kv ?_
  refine ld_kv ?_
  refine ld_kv ?_
  refine ld_kv ?_
  exact ret_val

theorem head26_ok (v522 : FVec F S512x64 .f32) (v523 : FVec F S512x1 .f32) (v529 : FVec F S512x512 .f32) (v531 : FVec F S512x1 .f32) :
    Run c (Cs c q kv f L) (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v522 v523 v529 v531)
      (Ret ⟨k0_pay49 (rdQ q ![0, 0, 4, 0] inb_S2x512x8x64_S1x512x1x64_0_0_4_0), k0_pay51 (rdQ q ![0, 0, 4, 0] inb_S2x512x8x64_S1x512x1x64_0_0_4_0) (rdKV kv ![0, 0, 0, 256] inb_S4x4x512x512_S1x1x512x64_0_0_0_256), k0_pay52 (rdQ q ![0, 0, 4, 0] inb_S2x512x8x64_S1x512x1x64_0_0_4_0) (rdKV kv ![0, 0, 0, 256] inb_S4x4x512x512_S1x1x512x64_0_0_0_256) (rdKV kv ![0, 2, 0, 256] inb_S4x4x512x512_S1x1x512x64_0_2_0_256), k0_pay53 (rdQ q ![0, 0, 4, 0] inb_S2x512x8x64_S1x512x1x64_0_0_4_0) (rdKV kv ![1, 0, 0, 256] inb_S4x4x512x512_S1x1x512x64_1_0_0_256), (Scalar.ofBits .f32 0x3E000000#32)⟩ (Cs c q kv f (pc ![0, 0, 3, 0] inb_S2x512x8x64_S1x512x1x64_0_0_3_0 (k0_pay48 v522 v523 v529 v531 (rdKV kv ![3, 2, 0, 192] inb_S4x4x512x512_S1x1x512x64_3_2_0_192)) :: L))) := by
  rw [k0_part26_eq_skeleton]
  unfold k0_part26_skel
  refine ld_kv ?_
  refine ld_o ?_
  refine st_o ?_
  refine ld_q ?_
  refine ld_kv ?_
  refine ld_kv ?_
  refine ld_kv ?_
  exact ret_val

theorem head27_ok (v544 : FVec F S512x64 .bf16) (v552 : FVec F S512x1 .f32) (v556 : FVec F S512x64 .f32) (v559 : FVec F S512x512 .f32) (cst_434 : F .f32) :
    Run c (Cs c q kv f L) (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v544 v552 v556 v559 cst_434)
      (Ret ⟨k0_pay56 v544 v556 v559 cst_434 (rdKV kv ![1, 2, 0, 256] inb_S4x4x512x512_S1x1x512x64_1_2_0_256) (rdKV kv ![2, 0, 0, 256] inb_S4x4x512x512_S1x1x512x64_2_0_0_256) (rdKV kv ![2, 2, 0, 256] inb_S4x4x512x512_S1x1x512x64_2_2_0_256), k0_pay57 v544 v552 v559 cst_434 (rdKV kv ![2, 0, 0, 256] inb_S4x4x512x512_S1x1x512x64_2_0_0_256), k0_pay58 v544 (rdKV kv ![3, 0, 0, 256] inb_S4x4x512x512_S1x1x512x64_3_0_0_256), k0_pay59 v544 (rdKV kv ![3, 0, 0, 256] inb_S4x4x512x512_S1x1x512x64_3_0_0_256)⟩ (Cs c q kv f (L))) := by
  rw [k0_part27_eq_skeleton]
  unfold k0_part27_skel
  refine ld_kv ?_
  refine ld_kv ?_
  refine ld_kv ?_
  refine ld_kv ?_
  exact ret_val

theorem head28_ok (v583 : FVec F S512x64 .f32) (v584 : FVec F S512x1 .f32) (v590 : FVec F S512x512 .f32) (v592 : FVec F S512x1 .f32) :
    Run c (Cs c q kv f L) (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v583 v584 v590 v592)
      (Ret ⟨k0_pay61 (rdQ q ![0, 0, 5, 0] inb_S2x512x8x64_S1x512x1x64_0_0_5_0), k0_pay63 (rdQ q ![0, 0, 5, 0] inb_S2x512x8x64_S1x512x1x64_0_0_5_0) (rdKV kv ![0, 0, 0, 320] inb_S4x4x512x512_S1x1x512x64_0_0_0_320), k0_pay64 (rdQ q ![0, 0, 5, 0] inb_S2x512x8x64_S1x512x1x64_0_0_5_0) (rdKV kv ![0, 0, 0, 320] inb_S4x4x512x512_S1x1x512x64_0_0_0_320) (rdKV kv ![0, 2, 0, 320] inb_S4x4x512x512_S1x1x512x64_0_2_0_320), k0_pay65 (rdQ q ![0, 0, 5, 0] inb_S2x512x8x64_S1x512x1x64_0_0_5_0) (rdKV kv ![1, 0, 0, 320] inb_S4x4x512x512_S1x1x512x64_1_0_0_320)⟩ (Cs c q kv f (pc ![0, 0, 4, 0] inb_S2x512x8x64_S1x512x1x64_0_0_4_0 (k0_pay60 v583 v584 v590 v592 (rdKV kv ![3, 2, 0, 256] inb_S4x4x512x512_S1x1x512x64_3_2_0_256)) :: L))) := by
  rw [k0_part28_eq_skeleton]
  unfold k0_part28_skel
  refine ld_kv ?_
  refine ld_o ?_
  refine st_o ?_
  refine ld_q ?_
  refine ld_kv ?_
  refine ld_kv ?_
  refine ld_kv ?_
  exact ret_val

theorem head29_ok (v605 : FVec F S512x64 .bf16) (v613 : FVec F S512x1 .f32) (v617 : FVec F S512x64 .f32) (v622 : FVec F S512x512 .f32) :
    Run c (Cs c q kv f L) (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v605 v613 v617 v622)
      (Ret ⟨k0_pay68 v605 v617 v622 (rdKV kv ![1, 2, 0, 320] inb_S4x4x512x512_S1x1x512x64_1_2_0_320) (rdKV kv ![2, 0, 0, 320] inb_S4x4x512x512_S1x1x512x64_2_0_0_320) (rdKV kv ![2, 2, 0, 320] inb_S4x4x512x512_S1x1x512x64_2_2_0_320), k0_pay69 v605 v613 v622 (rdKV kv ![2, 0, 0, 320] inb_S4x4x512x512_S1x1x512x64_2_0_0_320), k0_pay70 v605 (rdKV kv ![3, 0, 0, 320] inb_S4x4x512x512_S1x1x512x64_3_0_0_320), k0_pay71 v605 (rdKV kv ![3, 0, 0, 320] inb_S4x4x512x512_S1x1x512x64_3_0_0_320)⟩ (Cs c q kv f (L))) := by
  rw [k0_part29_eq_skeleton]
  unfold k0_part29_skel
  refine ld_kv ?_
  refine ld_kv ?_
  refine ld_kv ?_
  refine ld_kv ?_
  exact ret_val

theorem head30_ok (v644 : FVec F S512x64 .f32) (v645 : FVec F S512x1 .f32) (v651 : FVec F S512x512 .f32) (v653 : FVec F S512x1 .f32) :
    Run c (Cs c q kv f L) (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v644 v645 v651 v653)
      (Ret ⟨k0_pay73 (rdQ q ![0, 0, 6, 0] inb_S2x512x8x64_S1x512x1x64_0_0_6_0), k0_pay75 (rdQ q ![0, 0, 6, 0] inb_S2x512x8x64_S1x512x1x64_0_0_6_0) (rdKV kv ![0, 0, 0, 384] inb_S4x4x512x512_S1x1x512x64_0_0_0_384), k0_pay76 (rdQ q ![0, 0, 6, 0] inb_S2x512x8x64_S1x512x1x64_0_0_6_0) (rdKV kv ![0, 0, 0, 384] inb_S4x4x512x512_S1x1x512x64_0_0_0_384) (rdKV kv ![0, 2, 0, 384] inb_S4x4x512x512_S1x1x512x64_0_2_0_384), k0_pay77 (rdQ q ![0, 0, 6, 0] inb_S2x512x8x64_S1x512x1x64_0_0_6_0) (rdKV kv ![1, 0, 0, 384] inb_S4x4x512x512_S1x1x512x64_1_0_0_384)⟩ (Cs c q kv f (pc ![0, 0, 5, 0] inb_S2x512x8x64_S1x512x1x64_0_0_5_0 (k0_pay72 v644 v645 v651 v653 (rdKV kv ![3, 2, 0, 320] inb_S4x4x512x512_S1x1x512x64_3_2_0_320)) :: L))) := by
  rw [k0_part30_eq_skeleton]
  unfold k0_part30_skel
  refine ld_kv ?_
  refine ld_o ?_
  refine st_o ?_
  refine ld_q ?_
  refine ld_kv ?_
  refine ld_kv ?_
  refine ld_kv ?_
  exact ret_val

theorem head31_ok (v666 : FVec F S512x64 .bf16) (v674 : FVec F S512x1 .f32) (v678 : FVec F S512x64 .f32) (v684 : FVec F S512x512 .f32) :
    Run c (Cs c q kv f L) (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v666 v674 v678 v684)
      (Ret ⟨k0_pay79 v666 v678 v684 (rdKV kv ![1, 2, 0, 384] inb_S4x4x512x512_S1x1x512x64_1_2_0_384) (rdKV kv ![2, 0, 0, 384] inb_S4x4x512x512_S1x1x512x64_2_0_0_384) (rdKV kv ![2, 2, 0, 384] inb_S4x4x512x512_S1x1x512x64_2_2_0_384), k0_pay80 v666 v674 v684 (rdKV kv ![2, 0, 0, 384] inb_S4x4x512x512_S1x1x512x64_2_0_0_384), k0_pay81 v666 (rdKV kv ![3, 0, 0, 384] inb_S4x4x512x512_S1x1x512x64_3_0_0_384), k0_pay82 v666 (rdKV kv ![3, 0, 0, 384] inb_S4x4x512x512_S1x1x512x64_3_0_0_384), k0_pay83 (rdKV kv ![3, 2, 0, 384] inb_S4x4x512x512_S1x1x512x64_3_2_0_384)⟩ (Cs c q kv f (L))) := by
  rw [k0_part31_eq_skeleton]
  unfold k0_part31_skel
  refine ld_kv ?_
  refine ld_kv ?_
  refine ld_kv ?_
  refine ld_kv ?_
  refine ld_kv ?_
  exact ret_val

theorem head32_ok (v705 : FVec F S512x64 .f32) (v706 : FVec F S512x1 .f32) (v712 : FVec F S512x512 .f32) (v714 : FVec F S512x1 .f32) (v716 : FVec F S512x64 .bf16) :
    Run c (Cs c q kv f L) (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v705 v706 v712 v714 v716)
      (Ret ⟨k0_pay85 (rdQ q ![0, 0, 7, 0] inb_S2x512x8x64_S1x512x1x64_0_0_7_0), k0_pay87 (rdQ q ![0, 0, 7, 0] inb_S2x512x8x64_S1x512x1x64_0_0_7_0) (rdKV kv ![0, 0, 0, 448] inb_S4x4x512x512_S1x1x512x64_0_0_0_448), k0_pay88 (rdQ q ![0, 0, 7, 0] inb_S2x512x8x64_S1x512x1x64_0_0_7_0) (rdKV kv ![0, 0, 0, 448] inb_S4x4x512x512_S1x1x512x64_0_0_0_448) (rdKV kv ![0, 2, 0, 448] inb_S4x4x512x512_S1x1x512x64_0_2_0_448), k0_pay89 (rdQ q ![0, 0, 7, 0] inb_S2x512x8x64_S1x512x1x64_0_0_7_0) (rdKV kv ![1, 0, 0, 448] inb_S4x4x512x512_S1x1x512x64_1_0_0_448), k0_pay90 (rdQ q ![0, 0, 7, 0] inb_S2x512x8x64_S1x512x1x64_0_0_7_0) (rdKV kv ![1, 0, 0, 448] inb_S4x4x512x512_S1x1x512x64_1_0_0_448)⟩ (Cs c q kv f (pc ![0, 0, 6, 0] inb_S2x512x8x64_S1x512x1x64_0_0_6_0 (k0_pay84 v705 v706 v712 v714 v716) :: L))) := by
  rw [k0_part32_eq_skeleton]
  unfold k0_part32_skel
  refine ld_o ?_
  refine st_o ?_
  refine ld_q ?_
  refine ld_kv ?_
  refine ld_kv ?_
  refine ld_kv ?_
  exact ret_val

theorem head33_ok (v727 : FVec F S512x64 .bf16) (v735 : FVec F S512x1 .f32) (v739 : FVec F S512x64 .f32) (v745 : FVec F S512x512 .f32) (v747 : FVec F S512x1 .f32) :
    Run c (Cs c q kv f L) (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v727 v735 v739 v745 v747)
      (Ret ⟨k0_pay92 v727 v739 v745 (rdKV kv ![1, 2, 0, 448] inb_S4x4x512x512_S1x1x512x64_1_2_0_448) (rdKV kv ![2, 0, 0, 448] inb_S4x4x512x512_S1x1x512x64_2_0_0_448) (rdKV kv ![2, 2, 0, 448] inb_S4x4x512x512_S1x1x512x64_2_2_0_448), k0_pay93 v727 v735 v747 (rdKV kv ![2, 0, 0, 448] inb_S4x4x512x512_S1x1x512x64_2_0_0_448), k0_pay95 v727 (rdKV kv ![3, 0, 0, 448] inb_S4x4x512x512_S1x1x512x64_3_0_0_448), k0_pay96 (rdKV kv ![3, 2, 0, 448] inb_S4x4x512x512_S1x1x512x64_3_2_0_448), k0_pay97 v727 (rdKV kv ![3, 0, 0, 448] inb_S4x4x512x512_S1x1x512x64_3_0_0_448), (constant S512x64 .f32 0x00000000#32)⟩ (Cs c q kv f (L))) := by
  rw [k0_part33_eq_skeleton]
  unfold k0_part33_skel
  refine ld_kv ?_
  refine ld_kv ?_
  refine ld_kv ?_
  refine ld_kv ?_
  refine ld_kv ?_
  exact ret_val

theorem head34_ok (v766 : FVec F S512x64 .f32) (v767 : FVec F S512x1 .f32) (v775 : FVec F S512x1 .f32) (v777 : FVec F S512x64 .bf16) (v778 : FVec F S512x512 .bf16) (cst_626 : FVec F S512x64 .f32) :
    Run c (Cs c q kv f L) (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v766 v767 v775 v777 v778 cst_626)
      (Ret ⟨k0_pay99 (rdQ q ![1, 0, 0, 0] inb_S2x512x8x64_S1x512x1x64_1_0_0_0), k0_pay101 (rdQ q ![1, 0, 0, 0] inb_S2x512x8x64_S1x512x1x64_1_0_0_0) (rdKV kv ![0, 1, 0, 0] inb_S4x4x512x512_S1x1x512x64_0_1_0_0), k0_pay102 (rdQ q ![1, 0, 0, 0] inb_S2x512x8x64_S1x512x1x64_1_0_0_0) (rdKV kv ![0, 1, 0, 0] inb_S4x4x512x512_S1x1x512x64_0_1_0_0) (rdKV kv ![0, 3, 0, 0] inb_S4x4x512x512_S1x1x512x64_0_3_0_0), k0_pay103 (rdQ q ![1, 0, 0, 0] inb_S2x512x8x64_S1x512x1x64_1_0_0_0) (rdKV kv ![1, 1, 0, 0] inb_S4x4x512x512_S1x1x512x64_1_1_0_0), k0_pay104 (rdQ q ![1, 0, 0, 0] inb_S2x512x8x64_S1x512x1x64_1_0_0_0) (rdKV kv ![1, 1, 0, 0] inb_S4x4x512x512_S1x1x512x64_1_1_0_0)⟩ (Cs c q kv f (pc ![0, 0, 7, 0] inb_S2x512x8x64_S1x512x1x64_0_0_7_0 (k0_pay98 v766 v767 v775 v777 v778 cst_626) :: L))) := by
  rw [k0_part34_eq_skeleton]
  unfold k0_part34_skel
  refine ld_o ?_
  refine st_o ?_
  refine ld_q ?_
  refine ld_kv ?_
  refine ld_kv ?_
  refine ld_kv ?_
  exact ret_val

theorem head35_ok (v788 : FVec F S512x64 .bf16) (v796 : FVec F S512x1 .f32) (v800 : FVec F S512x64 .f32) (v806 : FVec F S512x512 .f32) (v808 : FVec F S512x1 .f32) :
    Run c (Cs c q kv f L) (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v788 v796 v800 v806 v808)
      (Ret ⟨k0_pay106 v788 v796 v808 (rdKV kv ![2, 1, 0, 0] inb_S4x4x512x512_S1x1x512x64_2_1_0_0), k0_pay108 v788 (rdKV kv ![3, 1, 0, 0] inb_S4x4x512x512_S1x1x512x64_3_1_0_0), k0_pay109 v788 v800 v806 (rdKV kv ![1, 3, 0, 0] inb_S4x4x512x512_S1x1x512x64_1_3_0_0) (rdKV kv ![2, 1, 0, 0] inb_S4x4x512x512_S1x1x512x64_2_1_0_0) (rdKV kv ![2, 3, 0, 0] inb_S4x4x512x512_S1x1x512x64_2_3_0_0) (rdKV kv ![3, 1, 0, 0] inb_S4x4x512x512_S1x1x512x64_3_1_0_0) (rdKV kv ![3, 3, 0, 0] inb_S4x4x512x512_S1x1x512x64_3_3_0_0)⟩ (Cs c q kv f (L))) := by
  rw [k0_part35_eq_skeleton]
  unfold k0_part35_skel
  refine ld_kv ?_
  refine ld_kv ?_
  refine ld_kv ?_
  refine ld_kv ?_
  refine ld_kv ?_
  exact ret_val

theorem head36_ok (v828 : FVec F S512x1 .f32) (v836 : FVec F S512x1 .f32) (v841 : FVec F S512x64 .f32) :
    Run c (Cs c q kv f L) (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v828 v836 v841)
      (Ret ⟨k0_pay111 (rdQ q ![1, 0, 1, 0] inb_S2x512x8x64_S1x512x1x64_1_0_1_0), k0_pay113 (rdQ q ![1, 0, 1, 0] inb_S2x512x8x64_S1x512x1x64_1_0_1_0) (rdKV kv ![0, 1, 0, 64] inb_S4x4x512x512_S1x1x512x64_0_1_0_64), k0_pay114 (rdQ q ![1, 0, 1, 0] inb_S2x512x8x64_S1x512x1x64_1_0_1_0) (rdKV kv ![0, 1, 0, 64] inb_S4x4x512x512_S1x1x512x64_0_1_0_64) (rdKV kv ![0, 3, 0, 64] inb_S4x4x512x512_S1x1x512x64_0_3_0_64), k0_pay115 (rdQ q ![1, 0, 1, 0] inb_S2x512x8x64_S1x512x1x64_1_0_1_0) (rdKV kv ![1, 1, 0, 64] inb_S4x4x512x512_S1x1x512x64_1_1_0_64), k0_pay116 (rdQ q ![1, 0, 1, 0] inb_S2x512x8x64_S1x512x1x64_1_0_1_0) (rdKV kv ![1, 1, 0, 64] inb_S4x4x512x512_S1x1x512x64_1_1_0_64)⟩ (Cs c q kv f (pc ![1, 0, 0, 0] inb_S2x512x8x64_S1x512x1x64_1_0_0_0 (k0_pay110 v828 v836 v841) :: L))) := by
  rw [k0_part36_eq_skeleton]
  unfold k0_part36_skel
  refine ld_o ?_
  refine st_o ?_
  refine ld_q ?_
  refine ld_kv ?_
  refine ld_kv ?_
  refine ld_kv ?_
  exact ret_val

theorem head37_ok (v849 : FVec F S512x64 .bf16) (v857 : FVec F S512x1 .f32) (v861 : FVec F S512x64 .f32) (v867 : FVec F S512x512 .f32) (v869 : FVec F S512x1 .f32) :
    Run c (Cs c q kv f L) (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v849 v857 v861 v867 v869)
      (Ret ⟨k0_pay119 v849 v861 v867 (rdKV kv ![1, 3, 0, 64] inb_S4x4x512x512_S1x1x512x64_1_3_0_64) (rdKV kv ![2, 1, 0, 64] inb_S4x4x512x512_S1x1x512x64_2_1_0_64) (rdKV kv ![2, 3, 0, 64] inb_S4x4x512x512_S1x1x512x64_2_3_0_64) (rdKV kv ![3, 1, 0, 64] inb_S4x4x512x512_S1x1x512x64_3_1_0_64) (rdKV kv ![3, 3, 0, 64] inb_S4x4x512x512_S1x1x512x64_3_3_0_64), k0_pay120 v849 v857 v869 (rdKV kv ![2, 1, 0, 64] inb_S4x4x512x512_S1x1x512x64_2_1_0_64) (rdKV kv ![3, 1, 0, 64] inb_S4x4x512x512_S1x1x512x64_3_1_0_64)⟩ (Cs c q kv f (L))) := by
  rw [k0_part37_eq_skeleton]
  unfold k0_part37_skel
  refine ld_kv ?_
  refine ld_kv ?_
  refine ld_kv ?_
  refine ld_kv ?_
  refine ld_kv ?_
  exact ret_val

theorem head38_ok (v902 : FVec F S512x64 .f32) (v904 : FVec F S512x64 .f32) :
    Run c (Cs c q kv f L) (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v902 v904)
      (Ret ⟨k0_pay122 (rdQ q ![1, 0, 2, 0] inb_S2x512x8x64_S1x512x1x64_1_0_2_0), k0_pay124 (rdQ q ![1, 0, 2, 0] inb_S2x512x8x64_S1x512x1x64_1_0_2_0) (rdKV kv ![0, 1, 0, 128] inb_S4x4x512x512_S1x1x512x64_0_1_0_128), k0_pay125 (rdQ q ![1, 0, 2, 0] inb_S2x512x8x64_S1x512x1x64_1_0_2_0) (rdKV kv ![0, 1, 0, 128] inb_S4x4x512x512_S1x1x512x64_0_1_0_128) (rdKV kv ![0, 3, 0, 128] inb_S4x4x512x512_S1x1x512x64_0_3_0_128), k0_pay126 (rdQ q ![1, 0, 2, 0] inb_S2x512x8x64_S1x512x1x64_1_0_2_0) (rdKV kv ![1, 1, 0, 128] inb_S4x4x512x512_S1x1x512x64_1_1_0_128), k0_pay127 (rdQ q ![1, 0, 2, 0] inb_S2x512x8x64_S1x512x1x64_1_0_2_0) (rdKV kv ![1, 1, 0, 128] inb_S4x4x512x512_S1x1x512x64_1_1_0_128), k0_pay128 (rdKV kv ![1, 3, 0, 128] inb_S4x4x512x512_S1x1x512x64_1_3_0_128)⟩ (Cs c q kv f (pc ![1, 0, 1, 0] inb_S2x512x8x64_S1x512x1x64_1_0_1_0 (k0_pay121 v902 v904) :: L))) := by
  rw [k0_part38_eq_skeleton]
  unfold k0_part38_skel
  refine ld_o ?_
  refine st_o ?_
  refine ld_q ?_
  refine ld_kv ?_
  refine ld_kv ?_
  refine ld_kv ?_
  refine ld_kv ?_
  exact ret_val

theorem head39_ok (v910 : FVec F S512x64 .bf16) (v918 : FVec F S512x1 .f32) (v922 : FVec F S512x64 .f32) (v928 : FVec F S512x512 .f32) (v930 : FVec F S512x1 .f32) (v932 : FVec F S512x64 .bf16) :
    Run c (Cs c q kv f L) (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v910 v918 v922 v928 v930 v932)
      (Ret (k0_pay129 v910 v918 v922 v928 v930 v932 (rdKV kv ![2, 1, 0, 128] inb_S4x4x512x512_S1x1x512x64_2_1_0_128) (rdKV kv ![2, 3, 0, 128] inb_S4x4x512x512_S1x1x512x64_2_3_0_128) (rdKV kv ![3, 1, 0, 128] inb_S4x4x512x512_S1x1x512x64_3_1_0_128) (rdKV kv ![3, 3, 0, 128] inb_S4x4x512x512_S1x1x512x64_3_3_0_128)) (Cs c q kv f (L))) := by
  rw [k0_part39_eq_skeleton]
  unfold k0_part39_skel
  refine ld_kv ?_
  refine ld_kv ?_
  refine ld_kv ?_
  refine ld_kv ?_
  exact ret_val

theorem head40_ok (v966 : FVec F S512x64 .f32) :
    Run c (Cs c q kv f L) (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v966)
      (Ret ⟨k0_pay131 (rdQ q ![1, 0, 3, 0] inb_S2x512x8x64_S1x512x1x64_1_0_3_0), k0_pay133 (rdQ q ![1, 0, 3, 0] inb_S2x512x8x64_S1x512x1x64_1_0_3_0) (rdKV kv ![0, 1, 0, 192] inb_S4x4x512x512_S1x1x512x64_0_1_0_192), k0_pay134 (rdQ q ![1, 0, 3, 0] inb_S2x512x8x64_S1x512x1x64_1_0_3_0) (rdKV kv ![0, 1, 0, 192] inb_S4x4x512x512_S1x1x512x64_0_1_0_192) (rdKV kv ![0, 3, 0, 192] inb_S4x4x512x512_S1x1x512x64_0_3_0_192), k0_pay136 (rdQ q ![1, 0, 3, 0] inb_S2x512x8x64_S1x512x1x64_1_0_3_0) (rdKV kv ![1, 1, 0, 192] inb_S4x4x512x512_S1x1x512x64_1_1_0_192), k0_pay137 (rdKV kv ![1, 3, 0, 192] inb_S4x4x512x512_S1x1x512x64_1_3_0_192), k0_pay138 (rdQ q ![1, 0, 3, 0] inb_S2x512x8x64_S1x512x1x64_1_0_3_0) (rdKV kv ![1, 1, 0, 192] inb_S4x4x512x512_S1x1x512x64_1_1_0_192), (constant S512x64 .f32 0x00000000#32)⟩ (Cs c q kv f (pc ![1, 0, 2, 0] inb_S2x512x8x64_S1x512x1x64_1_0_2_0 (k0_pay130 v966) :: L))) := by
  rw [k0_part40_eq_skeleton]
  unfold k0_part40_skel
  refine ld_o ?_
  refine st_o ?_
  refine ld_q ?_
  refine ld_kv ?_
  refine ld_kv ?_
  refine ld_kv ?_
  refine ld_kv ?_
  exact ret_val

theorem head41_ok (v971 : FVec F S512x64 .bf16) (v979 : FVec F S512x1 .f32) (v983 : FVec F S512x64 .f32) (v991 : FVec F S512x1 .f32) (v993 : FVec F S512x64 .bf16) (v994 : FVec F S512x512 .bf16) (cst_826 : FVec F S512x64 .f32) :
    Run c (Cs c q kv f L) (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v971 v979 v983 v991 v993 v994 cst_826)
      (Ret (k0_pay139 v971 v979 v983 v991 v993 v994 cst_826 (rdKV kv ![2, 1, 0, 192] inb_S4x4x512x512_S1x1x512x64_2_1_0_192) (rdKV kv ![2, 3, 0, 192] inb_S4x4x512x512_S1x1x512x64_2_3_0_192) (rdKV kv ![3, 1, 0, 192] inb_S4x4x512x512_S1x1x512x64_3_1_0_192) (rdKV kv ![3, 3, 0, 192] inb_S4x4x512x512_S1x1x512x64_3_3_0_192)) (Cs c q kv f (L))) := by
  rw [k0_part41_eq_skeleton]
  unfold k0_part41_skel
  refine ld_kv ?_
  refine ld_kv ?_
  refine ld_kv ?_
  refine ld_kv ?_
  exact ret_val

theorem head42_ok (v1027 : FVec F S512x64 .f32) :
    Run c (Cs c q kv f L) (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1027)
      (Ret ⟨k0_pay141 (rdQ q ![1, 0, 4, 0] inb_S2x512x8x64_S1x512x1x64_1_0_4_0), k0_pay143 (rdQ q ![1, 0, 4, 0] inb_S2x512x8x64_S1x512x1x64_1_0_4_0) (rdKV kv ![0, 1, 0, 256] inb_S4x4x512x512_S1x1x512x64_0_1_0_256), k0_pay145 (rdQ q ![1, 0, 4, 0] inb_S2x512x8x64_S1x512x1x64_1_0_4_0) (rdKV kv ![1, 1, 0, 256] inb_S4x4x512x512_S1x1x512x64_1_1_0_256), k0_pay146 (rdQ q ![1, 0, 4, 0] inb_S2x512x8x64_S1x512x1x64_1_0_4_0) (rdKV kv ![0, 1, 0, 256] inb_S4x4x512x512_S1x1x512x64_0_1_0_256) (rdKV kv ![0, 3, 0, 256] inb_S4x4x512x512_S1x1x512x64_0_3_0_256) (rdKV kv ![1, 1, 0, 256] inb_S4x4x512x512_S1x1x512x64_1_1_0_256) (rdKV kv ![1, 3, 0, 256] inb_S4x4x512x512_S1x1x512x64_1_3_0_256)⟩ (Cs c q kv f (pc ![1, 0, 3, 0] inb_S2x512x8x64_S1x512x1x64_1_0_3_0 (k0_pay140 v1027) :: L))) := by
  rw [k0_part42_eq_skeleton]
  unfold k0_part42_skel
  refine ld_o ?_
  refine st_o ?_
  refine ld_q ?_
  refine ld_kv ?_
  refine ld_kv ?_
  refine ld_kv ?_
  refine ld_kv ?_
  exact ret_val

theorem head43_ok (v1032 : FVec F S512x64 .bf16) (v1040 : FVec F S512x1 .f32) (v1052 : FVec F S512x1 .f32) (v1057 : FVec F S512x64 .f32) :
    Run c (Cs c q kv f L) (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1032 v1040 v1052 v1057)
      (Ret ⟨k0_pay147 v1032 v1040 v1052 v1057 (rdKV kv ![2, 1, 0, 256] inb_S4x4x512x512_S1x1x512x64_2_1_0_256) (rdKV kv ![2, 3, 0, 256] inb_S4x4x512x512_S1x1x512x64_2_3_0_256) (rdKV kv ![3, 1, 0, 256] inb_S4x4x512x512_S1x1x512x64_3_1_0_256) (rdKV kv ![3, 3, 0, 256] inb_S4x4x512x512_S1x1x512x64_3_3_0_256), (rdO (outW f (L)) ![1, 0, 4, 0] inb_S2x512x8x64_S1x512x1x64_1_0_4_0)⟩ (Cs c q kv f (L))) := by
  rw [k0_part43_eq_skeleton]
  unfold k0_part43_skel
  refine ld_kv ?_
  refine ld_kv ?_
  refine ld_kv ?_
  refine ld_kv ?_
  refine ld_o ?_
  exact ret_val

theorem head44_ok (v1088 : FVec F S512x64 .f32) (v1089 : Vec F S1x512x1x64 .f32) :
    Run c (Cs c q kv f L) (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1088 v1089)
      (Ret ⟨k0_pay149 (rdQ q ![1, 0, 5, 0] inb_S2x512x8x64_S1x512x1x64_1_0_5_0), k0_pay152 (rdQ q ![1, 0, 5, 0] inb_S2x512x8x64_S1x512x1x64_1_0_5_0) (rdKV kv ![0, 1, 0, 320] inb_S4x4x512x512_S1x1x512x64_0_1_0_320) (rdKV kv ![0, 3, 0, 320] inb_S4x4x512x512_S1x1x512x64_0_3_0_320) (rdKV kv ![1, 1, 0, 320] inb_S4x4x512x512_S1x1x512x64_1_1_0_320) (rdKV kv ![1, 3, 0, 320] inb_S4x4x512x512_S1x1x512x64_1_3_0_320), k0_pay153 (rdQ q ![1, 0, 5, 0] inb_S2x512x8x64_S1x512x1x64_1_0_5_0) (rdKV kv ![0, 1, 0, 320] inb_S4x4x512x512_S1x1x512x64_0_1_0_320) (rdKV kv ![1, 1, 0, 320] inb_S4x4x512x512_S1x1x512x64_1_1_0_320)⟩ (Cs c q kv f (pc ![1, 0, 4, 0] inb_S2x512x8x64_S1x512x1x64_1_0_4_0 (k0_pay148 v1088) :: L))) := by
  rw [k0_part44_eq_skeleton]
  unfold k0_part44_skel
  refine st_o ?_
  refine ld_q ?_
  refine ld_kv ?_
  refine ld_kv ?_
  refine ld_kv ?_
  refine ld_kv ?_
  exact ret_val

theorem head45_ok (v1093 : FVec F S512x64 .bf16) (v1118 : FVec F S512x64 .f32) (v1119 : FVec F S512x1 .f32) :
    Run c (Cs c q kv f L) (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1093 v1118 v1119)
      (Ret (k0_pay154 v1093 v1118 v1119 (rdKV kv ![2, 1, 0, 320] inb_S4x4x512x512_S1x1x512x64_2_1_0_320) (rdKV kv ![2, 3, 0, 320] inb_S4x4x512x512_S1x1x512x64_2_3_0_320) (rdKV kv ![3, 1, 0, 320] inb_S4x4x512x512_S1x1x512x64_3_1_0_320) (rdKV kv ![3, 3, 0, 320] inb_S4x4x512x512_S1x1x512x64_3_3_0_320)) (Cs c q kv f (L))) := by
  rw [k0_part45_eq_skeleton]
  unfold k0_part45_skel
  refine ld_kv ?_
  refine ld_kv ?_
  refine ld_kv ?_
  refine ld_kv ?_
  refine ld_o ?_
  exact ret_val

theorem head46_ok (v1152 : FVec F S1x512x1x64 .f32) :
    Run c (Cs c q kv f L) (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1152)
      (Ret ⟨k0_pay155 (rdQ q ![1, 0, 6, 0] inb_S2x512x8x64_S1x512x1x64_1_0_6_0), k0_pay158 (rdQ q ![1, 0, 6, 0] inb_S2x512x8x64_S1x512x1x64_1_0_6_0) (rdKV kv ![0, 1, 0, 384] inb_S4x4x512x512_S1x1x512x64_0_1_0_384) (rdKV kv ![0, 3, 0, 384] inb_S4x4x512x512_S1x1x512x64_0_3_0_384) (rdKV kv ![1, 1, 0, 384] inb_S4x4x512x512_S1x1x512x64_1_1_0_384) (rdKV kv ![1, 3, 0, 384] inb_S4x4x512x512_S1x1x512x64_1_3_0_384), k0_pay159 (rdQ q ![1, 0, 6, 0] inb_S2x512x8x64_S1x512x1x64_1_0_6_0) (rdKV kv ![0, 1, 0, 384] inb_S4x4x512x512_S1x1x512x64_0_1_0_384) (rdKV kv ![1, 1, 0, 384] inb_S4x4x512x512_S1x1x512x64_1_1_0_384)⟩ (Cs c q kv f (pc ![1, 0, 5, 0] inb_S2x512x8x64_S1x512x1x64_1_0_5_0 v1152 :: L))) := by
  rw [k0_part46_eq_skeleton]
  unfold k0_part46_skel
  refine st_o ?_
  refine ld_q ?_
  refine ld_kv ?_
  refine ld_kv ?_
  refine ld_kv ?_
  refine ld_kv ?_
  exact ret_val

theorem head47_ok (v1154 : FVec F S512x64 .bf16) (v1179 : FVec F S512x64 .f32) (v1180 : FVec F S512x1 .f32) :
    Run c (Cs c q kv f L) (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 v1154 v1179 v1180)
      (Ret ⟨⟩ (Cs c q kv f (pc ![1, 0, 6, 0] inb_S2x512x8x64_S1x512x1x64_1_0_6_0 (k0_pay160 v1154 v1179 v1180 (rdKV kv ![2, 1, 0, 384] inb_S4x4x512x512_S1x1x512x64_2_1_0_384) (rdKV kv ![2, 3, 0, 384] inb_S4x4x512x512_S1x1x512x64_2_3_0_384) (rdKV kv ![3, 1, 0, 384] inb_S4x4x512x512_S1x1x512x64_3_1_0_384) (rdKV kv ![3, 3, 0, 384] inb_S4x4x512x512_S1x1x512x64_3_3_0_384)) :: L))) := by
  rw [k0_part47_eq_skeleton]
  unfold k0_part47_skel
  refine ld_kv ?_
  refine ld_kv ?_
  refine ld_kv ?_
  refine ld_kv ?_
  refine ld_o ?_
  refine st_o ?_
  exact ret_val

theorem head48_ok  :
    Run c (Cs c q kv f L) (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 )
      (Ret ⟨k0_pay161 (rdQ q ![1, 0, 7, 0] inb_S2x512x8x64_S1x512x1x64_1_0_7_0), k0_pay164 (rdQ q ![1, 0, 7, 0] inb_S2x512x8x64_S1x512x1x64_1_0_7_0) (rdKV kv ![0, 1, 0, 448] inb_S4x4x512x512_S1x1x512x64_0_1_0_448) (rdKV kv ![0, 3, 0, 448] inb_S4x4x512x512_S1x1x512x64_0_3_0_448) (rdKV kv ![1, 1, 0, 448] inb_S4x4x512x512_S1x1x512x64_1_1_0_448) (rdKV kv ![1, 3, 0, 448] inb_S4x4x512x512_S1x1x512x64_1_3_0_448), k0_pay165 (rdQ q ![1, 0, 7, 0] inb_S2x512x8x64_S1x512x1x64_1_0_7_0) (rdKV kv ![0, 1, 0, 448] inb_S4x4x512x512_S1x1x512x64_0_1_0_448) (rdKV kv ![1, 1, 0, 448] inb_S4x4x512x512_S1x1x512x64_1_1_0_448), (rdKV kv ![2, 1, 0, 448] inb_S4x4x512x512_S1x1x512x64_2_1_0_448)⟩ (Cs c q kv f (L))) := by
  rw [k0_part48_eq_skeleton]
  unfold k0_part48_skel
  refine ld_q ?_
  refine ld_kv ?_
  refine ld_kv ?_
  refine ld_kv ?_
  refine ld_kv ?_
  refine ld_kv ?_
  exact ret_val

/-! ## Every head is the same function -/

variable (x : Vec F S1x512x1x64 .bf16) (k0 k1 k2 k3 v0 v1 v2 v3 : Vec F S1x1x512x64 .bf16)

/-- A head's result from the vectors read. -/
abbrev headOf : FVec F S1x512x1x64 .f32 :=
  headFn (castQ x) (castK k0) (castK k1) (castK k2) (castK k3) (castK v0) (castK v1) (castK v2) (castK v3)

theorem head_0_0 : k0_pay16 (k0_pay13 (k0_pay7 x) (k0_pay10 x k0 v0) k1 v1 k2 v2) (k0_pay14 (k0_pay7 x) (k0_pay9 x k0) k1 k2) (k0_pay15 (k0_pay7 x) k3) (Scalar.ofBits .f32 0x3E000000#32) v3 =
    headOf x k0 k1 k2 k3 v0 v1 v2 v3 := rfl
theorem head_0_1 : k0_pay26 (k0_pay23 (k0_pay17 x) (k0_pay20 x k0 v0) k1 v1 k2 v2) (k0_pay24 (k0_pay17 x) (k0_pay19 x k0) k1 k2) (k0_pay25 (k0_pay17 x) k3) v3 =
    headOf x k0 k1 k2 k3 v0 v1 v2 v3 := rfl
theorem head_0_2 : k0_pay36 (k0_pay33 (k0_pay27 x) (k0_pay30 x k0 v0) k1 v1 k2 v2) (k0_pay34 (k0_pay27 x) (k0_pay29 x k0) k1 k2) (k0_pay35 (k0_pay27 x) k3) v3 =
    headOf x k0 k1 k2 k3 v0 v1 v2 v3 := rfl
theorem head_0_3 : k0_pay48 (k0_pay44 (k0_pay37 x) (k0_pay40 x k0 v0) (k0_pay41 k1) (constant S512x512 .f32 0x00000000#32) v1 k2 v2) (k0_pay45 (k0_pay37 x) (k0_pay39 x k0) (k0_pay41 k1) (constant S512x512 .f32 0x00000000#32) k2) (k0_pay46 (k0_pay37 x) k3) (k0_pay47 (k0_pay37 x) k3) v3 =
    headOf x k0 k1 k2 k3 v0 v1 v2 v3 := rfl
theorem head_0_4 : k0_pay60 (k0_pay56 (k0_pay49 x) (k0_pay52 x k0 v0) (k0_pay53 x k1) (Scalar.ofBits .f32 0x3E000000#32) v1 k2 v2) (k0_pay57 (k0_pay49 x) (k0_pay51 x k0) (k0_pay53 x k1) (Scalar.ofBits .f32 0x3E000000#32) k2) (k0_pay58 (k0_pay49 x) k3) (k0_pay59 (k0_pay49 x) k3) v3 =
    headOf x k0 k1 k2 k3 v0 v1 v2 v3 := rfl
theorem head_0_5 : k0_pay72 (k0_pay68 (k0_pay61 x) (k0_pay64 x k0 v0) (k0_pay65 x k1) v1 k2 v2) (k0_pay69 (k0_pay61 x) (k0_pay63 x k0) (k0_pay65 x k1) k2) (k0_pay70 (k0_pay61 x) k3) (k0_pay71 (k0_pay61 x) k3) v3 =
    headOf x k0 k1 k2 k3 v0 v1 v2 v3 := rfl
theorem head_0_6 : k0_pay84 (k0_pay79 (k0_pay73 x) (k0_pay76 x k0 v0) (k0_pay77 x k1) v1 k2 v2) (k0_pay80 (k0_pay73 x) (k0_pay75 x k0) (k0_pay77 x k1) k2) (k0_pay81 (k0_pay73 x) k3) (k0_pay82 (k0_pay73 x) k3) (k0_pay83 v3) =
    headOf x k0 k1 k2 k3 v0 v1 v2 v3 := rfl
theorem head_0_7 : k0_pay98 (k0_pay92 (k0_pay85 x) (k0_pay88 x k0 v0) (k0_pay89 x k1) v1 k2 v2) (k0_pay93 (k0_pay85 x) (k0_pay87 x k0) (k0_pay90 x k1) k2) (k0_pay95 (k0_pay85 x) k3) (k0_pay96 v3) (k0_pay97 (k0_pay85 x) k3) (constant S512x64 .f32 0x00000000#32) =
    headOf x k0 k1 k2 k3 v0 v1 v2 v3 := rfl
theorem head_1_0 : k0_pay110 (k0_pay106 (k0_pay99 x) (k0_pay101 x k0) (k0_pay104 x k1) k2) (k0_pay108 (k0_pay99 x) k3) (k0_pay109 (k0_pay99 x) (k0_pay102 x k0 v0) (k0_pay103 x k1) v1 k2 v2 k3 v3) =
    headOf x k0 k1 k2 k3 v0 v1 v2 v3 := rfl
theorem head_1_1 : k0_pay121 (k0_pay119 (k0_pay111 x) (k0_pay114 x k0 v0) (k0_pay115 x k1) v1 k2 v2 k3 v3) (k0_pay120 (k0_pay111 x) (k0_pay113 x k0) (k0_pay116 x k1) k2 k3) =
    headOf x k0 k1 k2 k3 v0 v1 v2 v3 := rfl
theorem head_1_2 : k0_pay130 (k0_pay129 (k0_pay122 x) (k0_pay124 x k0) (k0_pay125 x k0 v0) (k0_pay126 x k1) (k0_pay127 x k1) (k0_pay128 v1) k2 v2 k3 v3) =
    headOf x k0 k1 k2 k3 v0 v1 v2 v3 := rfl
theorem head_1_3 : k0_pay140 (k0_pay139 (k0_pay131 x) (k0_pay133 x k0) (k0_pay134 x k0 v0) (k0_pay136 x k1) (k0_pay137 v1) (k0_pay138 x k1) (constant S512x64 .f32 0x00000000#32) k2 v2 k3 v3) =
    headOf x k0 k1 k2 k3 v0 v1 v2 v3 := rfl
theorem head_1_4 : k0_pay148 (k0_pay147 (k0_pay141 x) (k0_pay143 x k0) (k0_pay145 x k1) (k0_pay146 x k0 v0 k1 v1) k2 v2 k3 v3) =
    headOf x k0 k1 k2 k3 v0 v1 v2 v3 := rfl
theorem head_1_5 : k0_pay154 (k0_pay149 x) (k0_pay152 x k0 v0 k1 v1) (k0_pay153 x k0 k1) k2 v2 k3 v3 =
    headOf x k0 k1 k2 k3 v0 v1 v2 v3 := rfl
theorem head_1_6 : k0_pay160 (k0_pay155 x) (k0_pay158 x k0 v0 k1 v1) (k0_pay159 x k0 k1) k2 v2 k3 v3 =
    headOf x k0 k1 k2 k3 v0 v1 v2 v3 := rfl
theorem head_1_7 : k0_pay1 (k0_pay161 x) (k0_pay165 x k0 k1) (k0_pay167 (k0_pay161 x) k2) (k0_pay168 (k0_pay161 x) (k0_pay164 x k0 v0 k1 v1) k2 v2) k3 v3 =
    headOf x k0 k1 k2 k3 v0 v1 v2 v3 := rfl
end Parts

end Cert.KernelIdeal.Att

end
-- ==== Proof.IdealBar.lean ====
/-
# The barrier

Every device signals its neighbours on the line that they may write into its gather buffer, and waits for
them to say the same. With each signal go the slots the neighbour will write.
-/
module

public import proofs.«01_k».proof.Proof.IdealHeads

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-! ## Rules for a program's first operation -/

theorem Run.frame {c : Dev nD} {β : Type} {P : sProp 𝕄} {Q : β → sProp 𝕄} {p : Prog (TpuEff nD τ sig (Elt F) Λ₀ .tc) β}
    (h : Run c P p Q) (R : sProp 𝕄) : Run c iprop(P ∗ R) p (fun a => iprop(Q a ∗ R)) := by
  unfold Run at *
  iintro ⟨HP, HR⟩
  iapply wp_frame_r
  isplitl [HP]
  · iapply h; iexact HP
  · iexact HR

theorem Run.post {c : Dev nD} {β : Type} {P : sProp 𝕄} {Q Q' : β → sProp 𝕄} {p : Prog (TpuEff nD τ sig (Elt F) Λ₀ .tc) β}
    (h : Run c P p Q) (hq : ∀ a, Q a ⊢ Q' a) : Run c P p Q' := by
  unfold Run at *
  exact h.trans (wp_mono _ _ _ hq)

theorem Run.frame_ret {c : Dev nD} {β : Type} {P P₁ : sProp 𝕄} {x : β} {p : Prog (TpuEff nD τ sig (Elt F) Λ₀ .tc) β}
    (h : Run c P p (Ret x P₁)) (R : sProp 𝕄) : Run c iprop(P ∗ R) p (Ret x iprop(P₁ ∗ R)) :=
  (h.frame R).post fun a => by
    unfold Ret
    iintro ⟨⟨H1, H2⟩, H3⟩
    isplitl [H1]; · iexact H1
    isplitl [H2] <;> iassumption

theorem dev_first {c : Dev nD} {β : Type} {P : sProp 𝕄} {Q : β → sProp 𝕄} {k : Dev nD → Prog (TpuEff nD τ sig (Elt F) Λ₀ .tc) β}
    (h : Run c P (k c) Q) : Run c P (Prog.lift .deviceId >>= k) Q := by
  unfold Run at *
  simp only [Prog.lift, Prog.bind_op, Prog.bind_ret, wp_deviceId]
  exact h

/-- A load of known contents. -/
theorem ld_at {c : Dev nD} {β : Type} {P : sProp 𝕄} {Q : β → sProp 𝕄} {sp : CoreSpace} {s : Shape} {e : EltTy} {mm : Memref sig .tc sp s e} {r : LoadRect s}
    {hl : mm.view.LoadsAt r} {k : (r.shape.Idx → Elt F e) → Prog (TpuEff nD τ sig (Elt F) Λ₀ .tc) β}
    (f : Buf (Elt F) (mm.view.loc (c : Thread nD τ))) {S : Finset (Idx (mm.view.loc (c : Thread nD τ)))} {qq : PosShare TreeShare}
    (hS : mm.view.setOn r.set ⊆ S)
    (hP : P ⊢ iprop((mm.view.loc (c : Thread nD τ) ↦[S]{qq} f) ∗ ((mm.view.loc (c : Thread nD τ) ↦[S]{qq} f) -∗ P)))
    (h : Run c P (k (mm.view.readAt (Elt F) r f)) Q) : Run c P (Prog.lift (.load mm r hl) >>= k) Q := by
  unfold Run at *
  simp only [Prog.lift, Prog.bind_op, Prog.bind_ret]
  iintro HP
  ihave HP' := hP $$ HP
  icases HP' with ⟨H, Hb⟩
  iapply (wp_load 𝒱₀ (c : Thread nD τ) none Set.univ (m := mm) hS) $$ H; iintro H
  ihave HP := Hb $$ H
  iapply h
  iexact HP

/-- A load whose value does not matter. -/
theorem ld_any {c : Dev nD} {β : Type} {P : sProp 𝕄} {Q : β → sProp 𝕄} {sp : CoreSpace} {s : Shape} {e : EltTy} {mm : Memref sig .tc sp s e} {r : LoadRect s}
    {hl : mm.view.LoadsAt r} {k : (r.shape.Idx → Elt F e) → Prog (TpuEff nD τ sig (Elt F) Λ₀ .tc) β}
    {S : Finset (Idx (mm.view.loc (c : Thread nD τ)))} {qq : PosShare TreeShare}
    (hS : mm.view.setOn r.set ⊆ S)
    (hP : P ⊢ iprop(∃ f, (mm.view.loc (c : Thread nD τ) ↦[S]{qq} f) ∗ ((mm.view.loc (c : Thread nD τ) ↦[S]{qq} f) -∗ P)))
    (h : ∀ v, Run c P (k v) Q) : Run c P (Prog.lift (.load mm r hl) >>= k) Q := by
  unfold Run at *
  simp only [Prog.lift, Prog.bind_op, Prog.bind_ret]
  iintro HP
  ihave HP' := hP $$ HP
  icases HP' with ⟨%f, H, Hb⟩
  iapply (wp_load 𝒱₀ (c : Thread nD τ) none Set.univ (m := mm) hS) $$ H; iintro H
  ihave HP := Hb $$ H
  iapply (h (mm.view.readAt (Elt F) r f))
  iexact HP

/-- A store. -/
theorem st_at {c : Dev nD} {β : Type} {P P' : sProp 𝕄} {Q : β → sProp 𝕄} {sp : CoreSpace} {s : Shape} {e : EltTy} {mm : Memref sig .tc sp s e} {r : Rect s}
    {w : r.shape.Idx → Elt F e} {hx : (mm.access r).Stores Finset.univ} {hm : Finset.univ = Finset.univ ∨ ∀ a, r.stride a = 1}
    {k : PUnit → Prog (TpuEff nD τ sig (Elt F) Λ₀ .tc) β} {S : Finset (Idx ((mm.access r).loc (c : Thread nD τ)))}
    (hS : (mm.access r).setOn Finset.univ ⊆ S)
    (hP : P ⊢ iprop(∃ f, ((mm.access r).loc (c : Thread nD τ) ↦[S]{fullShare} f)
      ∗ (((mm.access r).loc (c : Thread nD τ) ↦[S]{fullShare} (mm.access r).write (Elt F) f w Finset.univ) -∗ P')))
    (h : Run c P' (k ⟨⟩) Q) : Run c P (Prog.lift (.store mm r w Finset.univ hx hm) >>= k) Q := by
  unfold Run at *
  simp only [Prog.lift, Prog.bind_op, Prog.bind_ret]
  iintro HP
  ihave HP' := hP $$ HP
  icases HP' with ⟨%f, H, Hb⟩
  iapply (wp_store 𝒱₀ (c : Thread nD τ) none Set.univ (m := mm) (r := r) hS) $$ H; iintro H
  ihave HP := Hb $$ H
  iapply h
  iexact HP

/-! ## Signals -/

/-- A signal to a neighbour, paying its unit with the slots it hands over. -/
theorem signal_ok (c d' : Dev nD) (b : Bool) (O : CellTallies nD τ sig Unit) (hd : b ∈ barDuties d') {dd : Dev nD} (hdd : dd = d') :
    Run c iprop(records m ρ K ∗ (∃ W, owes (c : Thread nD τ) (O + tallyAt (barCell d') () 1) W) ∗ dutyTok ER (barCell d') 0 b
        ∗ (Rd m ρ).payload (barCell d') 0 b)
      (semSignalWord dd barS 1#32 : Prog (TpuEff nD τ sig (Elt F) Λ₀ .tc) PUnit)
      (fun _ => iprop(records m ρ K ∗ ∃ W, owes (c : Thread nD τ) O W)) := by
  subst hdd
  unfold Run
  simp only [semSignalWord]
  iintro ⟨#HR, ⟨%W, HO⟩, Ht, Hp⟩
  iapply (Rounds.wp_signal 𝒱₀ ER (Rd m ρ) (c : Thread nD τ) none (dst := (dd : Thread nD τ)) (κ := K (dd, none))
      (d := b) (by rw [duties_bar]; exact hd) ((amount_bar m ρ dd b).trans (by decide)) () O rfl) $$ [HO Ht Hp]
  · isplitr; · iapply (inv_at m ρ K (dd, none)); iexact HR
    isplitl [HO]; · iexact HO
    isplitl [Ht]; · iexact Ht
    isplitl [Hp]; · iexact Hp
    iapply (reached_at m ρ K (dd, none)); iexact HR
  iintro HO
  rw [wp_ret]
  imodintro
  isplitr; · iexact HR
  iexists _; iexact HO

/-! ## What the neighbours are -/

theorem cond1_iff : ∀ d : Dev nD, k0_cond1 d = 1#1 ↔ 0 < d.val := by decide +kernel
theorem cond2_iff : ∀ d : Dev nD, k0_cond2 d = 1#1 ↔ d.val < 3 := by decide +kernel
theorem dev1_nb : ∀ d : Dev nD, 0 < d.val → k0_dev1 d = (nb 1 d).val := by decide +kernel
theorem dev2_nb : ∀ d : Dev nD, d.val < 3 → k0_dev2 d = (nb 0 d).val := by decide +kernel
theorem mid_iff : ∀ d : Dev nD, (Scalar.cmpi .ne (Scalar.extui (Scalar.andi (Scalar.cmpi .sgt (Scalar.remsi (Scalar.divsi (Dev.word d) 1#32) 4#32) 0#32)
    (Scalar.cmpi .slt (Scalar.remsi (Scalar.divsi (Dev.word d) 1#32) 4#32) 3#32)) : BitVec 32) 0#32 : BitVec 1) = 1#1 ↔ (0 < d.val ∧ d.val < 3) := by decide +kernel
theorem duty_left : ∀ d : Dev nD, 0 < d.val → true ∈ barDuties (nb 1 d) := by decide +kernel
theorem duty_right : ∀ d : Dev nD, d.val < 3 → false ∈ barDuties (nb 0 d) := by decide +kernel
theorem card_mid : ∀ d : Dev nD, (0 < d.val ∧ d.val < 3) → (barDuties d).card = 2 := by decide +kernel
theorem card_end : ∀ d : Dev nD, ¬ (0 < d.val ∧ d.val < 3) → (barDuties d).card = 1 := by decide +kernel

/-! ## The states around the barrier -/

/-- The units owed to the left and to the right neighbour's barrier, where there is one. -/
def T1 (c : Dev nD) : CellTallies nD τ sig Unit := if 0 < c.val then tallyAt (barCell (nb 1 c)) () 1 else 0
def T2 (c : Dev nD) : CellTallies nD τ sig Unit := if c.val < 3 then tallyAt (barCell (nb 0 c)) () 1 else 0
/-- What is owed before the transfers. -/
abbrev O₁ (c : Dev nD) : CellTallies nD τ sig Unit := Osum c (unsent 0 c)
/-- With which the signals are paid. -/
def sigL (c : Dev nD) : sProp 𝕄 := if 0 < c.val then iprop(dutyTok ER (barCell (nb 1 c)) 0 true ∗ barPay 0 (nb 1 c)) else iprop(emp)
def sigR (c : Dev nD) : sProp 𝕄 := if c.val < 3 then iprop(dutyTok ER (barCell (nb 0 c)) 0 false ∗ barPay 1 (nb 0 c)) else iprop(emp)
/-- The credit for the second unit, where there are two. -/
def credM (c : Dev nD) : sProp 𝕄 := if 0 < c.val ∧ c.val < 3 then cred (tallyAt (barCell c) () 1) else iprop(emp)

def B1 (c : Dev nD) (R : sProp 𝕄) : sProp 𝕄 :=
  iprop(records m ρ K ∗ (∃ W, owes (c : Thread nD τ) (O₁ c + T2 c + T1 c) W) ∗ sigL (F := F) c ∗ sigR (F := F) c
    ∗ (levAts L lv ∗ atPos ER (barCell c) 0 ∅ 0 ∗ cred (tallyAt (barCell c) () 1) ∗ credM (F := F) c) ∗ R)
def B2 (c : Dev nD) (R : sProp 𝕄) : sProp 𝕄 :=
  iprop(records m ρ K ∗ (∃ W, owes (c : Thread nD τ) (O₁ c + T2 c) W) ∗ sigR (F := F) c
    ∗ (levAts L lv ∗ atPos ER (barCell c) 0 ∅ 0 ∗ cred (tallyAt (barCell c) () 1) ∗ credM (F := F) c) ∗ R)
def B3 (c : Dev nD) (R : sProp 𝕄) : sProp 𝕄 :=
  iprop(records m ρ K ∗ (∃ W, owes (c : Thread nD τ) (O₁ c) W)
    ∗ (levAts L lv ∗ atPos ER (barCell c) 0 ∅ 0 ∗ cred (tallyAt (barCell c) () 1) ∗ credM (F := F) c) ∗ R)
/-- After one of two units. -/
def Bm (c : Dev nD) (R : sProp 𝕄) : sProp 𝕄 :=
  iprop(records m ρ K ∗ levAts L lv ∗ (∃ W, owes (c : Thread nD τ) (O₁ c) W)
    ∗ (∃ S : Finset Bool, ⌜S ⊆ barDuties c⌝ ∗ atPos ER (barCell c) 0 S 1 ∗ bigSep S (fun d => (Rd m ρ).payload (barCell c) 0 d))
    ∗ cred (tallyAt (barCell c) () 1) ∗ R)
/-- After the barrier: its cell closed, and the neighbours' slots this device will write. -/
def B5 (c : Dev nD) (R : sProp 𝕄) : sProp 𝕄 :=
  iprop(records m ρ K ∗ levAts L lv ∗ (∃ W, owes (c : Thread nD τ) (O₁ c) W) ∗ semVal (barCell c) 0 ∗ barPay (F := F) 0 c ∗ barPay (F := F) 1 c ∗ R)
def B4 (c : Dev nD) (R : sProp 𝕄) : sProp 𝕄 := if 0 < c.val ∧ c.val < 3 then Bm m ρ K c R else B5 m ρ K c R

variable (c : Dev nD) (R : sProp (MT nD τ sig Unit (Elt F) ℕ UU ℕ))

theorem left_ok (h : 0 < c.val) {dd : Dev nD} (hdd : dd = nb 1 c) :
    Run c (B1 m ρ K c R) (semSignalWord dd barS 1#32 : Prog (TpuEff nD τ sig (Elt F) Λ₀ .tc) PUnit) (fun _ => B2 m ρ K c R) := by
  have h0 := (signal_ok m ρ K c (nb 1 c) true (O₁ c + T2 c) (duty_left c h) hdd).frame
    iprop(sigR (F := F) c ∗ (levAts L lv ∗ atPos ER (barCell c) 0 ∅ 0 ∗ cred (tallyAt (barCell c) () 1) ∗ credM (F := F) c) ∗ R)
  refine Run.pre ?_ (h0.post ?_)
  · unfold B1 sigL T1
    rw [if_pos h, if_pos h, payload_bar_true]
    iintro ⟨H1, H2, ⟨H3, H4⟩, H5, H6, H7⟩
    isplitl [H1 H2 H3 H4]
    · isplitl [H1]; · iexact H1
      isplitl [H2]; · iexact H2
      isplitl [H3] <;> iassumption
    isplitl [H5]; · iexact H5
    isplitl [H6] <;> iassumption
  · intro a
    unfold B2
    iintro ⟨⟨H1, H2⟩, H3, H4, H5⟩
    isplitl [H1]; · iexact H1
    isplitl [H2]; · iexact H2
    isplitl [H3]; · iexact H3
    isplitl [H4] <;> iassumption

theorem left_skip (h : ¬ 0 < c.val) : B1 m ρ K c R ⊢ B2 m ρ K c R := by
  unfold B1 B2 sigL T1
  rw [if_neg h, if_neg h, add_zero]
  iintro ⟨H1, H2, -, H3, H4, H5⟩
  isplitl [H1]; · iexact H1
  isplitl [H2]; · iexact H2
  isplitl [H3]; · iexact H3
  isplitl [H4] <;> iassumption

theorem right_ok (h : c.val < 3) {dd : Dev nD} (hdd : dd = nb 0 c) :
    Run c (B2 m ρ K c R) (semSignalWord dd barS 1#32 : Prog (TpuEff nD τ sig (Elt F) Λ₀ .tc) PUnit) (fun _ => B3 m ρ K c R) := by
  have h0 := (signal_ok m ρ K c (nb 0 c) false (O₁ c) (duty_right c h) hdd).frame
    iprop((levAts L lv ∗ atPos ER (barCell c) 0 ∅ 0 ∗ cred (tallyAt (barCell c) () 1) ∗ credM (F := F) c) ∗ R)
  refine Run.pre ?_ (h0.post ?_)
  · unfold B2 sigR T2
    rw [if_pos h, if_pos h, payload_bar_false]
    iintro ⟨H1, H2, ⟨H3, H4⟩, H6, H7⟩
    isplitl [H1 H2 H3 H4]
    · isplitl [H1]; · iexact H1
      isplitl [H2]; · iexact H2
      isplitl [H3] <;> iassumption
    isplitl [H6] <;> iassumption
  · intro a
    unfold B3
    iintro ⟨⟨H1, H2⟩, H4, H5⟩
    isplitl [H1]; · iexact H1
    isplitl [H2]; · iexact H2
    isplitl [H4] <;> iassumption

theorem right_skip (h : ¬ c.val < 3) : B2 m ρ K c R ⊢ B3 m ρ K c R := by
  unfold B2 B3 sigR T2
  rw [if_neg h, if_neg h, add_zero]
  iintro ⟨H1, H2, -, H4, H5⟩
  isplitl [H1]; · iexact H1
  isplitl [H2]; · iexact H2
  isplitl [H4] <;> iassumption

/-! ## The waits -/

theorem barPay_none (d : Fin 2) (h : ∀ s : Slot, sends c (d, s) = false) : (barPay d c : sProp 𝕄) = iprop(emp) := by
  unfold barPay
  rw [bigSep_congr (s := Finset.univ) (Ψ := fun _ : Slot => (iprop(emp) : sProp 𝕄)) (fun s _ => by rw [h s]; exact if_neg Bool.false_ne_true)]
  exact bigSep_emp_const _
theorem no_right : ∀ c : Dev nD, ¬ c.val < 3 → ∀ s : Slot, sends c (0, s) = false := by decide +kernel
theorem no_left : ∀ c : Dev nD, ¬ 0 < c.val → ∀ s : Slot, sends c (1, s) = false := by decide +kernel

theorem duties_eq : ∀ c : Dev nD, barDuties c = (if c.val < 3 then {true} else ∅) ∪ (if 0 < c.val then {false} else ∅) := by decide +kernel
theorem duties_disj : ∀ c : Dev nD, Disjoint (if c.val < 3 then ({true} : Finset Bool) else ∅) (if 0 < c.val then {false} else ∅) := by decide +kernel

/-- The barrier's payloads together. -/
theorem all_pay : (bigSep (barDuties c) (fun d => (Rd m ρ).payload (barCell c) 0 d) : sProp 𝕄) = iprop(barPay (F := F) 0 c ∗ barPay (F := F) 1 c) := by
  rw [duties_eq c, bigSep_union (duties_disj c)]
  congr 1
  · by_cases h : c.val < 3
    · rw [if_pos h, bigSep_singleton, payload_bar_true]
    · rw [if_neg h, bigSep_empty, barPay_none c 0 (no_right c h)]; rfl
  · by_cases h : 0 < c.val
    · rw [if_pos h, bigSep_singleton, payload_bar_false]
    · rw [if_neg h, bigSep_empty, barPay_none c 1 (no_left c h)]; rfl

theorem mayWait_bar : (levAts L lv : sProp 𝕄) ⊢ MayWait (c : Thread nD τ) (.reg barS) () (O₁ c) :=
  mayWait_of (F := F) c (.reg barS) (unsent 0 c) 1 le_rfl (fun k _ => by rw [lv_recv]; omega)

theorem word1 : (1#32 : BitVec 32).toInt.toNat = 1 := by decide

set_option maxHeartbeats 1000000 in
theorem wait_last (T : Finset Bool) (hT : T ⊆ barDuties c) (mm : ℕ) (hm : mm + 1 = (barDuties c).card) :
    Run c iprop(records m ρ K ∗ levAts L lv ∗ (∃ W, owes (c : Thread nD τ) (O₁ c) W) ∗ atPos ER (barCell c) 0 T mm
        ∗ bigSep T (fun d => (Rd m ρ).payload (barCell c) 0 d) ∗ cred (tallyAt (barCell c) () 1) ∗ R)
      (semWaitWord barS 1#32 : Prog (TpuEff nD τ sig (Elt F) Λ₀ .tc) PUnit) (fun _ => B5 m ρ K c R) := by
  unfold Run
  simp only [semWaitWord]
  iintro ⟨#HR, #HL, ⟨%W, HO⟩, Hat, HT, Hc, HX⟩
  iapply (Rounds.wp_wait_rest_token 𝒱₀ ER (Rd m ρ) (c : Thread nD τ) none (κ := K (c, none))
      (wpE_semWait_eq 𝒱₀ (c : Thread nD τ) none Set.univ) (Set.mem_univ _) () (O := O₁ c) (W := W) (R := 0) (m := mm) (T := T)
      (by rw [expect_bar]; exact hm)) $$ [Hc HO Hat]
  · isplitr; · iapply (inv_at m ρ K (c, none)); iexact HR
    isplitl [Hc]; · iexact Hc
    isplitl [HO]; · iexact HO
    isplitr; · iapply (mayWait_bar c); iexact HL
    iexact Hat
  iintro ⟨HO, Hat, -, Hpay⟩
  ihave Hp := (Entails.of_eq (show iprop(bigSep T (fun d => (Rd m ρ).payload (barCell c) 0 d)
      ∗ bigSep ((Rd (F := F) m ρ).duties (barCell c) 0 \ T) (fun d => (Rd (F := F) m ρ).payload (barCell c) 0 d)) = iprop(barPay (F := F) 0 c ∗ barPay (F := F) 1 c) by
    rw [duties_bar]; exact (bigSep_sdiff_split hT).symm.trans (all_pay m ρ c))) $$ [HT Hpay]
  · isplitl [HT] <;> iassumption
  icases Hp with ⟨Hp0, Hp1⟩
  rw [wp_ret]
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  imodintro
  unfold B5
  isplitr; · iexact HR
  isplitr; · iexact HL
  isplitl [HO]; · iexists _; iexact HO
  isplitl [Hz]; · iexact Hz
  isplitl [Hp0]; · iexact Hp0
  isplitl [Hp1] <;> iassumption

set_option maxHeartbeats 1000000 in
theorem wait_mid (h : 0 < c.val ∧ c.val < 3) :
    Run c (B3 m ρ K c R) (semWaitWord barS 1#32 : Prog (TpuEff nD τ sig (Elt F) Λ₀ .tc) PUnit) (fun _ => Bm m ρ K c R) := by
  unfold Run B3 credM
  rw [if_pos h]
  simp only [semWaitWord]
  iintro ⟨#HR, ⟨%W, HO⟩, ⟨#HL, Hat, Hc, Hc2⟩, HX⟩
  iapply (Rounds.wp_wait 𝒱₀ ER (Rd m ρ) (c : Thread nD τ) none (κ := K (c, none))
      (wpE_semWait_eq 𝒱₀ (c : Thread nD τ) none Set.univ) (Set.mem_univ _) (O := O₁ c) (W := W) {(.reg barS, ())} (R := 0) (m := 0) (T := ∅)
      (cr := Finsupp.single () 1) (by rw [Util.total_single]; rfl) (image_single_subset (.reg barS) () 1)) $$ [Hc HO Hat]
  · isplitr; · iapply (inv_at m ρ K (c, none)); iexact HR
    isplitl [Hc]; · iexact Hc
    isplitl [HO]; · iexact HO
    isplitr; · iapply (mayWait_bar c); iexact HL
    iexact Hat
  iintro %S ⟨%hS, HO, Hat, Hpay⟩
  rw [wp_ret]
  imodintro
  unfold Bm
  isplitr; · iexact HR
  isplitr; · iexact HL
  isplitl [HO]; · iexists _; iexact HO
  isplitl [Hat Hpay]
  · iexists S
    isplitr; · ipureintro; have := hS.2.1; rw [duties_bar] at this; exact this
    isplitl [Hat]; · iexact Hat
    iapply (Entails.of_eq (show bigSep (S \ ∅) (fun d => (Rd (F := F) m ρ).payload (barCell c) 0 d) = bigSep S (fun d => (Rd (F := F) m ρ).payload (barCell c) 0 d) by rw [Finset.sdiff_empty]))
    iexact Hpay
  isplitl [Hc2] <;> iassumption

theorem wait_one : Run c (B3 m ρ K c R) (semWaitWord barS 1#32 : Prog (TpuEff nD τ sig (Elt F) Λ₀ .tc) PUnit) (fun _ => B4 m ρ K c R) := by
  unfold B4
  by_cases h : 0 < c.val ∧ c.val < 3
  · rw [if_pos h]; exact wait_mid m ρ K c R h
  · rw [if_neg h]
    refine Run.pre ?_ (wait_last m ρ K c R ∅ (Finset.empty_subset _) 0 (by rw [card_end c h]))
    unfold B3
    iintro ⟨H1, H2, ⟨H3, H4, H5, -⟩, H6⟩
    isplitl [H1]; · iexact H1
    isplitl [H3]; · iexact H3
    isplitl [H2]; · iexact H2
    isplitl [H4]; · iexact H4
    isplitr; · rw [bigSep_empty]; iempintro
    isplitl [H5] <;> iassumption

theorem wait_two (h : 0 < c.val ∧ c.val < 3) :
    Run c (B4 m ρ K c R) (semWaitWord barS 1#32 : Prog (TpuEff nD τ sig (Elt F) Λ₀ .tc) PUnit) (fun _ => B5 m ρ K c R) := by
  unfold B4 Bm
  rw [if_pos h]
  unfold Run
  iintro ⟨H1, H2, H3, ⟨%S, %hS, H4, H5⟩, H6, H7⟩
  have h0 := wait_last m ρ K c R S hS 1 (card_mid c h).symm
  unfold Run at h0
  iapply h0
  isplitl [H1]; · iexact H1
  isplitl [H2]; · iexact H2
  isplitl [H3]; · iexact H3
  isplitl [H4]; · iexact H4
  isplitl [H5]; · iexact H5
  isplitl [H6] <;> iassumption

theorem wait_skip (h : ¬ (0 < c.val ∧ c.val < 3)) : B4 m ρ K c R ⊢ B5 m ρ K c R := by unfold B4; rw [if_neg h]

end Cert.KernelIdeal.Att

end
-- ==== Proof.IdealStore.lean ====
/-
# The program's first parts

Before the transfers a device passes the barrier and stores its own chunk's four pieces into their slots of
the gather buffer; after the last transfer it begins the first head.
-/
module

public import proofs.«01_k».proof.Proof.IdealBar

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-! ## The slots -/

theorem slot_set (s : Slot) : (slotM s).view.set = (Rect.unit (s := S4x4x512x512) ![s.1.val, s.2.val, 0, 0] S1x1x512x512.size (slot_inb s)).set := by
  show (((View.whole cc0_scratch0).slice (Rect.unit (s := S4x4x512x512) ![s.1.val, s.2.val, 0, 0] S1x1x512x512.size (slot_inb s))).reshape S512x512 _).set = _
  rw [View.set_reshape, View.set_slice_whole]

/-- The gathered contents on a slot are its piece. -/
theorem KV_at (s : Slot) (x : S1x1x512x512.Idx) :
    KV m ρ ((Rect.unit (s := S4x4x512x512) ![s.1.val, s.2.val, 0, 0] S1x1x512x512.size (slot_inb s)).emb x) = piece m ρ ⟨s.1.val, s.1.isLt⟩ s.2 x := by
  have hx0 : (x 0).val = 0 := by have := (x 0).isLt; exact Nat.lt_one_iff.mp this
  have hx1 : (x 1).val = 0 := by have := (x 1).isLt; exact Nat.lt_one_iff.mp this
  unfold KV
  refine congr (congr (congrArg (piece m ρ) (Fin.ext ?_)) (Fin.ext ?_)) (funext fun a => ?_)
  · show s.1.val + 1 * (x 0).val = s.1.val
    omega
  · show s.2.val + 1 * (x 1).val = s.2.val
    omega
  · fin_cases a
    · exact Fin.ext hx0.symm
    · exact Fin.ext hx1.symm
    · exact Fin.ext (show 0 + 1 * (x 2).val = (x 2).val by omega)
    · exact Fin.ext (show 0 + 1 * (x 3).val = (x 3).val by omega)

/-- Storing a piece makes its slot the gathered contents. -/
theorem stored (s : Slot) (f : (cc0_scratch0 : Ref sig .tc).ty.Contents (Elt F)) (w : Vec F S1x1x512x512 .bf16)
    (hw : w = piece m ρ ⟨s.1.val, s.1.isLt⟩ s.2) :
    ∀ i ∈ (slotM s).view.set, ((Memref.whole cc0_scratch0).access (Rect.unit (s := S4x4x512x512) ![s.1.val, s.2.val, 0, 0] S1x1x512x512.size (slot_inb s))).write (Elt F) f w Finset.univ i
      = KV m ρ i := by
  intro i hi
  rw [slot_set, ← Rect.map_emb_univ] at hi
  obtain ⟨x, -, rfl⟩ := Finset.mem_map.mp hi
  rw [KV_at, ← hw]
  exact View.write_emb_of_mem (v := (Memref.whole cc0_scratch0).access (Rect.unit (s := S4x4x512x512) ![s.1.val, s.2.val, 0, 0] S1x1x512x512.size (slot_inb s))) f w (Finset.mem_univ x)

/-- A device's own slots, the first `n` pieces stored. -/
def ownAt (c : Dev nD) (n : ℕ) (s : Slot) : sProp 𝕄 :=
  if s.1.val = c.val then (if s.2.val < n then slotPts c s fullShare (KV m ρ) else iprop(∃ f, slotPts (F := F) c s fullShare f)) else iprop(emp)
def Own (c : Dev nD) (n : ℕ) : sProp 𝕄 := bigSep Finset.univ (ownAt m ρ c n)
/-- The own slot of a piece. -/
abbrev mine (c : Dev nD) (p : Fin 4) : Slot := (⟨c.val, c.isLt⟩, p)

theorem own_next (c : Dev nD) (p : Fin 4) :
    Own m ρ c p.val ⊢ iprop(∃ f, slotPts (F := F) c (mine c p) fullShare f ∗ (slotPts c (mine c p) fullShare (KV m ρ) -∗ Own m ρ c (p.val + 1))) := by
  unfold Own
  iintro H
  ihave H' := (bigSep_univ_update (Φ := ownAt m ρ c p.val) (Ψ := ownAt m ρ c (p.val + 1)) (mine c p) (fun s hs => by
    unfold ownAt
    by_cases h : s.1.val = c.val
    · rw [if_pos h, if_pos h]
      have hp : s.2.val ≠ p.val := fun e => hs (Prod.ext (Fin.ext h) (Fin.ext e))
      by_cases hl : s.2.val < p.val
      · rw [if_pos hl, if_pos (by omega)]
      · rw [if_neg hl, if_neg (by omega)]
    · rw [if_neg h, if_neg h])) $$ H
  icases H' with ⟨H1, H2⟩
  ihave H1' := (Entails.of_eq (show ownAt m ρ c p.val (mine c p) = iprop(∃ f, slotPts (F := F) c (mine c p) fullShare f) by
    unfold ownAt; rw [if_pos rfl, if_neg (Nat.lt_irrefl _)])) $$ H1
  icases H1' with ⟨%f, H1⟩
  iexists f
  isplitl [H1]; · iexact H1
  iintro H
  iapply H2
  iapply (Entails.of_eq (show slotPts c (mine c p) fullShare (KV m ρ) = ownAt m ρ c (p.val + 1) (mine c p) by
    unfold ownAt; rw [if_pos rfl, if_pos (Nat.lt_succ_self _)]))
  iexact H

theorem own_same (c : Dev nD) (p : Fin 4) :
    Own m ρ c p.val ⊢ iprop(∃ f, slotPts (F := F) c (mine c p) fullShare f ∗ (slotPts c (mine c p) fullShare f -∗ Own m ρ c p.val)) := by
  unfold Own
  iintro H
  ihave H' := (bigSep_univ_update (Φ := ownAt m ρ c p.val) (Ψ := ownAt m ρ c p.val) (mine c p) (fun s hs => rfl)) $$ H
  icases H' with ⟨H1, H2⟩
  ihave H1' := (Entails.of_eq (show ownAt m ρ c p.val (mine c p) = iprop(∃ f, slotPts (F := F) c (mine c p) fullShare f) by
    unfold ownAt; rw [if_pos rfl, if_neg (Nat.lt_irrefl _)])) $$ H1
  icases H1' with ⟨%f, H1⟩
  iexists f
  isplitl [H1]; · iexact H1
  iintro H
  iapply H2
  iapply (Entails.of_eq (show iprop(∃ f, slotPts (F := F) c (mine c p) fullShare f) = ownAt m ρ c p.val (mine c p) by
    unfold ownAt; rw [if_pos rfl, if_neg (Nat.lt_irrefl _)]))
  iexists f
  iexact H

/-- The staged keys and values. -/
def KSt (c : Dev nD) : sProp 𝕄 := (Memref.whole cc0_stg1_0).view.loc (c : Thread nD τ) ↦{fullShare} kStg m ρ c
def VSt (c : Dev nD) : sProp 𝕄 := (Memref.whole cc0_stg2_0).view.loc (c : Thread nD τ) ↦{fullShare} vStg m ρ c

/-- While the own pieces are stored. -/
def Gs (c : Dev nD) (n : ℕ) (R : sProp 𝕄) : sProp 𝕄 := iprop(Own m ρ c n ∗ KSt m ρ c ∗ VSt m ρ c ∗ R)

section Ops
variable {c : Dev nD} {n : ℕ} {R : sProp (MT nD τ sig Unit (Elt F) ℕ UU ℕ)} {β : Type} {Q : β → sProp (MT nD τ sig Unit (Elt F) ℕ UU ℕ)}

theorem ld_k {r : LoadRect S2x512x8x64} {hl : (Memref.whole cc0_stg1_0 : Memref sig .tc .vmem S2x512x8x64 .bf16).view.LoadsAt r}
    {k : (r.shape.Idx → Elt F .bf16) → Prog (TpuEff nD τ sig (Elt F) Λ₀ .tc) β}
    (h : Run c (Gs m ρ c n R) (k ((Memref.whole cc0_stg1_0).view.readAt (Elt F) r (kStg m ρ c))) Q) :
    Run c (Gs m ρ c n R) (Prog.lift (.load (Memref.whole cc0_stg1_0) r hl) >>= k) Q := by
  refine ld_at (mm := Memref.whole cc0_stg1_0) (kStg m ρ c) (S := Finset.univ) (qq := fullShare) (Finset.subset_univ _) ?_ h
  unfold Gs KSt
  iintro ⟨H1, H2, H3, H4⟩
  isplitl [H2]; · iexact H2
  iintro H2
  isplitl [H1]; · iexact H1
  isplitl [H2]; · iexact H2
  isplitl [H3] <;> iassumption

theorem ld_v {r : LoadRect S2x512x8x64} {hl : (Memref.whole cc0_stg2_0 : Memref sig .tc .vmem S2x512x8x64 .bf16).view.LoadsAt r}
    {k : (r.shape.Idx → Elt F .bf16) → Prog (TpuEff nD τ sig (Elt F) Λ₀ .tc) β}
    (h : Run c (Gs m ρ c n R) (k ((Memref.whole cc0_stg2_0).view.readAt (Elt F) r (vStg m ρ c))) Q) :
    Run c (Gs m ρ c n R) (Prog.lift (.load (Memref.whole cc0_stg2_0) r hl) >>= k) Q := by
  refine ld_at (mm := Memref.whole cc0_stg2_0) (vStg m ρ c) (S := Finset.univ) (qq := fullShare) (Finset.subset_univ _) ?_ h
  unfold Gs VSt
  iintro ⟨H1, H2, H3, H4⟩
  isplitl [H3]; · iexact H3
  iintro H3
  isplitl [H1]; · iexact H1
  isplitl [H2]; · iexact H2
  isplitl [H3] <;> iassumption

/-- The own slot is read before it is stored; the value read is not used. -/
theorem ld_own (p : Fin 4) {o : Fin 4 → ℕ} (ho : o = off4 (mine c p)) {inb : ∀ i, o i + S1x1x512x512.size i ≤ S4x4x512x512.size i}
    {hl : (Memref.whole cc0_scratch0 : Memref sig .tc .vmem S4x4x512x512 .bf16).view.LoadsAt (Rect.unit (s := S4x4x512x512) o S1x1x512x512.size inb).toLoadRect}
    {k : Vec F S1x1x512x512 .bf16 → Prog (TpuEff nD τ sig (Elt F) Λ₀ .tc) β}
    (h : ∀ v, Run c (Gs m ρ c p.val R) (k v) Q) :
    Run c (Gs m ρ c p.val R) (Prog.lift (.load (Memref.whole cc0_scratch0) (Rect.unit (s := S4x4x512x512) o S1x1x512x512.size inb).toLoadRect hl) >>= k) Q := by
  subst ho
  refine ld_any (mm := Memref.whole cc0_scratch0) (S := (slotM (mine c p)).view.set) (qq := fullShare) ?_ ?_ h
  · rw [slot_set]
    intro i hi
    obtain ⟨x, hx, rfl⟩ := Finset.mem_map.mp hi
    exact hx
  · unfold Gs
    iintro ⟨H1, H2, H3, H4⟩
    ihave H := (own_same m ρ c p) $$ H1
    icases H with ⟨%f, H, Hb⟩
    iexists f
    isplitl [H]; · unfold slotPts; iexact H
    iintro H
    isplitl [H Hb]; · iapply Hb; unfold slotPts; iexact H
    isplitl [H2]; · iexact H2
    isplitl [H3] <;> iassumption

theorem st_own (p : Fin 4) {o : Fin 4 → ℕ} (ho : o = off4 (mine c p)) {inb : ∀ i, o i + S1x1x512x512.size i ≤ S4x4x512x512.size i}
    {w : Vec F S1x1x512x512 .bf16} (hw : w = piece m ρ c p)
    {hx : ((Memref.whole cc0_scratch0 : Memref sig .tc .vmem S4x4x512x512 .bf16).access (Rect.unit (s := S4x4x512x512) o S1x1x512x512.size inb)).Stores Finset.univ}
    {hm : Finset.univ = Finset.univ ∨ ∀ a, (Rect.unit (s := S4x4x512x512) o S1x1x512x512.size inb).stride a = 1}
    {k : PUnit → Prog (TpuEff nD τ sig (Elt F) Λ₀ .tc) β}
    (h : Run c (Gs m ρ c (p.val + 1) R) (k ⟨⟩) Q) :
    Run c (Gs m ρ c p.val R) (Prog.lift (.store (Memref.whole cc0_scratch0) (Rect.unit (s := S4x4x512x512) o S1x1x512x512.size inb) w Finset.univ hx hm) >>= k) Q := by
  subst ho
  refine st_at (mm := Memref.whole cc0_scratch0) (S := (slotM (mine c p)).view.set) (P' := Gs m ρ c (p.val + 1) R) ?_ ?_ h
  · rw [slot_set]
    intro i hi
    rw [← Rect.map_emb_univ]
    exact hi
  · unfold Gs
    iintro ⟨H1, H2, H3, H4⟩
    ihave H := (own_next m ρ c p) $$ H1
    icases H with ⟨%f, H, Hb⟩
    iexists f
    isplitl [H]; · unfold slotPts; iexact H
    iintro H
    isplitl [H Hb]
    · iapply Hb
      have e : (slotPts c (mine c p) fullShare (((Memref.whole cc0_scratch0).access (Rect.unit (s := S4x4x512x512) (off4 (mine c p)) S1x1x512x512.size inb)).write (Elt F) f w Finset.univ) : sProp 𝕄)
          = slotPts c (mine c p) fullShare (KV m ρ) := by
        unfold slotPts
        exact pointsTo_congr (stored m ρ (mine c p) f w hw)
      iapply (Entails.of_eq e)
      unfold slotPts; iexact H
    isplitl [H2]; · iexact H2
    isplitl [H3] <;> iassumption

end Ops

theorem off1_eq : ∀ d : Dev nD, k0_off1 d = off4 (mine d 0) := by decide +kernel
theorem off2_eq : ∀ d : Dev nD, k0_off2 d = off4 (mine d 1) := by decide +kernel
theorem off3_eq : ∀ d : Dev nD, k0_off3 d = off4 (mine d 2) := by decide +kernel
theorem off4_eq : ∀ d : Dev nD, k0_off4 d = off4 (mine d 3) := by decide +kernel

/-! ## The first part -/

/-- The device's place on the line, as the program computes it, and what it computes from it. -/
abbrev w2 (d : Dev nD) : BitVec 32 := Scalar.remsi (Scalar.divsi (Dev.word d) 1#32) 4#32
abbrev w3 (d : Dev nD) : BitVec 1 := Scalar.cmpi .slt (w2 d) 3#32
abbrev w4 (d : Dev nD) : BitVec 1 := Scalar.cmpi .sgt (w2 d) 0#32
abbrev w6 (d : Dev nD) : BitVec 32 := Scalar.minsi (Scalar.addi (w2 d) 1#32) 3#32
abbrev w8 (d : Dev nD) : BitVec 32 := Scalar.maxsi (Scalar.subi (w2 d) 1#32) 0#32

/-- All but the own slots and the staged blocks, after the barrier. -/
abbrev Rest5 (c : Dev nD) (X : sProp 𝕄) : sProp 𝕄 := B5 m ρ K c X

theorem to_Gs (c : Dev nD) (X : sProp 𝕄) :
    B5 m ρ K c iprop(Own m ρ c 0 ∗ KSt m ρ c ∗ VSt m ρ c ∗ X) ⊢ Gs m ρ c 0 (B5 m ρ K c X) := by
  unfold B5 Gs
  iintro ⟨H1, H2, H3, H4, H5, H6, H7, H8, H9, H10⟩
  isplitl [H7]; · iexact H7
  isplitl [H8]; · iexact H8
  isplitl [H9]; · iexact H9
  isplitl [H1]; · iexact H1
  isplitl [H2]; · iexact H2
  isplitl [H3]; · iexact H3
  isplitl [H4]; · iexact H4
  isplitl [H5]; · iexact H5
  isplitl [H6] <;> iassumption

end Cert.KernelIdeal.Att

end
-- ==== Proof.IdealEnds.lean ====
/-
# Before the first transfer and after the last

How the gather buffer is dealt out in slots, what a device holds when its transfers begin, and that after
the last transfer it holds the whole gather buffer with every semaphore at zero.
-/
module

public import proofs.«01_k».proof.Proof.IdealStore

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-! ## The gather buffer in slots -/

theorem slot_mem (s : Slot) (i : S4x4x512x512.Idx) : i ∈ (slotM s).view.set ↔ ((i 0).val = s.1.val ∧ (i 1).val = s.2.val) := by
  rw [slot_set, ← Rect.map_emb_univ, Finset.mem_map]
  constructor
  · rintro ⟨x, -, rfl⟩
    have hx0 : (x 0).val = 0 := by have := (x 0).isLt; exact Nat.lt_one_iff.mp this
    have hx1 : (x 1).val = 0 := by have := (x 1).isLt; exact Nat.lt_one_iff.mp this
    refine ⟨?_, ?_⟩
    · show s.1.val + 1 * (x 0).val = s.1.val
      omega
    · show s.2.val + 1 * (x 1).val = s.2.val
      omega
  · rintro ⟨h0, h1⟩
    refine ⟨(fun a => match a with
      | ⟨0, _⟩ => ⟨0, Nat.one_pos⟩ | ⟨1, _⟩ => ⟨0, Nat.one_pos⟩ | ⟨2, _⟩ => ⟨(i 2).val, (i 2).isLt⟩ | ⟨3, _⟩ => ⟨(i 3).val, (i 3).isLt⟩ : S1x1x512x512.Idx),
      Finset.mem_univ _, funext fun a => ?_⟩
    fin_cases a
    · exact Fin.ext (show s.1.val + 1 * 0 = (i 0).val by omega)
    · exact Fin.ext (show s.2.val + 1 * 0 = (i 1).val by omega)
    · exact Fin.ext (show 0 + 1 * (i 2).val = (i 2).val by omega)
    · exact Fin.ext (show 0 + 1 * (i 3).val = (i 3).val by omega)

theorem slots_cover : (Finset.univ : Finset Slot).biUnion (β := S4x4x512x512.Idx) (fun s => (slotM s).view.set) = Finset.univ := by
  refine Finset.eq_univ_iff_forall.mpr fun (i : S4x4x512x512.Idx) => Finset.mem_biUnion.mpr ⟨(⟨(i 0).val, (i 0).isLt⟩, ⟨(i 1).val, (i 1).isLt⟩), Finset.mem_univ _, ?_⟩
  exact (slot_mem _ i).mpr ⟨rfl, rfl⟩

theorem slots_disj (s : Slot) (_ : s ∈ Finset.univ) (s' : Slot) (_ : s' ∈ Finset.univ) (h : s ≠ s') : Disjoint (slotM s).view.set (slotM s').view.set := by
  refine Finset.disjoint_left.mpr fun (i : S4x4x512x512.Idx) hi hi' => h ?_
  obtain ⟨a, b⟩ := (slot_mem s i).mp hi
  obtain ⟨a', b'⟩ := (slot_mem s' i).mp hi'
  exact Prod.ext (Fin.ext (a.symm.trans a')) (Fin.ext (b.symm.trans b'))

/-- The whole gather buffer of a device. -/
def scr (c : Dev nD) (f : CG (F := F)) : sProp 𝕄 := (Memref.whole cc0_scratch0).view.loc (c : Thread nD τ) ↦{fullShare} f

theorem scr_slots (c : Dev nD) (f : CG (F := F)) : scr c f = bigSep Finset.univ fun s : Slot => slotPts (F := F) c s fullShare f := by
  unfold scr slotPts
  have h := pointsTo_biUnion (Ix := Unit) (Name := ℕ) (U := UU) (Lvl := ℕ) (ℓ := (Memref.whole cc0_scratch0).view.loc (c : Thread nD τ)) (q := fullShare) (f := f)
    Finset.univ (fun s : Slot => (slotM s).view.set) slots_disj
  exact (congrArg (fun S => ((Memref.whole cc0_scratch0).view.loc (c : Thread nD τ) ↦[S]{fullShare} f : sProp 𝕄)) slots_cover.symm).trans h

/-- The slots a device hands to its left and to its right neighbour. -/
def lf (c : Dev nD) (s : Slot) : sProp 𝕄 := if s.1.val < c.val then iprop(∃ f, slotPts (F := F) c s fullShare f) else iprop(emp)
def rt (c : Dev nD) (s : Slot) : sProp 𝕄 := if c.val < s.1.val then iprop(∃ f, slotPts (F := F) c s fullShare f) else iprop(emp)

theorem sends_left : ∀ c : Dev nD, 0 < c.val → ∀ s : Slot, sends (nb 1 c) (0, s) = decide (s.1.val < c.val) := by decide +kernel
theorem sends_right : ∀ c : Dev nD, c.val < 3 → ∀ s : Slot, sends (nb 0 c) (1, s) = decide (c.val < s.1.val) := by decide +kernel

theorem lf_pay (c : Dev nD) (h : 0 < c.val) : (bigSep Finset.univ (lf (F := F) c) : sProp 𝕄) = barPay 0 (nb 1 c) := by
  unfold barPay
  refine bigSep_congr fun s _ => ?_
  rw [sends_left c h s, show nb 0 (nb 1 c) = c from nb_nb' 0 c]
  unfold lf
  by_cases hs : s.1.val < c.val
  · rw [if_pos hs, decide_eq_true hs, if_pos rfl]
  · rw [if_neg hs, decide_eq_false hs, if_neg Bool.false_ne_true]
theorem rt_pay (c : Dev nD) (h : c.val < 3) : (bigSep Finset.univ (rt (F := F) c) : sProp 𝕄) = barPay 1 (nb 0 c) := by
  unfold barPay
  refine bigSep_congr fun s _ => ?_
  rw [sends_right c h s, show nb 1 (nb 0 c) = c from nb_nb' 1 c]
  unfold rt
  by_cases hs : c.val < s.1.val
  · rw [if_pos hs, decide_eq_true hs, if_pos rfl]
  · rw [if_neg hs, decide_eq_false hs, if_neg Bool.false_ne_true]

theorem deal (c : Dev nD) (f : CG (F := F)) :
    scr c f ⊢ iprop(bigSep Finset.univ (lf (F := F) c) ∗ bigSep Finset.univ (rt (F := F) c) ∗ Own m ρ c 0) := by
  rw [scr_slots]
  have h : (bigSep Finset.univ fun s : Slot => slotPts (F := F) c s fullShare f) ⊢ bigSep Finset.univ fun s : Slot => iprop(lf (F := F) c s ∗ rt (F := F) c s ∗ ownAt m ρ c 0 s) := by
    refine bigSep_mono fun s _ => ?_
    unfold lf rt ownAt
    rcases Nat.lt_trichotomy s.1.val c.val with hs | hs | hs
    · rw [if_pos hs, if_neg (by omega), if_neg (by omega)]
      show (slotPts (F := F) c s fullShare f : sProp 𝕄) ⊢ iprop((∃ f, slotPts (F := F) c s fullShare f) ∗ emp ∗ emp)
      iintro H
      isplitl [H]; · iexists f; iexact H
      isplitr <;> iempintro
    · rw [if_neg (by omega), if_neg (by omega), if_pos hs, if_neg (by omega)]
      show (slotPts (F := F) c s fullShare f : sProp 𝕄) ⊢ iprop(emp ∗ emp ∗ ∃ f, slotPts (F := F) c s fullShare f)
      iintro H
      isplitr; · iempintro
      isplitr; · iempintro
      iexists f; iexact H
    · rw [if_neg (by omega), if_pos hs, if_neg (by omega)]
      show (slotPts (F := F) c s fullShare f : sProp 𝕄) ⊢ iprop(emp ∗ (∃ f, slotPts (F := F) c s fullShare f) ∗ emp)
      iintro H
      isplitr; · iempintro
      isplitl [H]; · iexists f; iexact H
      iempintro
  refine h.trans (Entails.of_eq ?_)
  rw [bigSep_sep', bigSep_sep']
  rfl

/-! ## The keys when the transfers begin -/

/-- A key's ghost state at launch. -/
def key0 (c : Dev nD) (k : Key) : sProp 𝕄 :=
  iprop(atPos ER (recvCell c k) 0 ∅ 0 ∗ atPos ER (sendCell c k) 0 ∅ 0
    ∗ (if recvs c k = true then cred (tallyAt (recvCell c k) () N) else iprop(emp))
    ∗ (if sends c k = true then iprop(dutyTok ER (sendCell c k) 0 false ∗ dutyTok ER (recvCell (nb k.1 c) k) 0 false) else iprop(emp)))
/-- The neighbour's slot a key is sent to. -/
def nbS (c : Dev nD) (k : Key) : sProp 𝕄 := if sends c k = true then iprop(∃ f, slotPts (F := F) (nb k.1 c) k.2 fullShare f) else iprop(emp)

theorem fin2_sep (Φ : Fin 2 → sProp (MT nD τ sig Unit (Elt F) ℕ UU ℕ)) : (bigSep Finset.univ Φ : sProp 𝕄) = iprop(Φ 0 ∗ Φ 1) := by
  rw [bigSep_univ_eq_bigSepL [0, 1] (by decide) (by decide), bigSepL_cons_cons, bigSepL_singleton]
  rfl

theorem key_sep (Φ : Key → sProp (MT nD τ sig Unit (Elt F) ℕ UU ℕ)) :
    (bigSep Finset.univ Φ : sProp 𝕄) = bigSep Finset.univ fun s : Slot => iprop(Φ (0, s) ∗ Φ (1, s)) := by
  rw [bigSep_univ_prod, fin2_sep, bigSep_sep']

theorem bar_keys (c : Dev nD) : (iprop(barPay (F := F) 0 c ∗ barPay (F := F) 1 c) : sProp 𝕄) = bigSep Finset.univ (nbS (F := F) c) := by
  rw [bigSep_univ_prod, fin2_sep]
  rfl

theorem aS0 : ∀ c : Dev nD, ∀ k : Key, aS 0 c k = !recvs c k := by decide +kernel
theorem bS0 : ∀ c : Dev nD, ∀ k : Key, bS 0 c k = if sends c k then 0 else 2 := by decide +kernel
theorem own_holds : ∀ c : Dev nD, ∀ k : Key, (!recvs c k && holds c k) = decide (k.2.1.val = c.val) := by decide +kernel
theorem bS0_ne : ∀ c : Dev nD, ∀ k : Key, bS 0 c k ≠ 1 := by decide +kernel

theorem KRs0 (c : Dev nD) (k : Key) :
    KRs m ρ c (aS 0 c k) (bS 0 c k) k = if k.2.1.val = c.val then slotPts c k.2 (shr c k) (KV m ρ) else iprop(emp) := by
  unfold KRs
  rw [aS0, decide_eq_true (bS0_ne c k), Bool.and_true, own_holds]
  by_cases h : k.2.1.val = c.val
  · rw [decide_eq_true h, if_pos rfl, if_pos h]
  · rw [decide_eq_false h, if_neg Bool.false_ne_true, if_neg h]

theorem halves (c : Dev nD) (s : Slot) (h : s.1.val = c.val) :
    (slotPts c s fullShare (KV m ρ) : sProp 𝕄) ⊣⊢ iprop(slotPts c s (shr c (0, s)) (KV m ρ) ∗ slotPts c s (shr c (1, s)) (KV m ρ)) := by
  rw [show shr c (0, s) = fullShare.left from by unfold shr; rw [if_pos h, if_pos rfl],
    show shr c (1, s) = fullShare.right from by unfold shr; rw [if_pos h, if_neg (show ¬ (1 : Fin 2) = 0 by decide)]]
  unfold slotPts
  exact pointsTo_share (by rw [PosShare.left_op_right]; exact Part.mem_some _)

theorem own_keys (c : Dev nD) : Own m ρ c 4 ⊢ bigSep Finset.univ fun k : Key => KRs m ρ c (aS 0 c k) (bS 0 c k) k := by
  rw [key_sep]
  unfold Own
  refine bigSep_mono fun s _ => ?_
  rw [KRs0, KRs0]
  unfold ownAt
  by_cases h : s.1.val = c.val
  · rw [if_pos h, if_pos h, if_pos h, if_pos (by have := s.2.isLt; omega)]
    exact (halves m ρ c s h).1
  · rw [if_neg h, if_neg h, if_neg h]
    show (iprop(emp) : sProp 𝕄) ⊢ iprop(emp ∗ emp)
    iintro -
    isplitr <;> iempintro

set_option maxHeartbeats 1000000 in
/-- The cells of a key that are not used are closed; the rest stands as the transfers find it. -/
theorem key_start (c : Dev nD) (k : Key) :
    iprop(records m ρ K ∗ (key0 (F := F) c k ∗ nbS (F := F) c k ∗ KRs m ρ c (aS 0 c k) (bS 0 c k) k))
      ⊢ iprop(|={Set.univ}=> KR m ρ c (aS 0 c k) (bS 0 c k) k) := by
  unfold KR key0 nbS
  generalize KRs m ρ c (aS 0 c k) (bS 0 c k) k = X
  rw [aS0, bS0]
  cases hr : recvs c k <;> cases hs : sends c k
  · iintro ⟨#HR, ⟨H1, H2, -, -⟩, -, HX⟩
    imod (Rounds.cell_close ER (Rd m ρ) (Set.mem_univ (K (c, some (true, k)))) (fun h => h) (R := 0) (duties_recv_all m ρ c k hr)) $$ [H1] with Hz1
    · isplitr; · iapply (inv_at m ρ K (c, some (true, k))); iexact HR
      iexact H1
    imod (Rounds.cell_close ER (Rd m ρ) (Set.mem_univ (K (c, some (false, k)))) (fun h => h) (R := 0) (duties_send_all m ρ c k hs)) $$ [H2] with Hz2
    · isplitr; · iapply (inv_at m ρ K (c, some (false, k))); iexact HR
      iexact H2
    imodintro
    isplitl [Hz1]; · iapply (Entails.of_eq (KRa_true (F := F) c k).symm); iexact Hz1
    isplitl [Hz2]; · iapply (Entails.of_eq (KRb_2 (F := F) c k).symm); iexact Hz2
    iexact HX
  · iintro ⟨#HR, ⟨H1, H2, -, Ht⟩, Hn, HX⟩
    imod (Rounds.cell_close ER (Rd m ρ) (Set.mem_univ (K (c, some (true, k)))) (fun h => h) (R := 0) (duties_recv_all m ρ c k hr)) $$ [H1] with Hz1
    · isplitr; · iapply (inv_at m ρ K (c, some (true, k))); iexact HR
      iexact H1
    imodintro
    isplitl [Hz1]; · iapply (Entails.of_eq (KRa_true (F := F) c k).symm); iexact Hz1
    isplitl [H2 Ht Hn]
    · iapply (Entails.of_eq (KRb_0 (F := F) c k).symm)
      ihave Ht' := (Entails.of_eq (if_pos (rfl : true = true))) $$ Ht
      ihave Hn' := (Entails.of_eq (if_pos (rfl : true = true))) $$ Hn
      icases Ht' with ⟨Ht1, Ht2⟩
      isplitl [H2]; · iexact H2
      isplitl [Ht1]; · iexact Ht1
      isplitl [Ht2]; · iexact Ht2
      iexact Hn'
    iexact HX
  · iintro ⟨#HR, ⟨H1, H2, Hc, -⟩, -, HX⟩
    imod (Rounds.cell_close ER (Rd m ρ) (Set.mem_univ (K (c, some (false, k)))) (fun h => h) (R := 0) (duties_send_all m ρ c k hs)) $$ [H2] with Hz2
    · isplitr; · iapply (inv_at m ρ K (c, some (false, k))); iexact HR
      iexact H2
    imodintro
    isplitl [H1 Hc]
    · iapply (Entails.of_eq (KRa_false (F := F) c k).symm)
      ihave Hc' := (Entails.of_eq (if_pos (rfl : true = true))) $$ Hc
      isplitl [Hc']; · iexact Hc'
      iexact H1
    isplitl [Hz2]; · iapply (Entails.of_eq (KRb_2 (F := F) c k).symm); iexact Hz2
    iexact HX
  · iintro ⟨#HR, ⟨H1, H2, Hc, Ht⟩, Hn, HX⟩
    imodintro
    isplitl [H1 Hc]
    · iapply (Entails.of_eq (KRa_false (F := F) c k).symm)
      ihave Hc' := (Entails.of_eq (if_pos (rfl : true = true))) $$ Hc
      isplitl [Hc']; · iexact Hc'
      iexact H1
    isplitl [H2 Ht Hn]
    · iapply (Entails.of_eq (KRb_0 (F := F) c k).symm)
      ihave Ht' := (Entails.of_eq (if_pos (rfl : true = true))) $$ Ht
      ihave Hn' := (Entails.of_eq (if_pos (rfl : true = true))) $$ Hn
      icases Ht' with ⟨Ht1, Ht2⟩
      isplitl [H2]; · iexact H2
      isplitl [Ht1]; · iexact Ht1
      isplitl [Ht2]; · iexact Ht2
      iexact Hn'
    iexact HX

theorem each_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

/-- What a device holds besides while it transfers. -/
def Side (c : Dev nD) (X : sProp 𝕄) : sProp 𝕄 := iprop(semVal (barCell c) 0 ∗ KSt m ρ c ∗ VSt m ρ c ∗ X)

set_option maxHeartbeats 1000000 in
/-- The own pieces stored, the transfers can begin. -/
theorem enter (c : Dev nD) (X : sProp 𝕄) :
    Gs m ρ c 4 (B5 m ρ K c iprop((bigSep Finset.univ fun k : Key => key0 (F := F) c k) ∗ X)) ⊢ iprop(|={Set.univ}=> (St m ρ K 0 c ∗ Side m ρ c X)) := by
  have h : iprop(records m ρ K ∗ (bigSep Finset.univ fun k : Key => key0 (F := F) c k) ∗ (barPay (F := F) 0 c ∗ barPay (F := F) 1 c) ∗ Own m ρ c 4)
      ⊢ iprop(|={Set.univ}=> bigSep Finset.univ fun k : Key => KR m ρ c (aS 0 c k) (bS 0 c k) k) := by
    rw [bar_keys]
    have h1 : iprop((bigSep Finset.univ fun k : Key => key0 (F := F) c k) ∗ bigSep Finset.univ (nbS (F := F) c) ∗ Own m ρ c 4)
        ⊢ bigSep Finset.univ fun k : Key => iprop(key0 (F := F) c k ∗ nbS (F := F) c k ∗ KRs m ρ c (aS 0 c k) (bS 0 c k) k) := by
      rw [bigSep_sep', bigSep_sep']
      iintro ⟨H1, H2, H3⟩
      isplitl [H1]; · iexact H1
      isplitl [H2]; · iexact H2
      iapply (own_keys m ρ c); iexact H3
    refine BI.Entails.trans (sep_mono_right h1) (BI.Entails.trans (each_with (R := records m ρ K) fun k _ => key_start m ρ K c k) (bigSep_fupd _ _))
  unfold Gs B5 St Side
  iintro ⟨H1, H2, H3, #HR, #HL, ⟨%W, HO⟩, Hz, Hp0, Hp1, Hk, HX⟩
  imod h $$ [H1 Hp0 Hp1 Hk] with HB
  · isplitr; · iexact HR
    isplitl [Hk]; · iexact Hk
    isplitl [Hp0 Hp1]; · isplitl [Hp0] <;> iassumption
    iexact H1
  imodintro
  isplitl [HO HB]
  · isplitr; · iexact HR
    isplitr; · iexact HL
    iexists W
    isplitl [HO] <;> iassumption
  isplitl [Hz]; · iexact Hz
  isplitl [H2]; · iexact H2
  isplitl [H3] <;> iassumption

theorem Run.pre_upd {c : Dev nD} {β : Type} {P P' : sProp 𝕄} {Q : β → sProp 𝕄} {p : Prog (TpuEff nD τ sig (Elt F) Λ₀ .tc) β}
    (h : P ⊢ iprop(|={Set.univ}=> P')) (hr : Run c P' p Q) : Run c P p Q := by
  unfold Run at *
  refine BI.Entails.trans h (BI.Entails.trans (fupd_mono hr) ?_)
  rw [fupd_wp_eq]
  exact BI.Entails.refl _

/-! ## After the last transfer -/

/-- The transfer semaphores of a device, all at zero. -/
def zeros (c : Dev nD) : sProp 𝕄 := bigSep Finset.univ fun k : Key => iprop(semVal (recvCell c k) 0 ∗ semVal (sendCell c k) 0)

theorem both_slots (c : Dev nD) (s : Slot) : iprop(KRs m ρ c true 2 (0, s) ∗ KRs m ρ c true 2 (1, s)) ⊢ slotPts c s fullShare (KV m ρ) := by
  rcases Nat.lt_trichotomy s.1.val c.val with hs | hs | hs
  · rw [KRs_on m ρ c 2 (0, s) (by decide) (by unfold holds; rw [if_pos rfl]; exact decide_eq_true (by show s.1.val ≤ c.val; omega)),
      KRs_off m ρ c true 2 (1, s) (.inr (.inr (by unfold holds; rw [if_neg (show ¬ (1 : Fin 2) = 0 by decide)]; exact decide_eq_false (by show ¬ c.val ≤ s.1.val; omega)))),
      show shr c (0, s) = fullShare from by unfold shr; rw [if_neg (by show ¬ s.1.val = c.val; omega)]]
    iintro ⟨H, -⟩; iexact H
  · rw [KRs_on m ρ c 2 (0, s) (by decide) (by unfold holds; rw [if_pos rfl]; exact decide_eq_true (by show s.1.val ≤ c.val; omega)),
      KRs_on m ρ c 2 (1, s) (by decide) (by unfold holds; rw [if_neg (show ¬ (1 : Fin 2) = 0 by decide)]; exact decide_eq_true (by show c.val ≤ s.1.val; omega))]
    exact (halves m ρ c s hs).2
  · rw [KRs_off m ρ c true 2 (0, s) (.inr (.inr (by unfold holds; rw [if_pos rfl]; exact decide_eq_false (by show ¬ s.1.val ≤ c.val; omega)))),
      KRs_on m ρ c 2 (1, s) (by decide) (by unfold holds; rw [if_neg (show ¬ (1 : Fin 2) = 0 by decide)]; exact decide_eq_true (by show c.val ≤ s.1.val; omega)),
      show shr c (1, s) = fullShare from by unfold shr; rw [if_neg (by show ¬ s.1.val = c.val; omega)]]
    iintro ⟨-, H⟩; iexact H

theorem Osum_end (c : Dev nD) : Osum c (unsent 80 c) = 0 := by
  unfold Osum
  refine Finset.sum_eq_zero fun k _ => ?_
  rw [if_neg]
  unfold unsent
  rw [end_b]
  decide

theorem leave (c : Dev nD) : St m ρ K 80 c ⊢ iprop((∃ W, owes (c : Thread nD τ) 0 W) ∗ scr c (KV m ρ) ∗ zeros (F := F) c) := by
  have h : (bigSep Finset.univ fun k : Key => KR m ρ c (aS 80 c k) (bS 80 c k) k) ⊢ iprop(scr c (KV m ρ) ∗ zeros (F := F) c) := by
    have e : ∀ k ∈ (Finset.univ : Finset Key), KR m ρ c (aS 80 c k) (bS 80 c k) k = iprop((semVal (recvCell c k) 0 ∗ semVal (sendCell c k) 0) ∗ KRs m ρ c true 2 k) := fun k _ => by
      unfold KR; rw [end_a, end_b, KRa_true, KRb_2]
      exact (equiv_iff.mp ⟨BI.sep_assoc, BI.sep_assoc'⟩).symm
    rw [bigSep_congr e, bigSep_sep', key_sep (fun k => KRs m ρ c true 2 k), scr_slots]
    unfold zeros
    iintro ⟨H1, H2⟩
    isplitl [H2]
    · have hm : (bigSep Finset.univ fun s : Slot => iprop(KRs m ρ c true 2 (0, s) ∗ KRs m ρ c true 2 (1, s))) ⊢ bigSep Finset.univ fun s : Slot => slotPts c s fullShare (KV m ρ) :=
        bigSep_mono fun s _ => both_slots m ρ c s
      iapply hm; iexact H2
    · iexact H1
  unfold St
  rw [Osum_end]
  iintro ⟨-, -, ⟨%W, HO, HB⟩⟩
  isplitl [HO]; · iexists W; iexact HO
  iapply h; iexact HB

end Cert.KernelIdeal.Att

end
-- ==== Proof.IdealParts.lean ====
/-
# The parts around the transfers

The program's first two parts (barrier and own pieces) and the part in which the transfers end and the
first head begins.
-/
module

public import proofs.«01_k».proof.Proof.IdealEnds

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-- Three guarded operations before the rest, beside what they do not touch. -/
theorem if_three_frame {c : Dev nD} {α β : Type} {P P₁ P₂ P' R : sProp 𝕄} {Q : β → sProp 𝕄} {cond : Prop} {hdec : Decidable cond}
    {rest : Prog (TpuEff nD τ sig (Elt F) Λ₀ .tc) β} {u : cond → Prog (TpuEff nD τ sig (Elt F) Λ₀ .tc) α}
    {v w : cond → α → Prog (TpuEff nD τ sig (Elt F) Λ₀ .tc) PUnit}
    (h1 : ∀ h, Run c P (u h) (fun _ => P₁)) (h2 : ∀ h a, Run c P₁ (v h a) (fun _ => P₂)) (h3 : ∀ h a, Run c P₂ (w h a) (fun _ => P'))
    (h4 : ¬ cond → P ⊢ P') (hr : Run c iprop(P' ∗ R) rest Q) :
    Run c iprop(P ∗ R) (if h : cond then (u h >>= fun a => v h a >>= fun _ => w h a >>= fun _ => rest) else rest : Prog (TpuEff nD τ sig (Elt F) Λ₀ .tc) β) Q :=
  if_three (P₁ := iprop(P₁ ∗ R)) (P₂ := iprop(P₂ ∗ R)) (P' := iprop(P' ∗ R)) (fun h => (h1 h).frame R) (fun h a => (h2 h a).frame R) (fun h a => (h3 h a).frame R)
    (fun h => sep_mono_left (h4 h)) hr

set_option maxHeartbeats 4000000 in
theorem part9_ok (c : Dev nD) (X : sProp (MT nD τ sig Unit (Elt F) ℕ UU ℕ)) :
    Run c (B1 m ρ K c iprop(Own m ρ c 0 ∗ KSt m ρ c ∗ VSt m ρ c ∗ X)) (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4)
      (Ret ⟨c, w2 c, w3 c, w4 c, w6 c, w8 c, k0_pay3 (batchK (kStg m ρ c) 1)⟩ (Gs m ρ c 1 (B5 m ρ K c X))) := by
  rw [k0_part9_eq_skeleton]
  unfold k0_part9_skel
  refine dev_first ?_
  refine if_one (P' := B2 m ρ K c iprop(Own m ρ c 0 ∗ KSt m ρ c ∗ VSt m ρ c ∗ X)) ?_ ?_ ?_
  · intro h; exact left_ok m ρ K c _ ((cond1_iff c).mp h) (by exact Fin.ext (dev1_nb c ((cond1_iff c).mp h)))
  · exact fun h => left_skip m ρ K c _ fun h' => h ((cond1_iff c).mpr h')
  refine if_one (P' := B3 m ρ K c iprop(Own m ρ c 0 ∗ KSt m ρ c ∗ VSt m ρ c ∗ X)) ?_ ?_ ?_
  · intro h; exact right_ok m ρ K c _ ((cond2_iff c).mp h) (by exact Fin.ext (dev2_nb c ((cond2_iff c).mp h)))
  · exact fun h => right_skip m ρ K c _ fun h' => h ((cond2_iff c).mpr h')
  refine seq_two (P₁ := B4 m ρ K c iprop(Own m ρ c 0 ∗ KSt m ρ c ∗ VSt m ρ c ∗ X)) (wait_one m ρ K c _) fun _ => ?_
  refine if_one (P' := B5 m ρ K c iprop(Own m ρ c 0 ∗ KSt m ρ c ∗ VSt m ρ c ∗ X)) ?_ ?_ ?_
  · intro h; exact wait_two m ρ K c _ ((mid_iff c).mp h)
  · exact fun h => wait_skip m ρ K c _ fun h' => h ((mid_iff c).mpr h')
  refine Run.pre (to_Gs m ρ K c X) ?_
  refine ld_k m ρ ?_
  refine ld_own m ρ 0 (off1_eq c) fun _ => ?_
  refine st_own m ρ 0 (off1_eq c) (by exact rfl) ?_
  refine ld_k m ρ ?_
  exact ret_val

set_option maxHeartbeats 4000000 in
theorem part10_ok (d0 : Dev nD) (X : sProp (MT nD τ sig Unit (Elt F) ℕ UU ℕ)) (v2 : BitVec 32) (v3 v4 : BitVec 1) (v6 v8 : BitVec 32) :
    Run d0 (Gs m ρ d0 1 (B5 m ρ K d0 iprop((bigSep Finset.univ fun k : Key => key0 (F := F) d0 k) ∗ X)))
      (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 d0 v2 v3 v4 v6 v8 (k0_pay3 (batchK (kStg m ρ d0) 1)))
      (fun _ => iprop(St m ρ K 8 d0 ∗ Side m ρ d0 X)) := by
  rw [k0_part10_eq_skeleton]
  unfold k0_part10_skel
  refine ld_own m ρ 1 (off2_eq d0) fun _ => ?_
  refine st_own m ρ 1 (off2_eq d0) (by exact rfl) ?_
  refine ld_v m ρ ?_
  refine ld_own m ρ 2 (off3_eq d0) fun _ => ?_
  refine st_own m ρ 2 (off3_eq d0) (by exact rfl) ?_
  refine ld_v m ρ ?_
  refine ld_own m ρ 3 (off4_eq d0) fun _ => ?_
  refine st_own m ρ 3 (off4_eq d0) (by exact rfl) ?_
  refine Run.pre_upd (enter m ρ K d0 X) ?_
  refine if_three_frame (P₁ := St m ρ K 2 d0) (P₂ := St m ρ K 3 d0) (P' := St m ρ K 4 d0) ?_ ?_ ?_ ?_ ?_
  · intro h; exact part1_ok m ρ K _ _ _ _ _ _ _ _ _ _ _ h
  · intro h _; exact do_send m ρ K 2 d0 (by decide) (does2 d0 h).1 (by exact semS0 _ (does2 d0 h).2.1 (does2 d0 h).2.2.1) (by exact semR0 _ (does2 d0 h).2.1 (does2 d0 h).2.2.1) (by exact Fin.ext (does2 d0 h).2.2.2.2) (by exact mem_slot _ (does2 d0 h).2.2.2.1) (by exact mem_slot _ (does2 d0 h).2.2.2.1)
  · intro h _; exact do_send m ρ K 3 d0 (by decide) (does3 d0 h).1 (by exact semS0 _ (does3 d0 h).2.1 (does3 d0 h).2.2.1) (by exact semR0 _ (does3 d0 h).2.1 (does3 d0 h).2.2.1) (by exact Fin.ext (does3 d0 h).2.2.2.2) (by exact mem_slot _ (does3 d0 h).2.2.2.1) (by exact mem_slot _ (does3 d0 h).2.2.2.1)
  · exact fun h => ((skip m ρ K 0 d0 (skips0 d0 h)).trans (skip m ρ K 1 d0 (skips1 d0 h))).trans ((skip m ρ K 2 d0 (skips2 d0 h)).trans (skip m ρ K 3 d0 (skips3 d0 h)))
  refine if_three_frame (P₁ := St m ρ K 6 d0) (P₂ := St m ρ K 7 d0) (P' := St m ρ K 8 d0) ?_ ?_ ?_ ?_ ?_
  · intro h; exact part2_ok m ρ K _ _ _ _ _ _ _ _ _ _ _ h
  · intro h _; exact do_send m ρ K 6 d0 (by decide) (does6 d0 h).1 (by exact semS1 _ (does6 d0 h).2.1 (does6 d0 h).2.2.1) (by exact semR1 _ (does6 d0 h).2.1 (does6 d0 h).2.2.1) (by exact Fin.ext (does6 d0 h).2.2.2.2) (by exact mem_slot _ (does6 d0 h).2.2.2.1) (by exact mem_slot _ (does6 d0 h).2.2.2.1)
  · intro h _; exact do_send m ρ K 7 d0 (by decide) (does7 d0 h).1 (by exact semS1 _ (does7 d0 h).2.1 (does7 d0 h).2.2.1) (by exact semR1 _ (does7 d0 h).2.1 (does7 d0 h).2.2.1) (by exact Fin.ext (does7 d0 h).2.2.2.2) (by exact mem_slot _ (does7 d0 h).2.2.2.1) (by exact mem_slot _ (does7 d0 h).2.2.2.1)
  · exact fun h => ((skip m ρ K 4 d0 (skips4 d0 h)).trans (skip m ρ K 5 d0 (skips5 d0 h))).trans ((skip m ρ K 6 d0 (skips6 d0 h)).trans (skip m ρ K 7 d0 (skips7 d0 h)))
  exact ret_same

/-- The query block staged, and the output's staging buffer. -/
def QSt (c : Dev nD) : sProp 𝕄 := (Memref.whole cc0_stg0_0).view.loc (c : Thread nD τ) ↦{fullShare} qStg m ρ c
def OSt (c : Dev nD) (f : CO (F := F)) : sProp 𝕄 := (Memref.whole cc0_stg3_0).view.loc (c : Thread nD τ) ↦{fullShare} f

/-- What a device holds besides while it computes. -/
def Fin0 (c : Dev nD) : sProp 𝕄 := iprop((∃ W, owes (c : Thread nD τ) 0 W) ∗ zeros (F := F) c ∗ semVal (barCell c) 0 ∗ KSt m ρ c ∗ VSt m ρ c)

theorem to_Cs (c : Dev nD) (f : CO (F := F)) :
    iprop(St m ρ K 80 c ∗ Side m ρ c iprop(QSt m ρ c ∗ OSt c f)) ⊢ iprop(Cs c (qStg m ρ c) (KV m ρ) f [] ∗ Fin0 m ρ c) := by
  unfold Side Cs Fin0
  iintro ⟨H1, H2, H3, H4, H5, H6⟩
  ihave H := (leave m ρ K c) $$ H1
  icases H with ⟨HO, HS, HZ⟩
  isplitl [H5 HS H6]
  · isplitl [H5]; · unfold QSt; iexact H5
    isplitl [HS]; · unfold scr; iexact HS
    unfold OSt; iexact H6
  isplitl [HO]; · iexact HO
  isplitl [HZ]; · iexact HZ
  isplitl [H2]; · iexact H2
  isplitl [H3] <;> iassumption

set_option maxHeartbeats 4000000 in
theorem part18_ok (d0 : Dev nD) (f : CO (F := F)) (v2 : BitVec 32) (v3 v4 : BitVec 1) (v282 : BitVec 32) (z : BitVec 32) :
    Run d0 iprop(St m ρ K 64 d0 ∗ Side m ρ d0 iprop(QSt m ρ d0 ∗ OSt d0 f)) (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 d0 v2 v3 v4 v282 z)
      (Ret ⟨k0_pay7 (rdQ (qStg m ρ d0) ![0, 0, 0, 0] inb_S2x512x8x64_S1x512x1x64_0_0_0_0),
        k0_pay9 (rdQ (qStg m ρ d0) ![0, 0, 0, 0] inb_S2x512x8x64_S1x512x1x64_0_0_0_0) (rdKV (KV m ρ) ![0, 0, 0, 0] inb_S4x4x512x512_S1x1x512x64_0_0_0_0),
        k0_pay10 (rdQ (qStg m ρ d0) ![0, 0, 0, 0] inb_S2x512x8x64_S1x512x1x64_0_0_0_0) (rdKV (KV m ρ) ![0, 0, 0, 0] inb_S4x4x512x512_S1x1x512x64_0_0_0_0) (rdKV (KV m ρ) ![0, 2, 0, 0] inb_S4x4x512x512_S1x1x512x64_0_2_0_0)⟩
        iprop(Cs d0 (qStg m ρ d0) (KV m ρ) f [] ∗ Fin0 m ρ d0)) := by
  rw [k0_part18_eq_skeleton]
  unfold k0_part18_skel
  refine if_three_frame (P₁ := St m ρ K 66 d0) (P₂ := St m ρ K 67 d0) (P' := St m ρ K 68 d0) ?_ ?_ ?_ ?_ ?_
  · intro h; exact part5_ok m ρ K _ _ _ _ _ _ _ _ _ _ h
  · intro h _; exact wait_send m ρ K 66 d0 (by decide) (does66 d0 h).1 (by exact semS0 _ (does66 d0 h).2.1 (does66 d0 h).2.2) (by exact credit_mem) (all_sent 66 (by decide) d0)
  · intro h _; exact wait_send m ρ K 67 d0 (by decide) (does67 d0 h).1 (by exact semS0 _ (does67 d0 h).2.1 (does67 d0 h).2.2) (by exact credit_mem) (all_sent 67 (by decide) d0)
  · exact fun h => ((skip m ρ K 64 d0 (skips64 d0 h)).trans (skip m ρ K 65 d0 (skips65 d0 h))).trans ((skip m ρ K 66 d0 (skips66 d0 h)).trans (skip m ρ K 67 d0 (skips67 d0 h)))
  refine if_three_frame (P₁ := St m ρ K 70 d0) (P₂ := St m ρ K 71 d0) (P' := St m ρ K 72 d0) ?_ ?_ ?_ ?_ ?_
  · intro h; exact part6_ok m ρ K _ _ _ _ _ _ _ _ _ _ h
  · intro h _; exact wait_send m ρ K 70 d0 (by decide) (does70 d0 h).1 (by exact semS1 _ (does70 d0 h).2.1 (does70 d0 h).2.2) (by exact credit_mem) (all_sent 70 (by decide) d0)
  · intro h _; exact wait_send m ρ K 71 d0 (by decide) (does71 d0 h).1 (by exact semS1 _ (does71 d0 h).2.1 (does71 d0 h).2.2) (by exact credit_mem) (all_sent 71 (by decide) d0)
  · exact fun h => ((skip m ρ K 68 d0 (skips68 d0 h)).trans (skip m ρ K 69 d0 (skips69 d0 h))).trans ((skip m ρ K 70 d0 (skips70 d0 h)).trans (skip m ρ K 71 d0 (skips71 d0 h)))
  refine if_three_frame (P₁ := St m ρ K 74 d0) (P₂ := St m ρ K 75 d0) (P' := St m ρ K 76 d0) ?_ ?_ ?_ ?_ ?_
  · intro h; exact part7_ok m ρ K _ _ _ _ _ _ _ _ _ _ h
  · intro h _; exact wait_send m ρ K 74 d0 (by decide) (does74 d0 h).1 (by exact semS0 _ (does74 d0 h).2.1 (does74 d0 h).2.2) (by exact credit_mem) (all_sent 74 (by decide) d0)
  · intro h _; exact wait_send m ρ K 75 d0 (by decide) (does75 d0 h).1 (by exact semS0 _ (does75 d0 h).2.1 (does75 d0 h).2.2) (by exact credit_mem) (all_sent 75 (by decide) d0)
  · exact fun h => ((skip m ρ K 72 d0 (skips72 d0 h)).trans (skip m ρ K 73 d0 (skips73 d0 h))).trans ((skip m ρ K 74 d0 (skips74 d0 h)).trans (skip m ρ K 75 d0 (skips75 d0 h)))
  refine if_three_frame (P₁ := St m ρ K 78 d0) (P₂ := St m ρ K 79 d0) (P' := St m ρ K 80 d0) ?_ ?_ ?_ ?_ ?_
  · intro h; exact part8_ok m ρ K _ _ _ _ _ _ _ _ _ _ h
  · intro h _; exact wait_send m ρ K 78 d0 (by decide) (does78 d0 h).1 (by exact semS1 _ (does78 d0 h).2.1 (does78 d0 h).2.2) (by exact credit_mem) (all_sent 78 (by decide) d0)
  · intro h _; exact wait_send m ρ K 79 d0 (by decide) (does79 d0 h).1 (by exact semS1 _ (does79 d0 h).2.1 (does79 d0 h).2.2) (by exact credit_mem) (all_sent 79 (by decide) d0)
  · exact fun h => ((skip m ρ K 76 d0 (skips76 d0 h)).trans (skip m ρ K 77 d0 (skips77 d0 h))).trans ((skip m ρ K 78 d0 (skips78 d0 h)).trans (skip m ρ K 79 d0 (skips79 d0 h)))
  refine Run.pre (to_Cs m ρ K d0 f) ?_
  refine Run.frame_ret ?_ _
  refine ld_q ?_
  refine ld_kv ?_
  refine ld_kv ?_
  exact ret_val

end Cert.KernelIdeal.Att

end
-- ==== Proof.IdealBody.lean ====
/-
# The kernel on one device

The kernel's parts in order: from the state at launch to the state in which every head's result is in the
output's staging buffer.
-/
module

public import proofs.«01_k».proof.Proof.IdealParts

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-- The pieces stored, last first: those of all heads but the last, and of all. -/
def outL' (q : CQ (F := F)) (kv : CG (F := F)) : List (PO (F := F)) :=
  [pcOut q kv 1 6, pcOut q kv 1 5, pcOut q kv 1 4, pcOut q kv 1 3, pcOut q kv 1 2, pcOut q kv 1 1, pcOut q kv 1 0, pcOut q kv 0 7, pcOut q kv 0 6, pcOut q kv 0 5, pcOut q kv 0 4, pcOut q kv 0 3, pcOut q kv 0 2, pcOut q kv 0 1, pcOut q kv 0 0]
def outL (q : CQ (F := F)) (kv : CG (F := F)) : List (PO (F := F)) := pcOut q kv 1 7 :: outL' q kv

set_option maxHeartbeats 8000000 in
theorem part49_ok (c : Dev nD) (f : CO (F := F)) :
    Run c (B1 m ρ K c iprop(Own m ρ c 0 ∗ KSt m ρ c ∗ VSt m ρ c ∗ (bigSep Finset.univ fun k : Key => key0 (F := F) c k) ∗ QSt m ρ c ∗ OSt c f))
      (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4)
      (Ret ⟨(k0_pay161 (rdQ (qStg m ρ c) ![1, 0, 7, 0] inb_S2x512x8x64_S1x512x1x64_1_0_7_0)), (k0_pay165 (rdQ (qStg m ρ c) ![1, 0, 7, 0] inb_S2x512x8x64_S1x512x1x64_1_0_7_0) (rdKV (KV m ρ) ![0, 1, 0, 448] inb_S4x4x512x512_S1x1x512x64_0_1_0_448) (rdKV (KV m ρ) ![1, 1, 0, 448] inb_S4x4x512x512_S1x1x512x64_1_1_0_448)), (k0_pay167 (k0_pay161 (rdQ (qStg m ρ c) ![1, 0, 7, 0] inb_S2x512x8x64_S1x512x1x64_1_0_7_0)) (rdKV (KV m ρ) ![2, 1, 0, 448] inb_S4x4x512x512_S1x1x512x64_2_1_0_448)), (k0_pay168 (k0_pay161 (rdQ (qStg m ρ c) ![1, 0, 7, 0] inb_S2x512x8x64_S1x512x1x64_1_0_7_0)) (k0_pay164 (rdQ (qStg m ρ c) ![1, 0, 7, 0] inb_S2x512x8x64_S1x512x1x64_1_0_7_0) (rdKV (KV m ρ) ![0, 1, 0, 448] inb_S4x4x512x512_S1x1x512x64_0_1_0_448) (rdKV (KV m ρ) ![0, 3, 0, 448] inb_S4x4x512x512_S1x1x512x64_0_3_0_448) (rdKV (KV m ρ) ![1, 1, 0, 448] inb_S4x4x512x512_S1x1x512x64_1_1_0_448) (rdKV (KV m ρ) ![1, 3, 0, 448] inb_S4x4x512x512_S1x1x512x64_1_3_0_448)) (rdKV (KV m ρ) ![2, 1, 0, 448] inb_S4x4x512x512_S1x1x512x64_2_1_0_448) (rdKV (KV m ρ) ![2, 3, 0, 448] inb_S4x4x512x512_S1x1x512x64_2_3_0_448))⟩
        iprop(Cs c (qStg m ρ c) (KV m ρ) f (outL' (qStg m ρ c) (KV m ρ)) ∗ Fin0 m ρ c)) := by
  rw [k0_part49_eq_skeleton]
  unfold k0_part49_skel
  refine seq_val (part9_ok m ρ K c _) ?_
  refine seq_two (part10_ok m ρ K c _ _ _ _ _ _) fun ⟨v54, v56⟩ => ?_
  refine seq_two ((part11_ok m ρ K _ _ _ _ _ _ _ _ _ _ _ _ _ _ _ _).frame _) fun ⟨v90, c1_i32_60⟩ => ?_
  refine seq_two ((part12_ok m ρ K _ _ _ _ _ _ _ _ _ _ _ _ _ _ _ _).frame _) fun ⟨v110, v123⟩ => ?_
  refine seq_two ((part13_ok m ρ K _ _ _ _ _ _ _ _ _ _ _ _ _ _ _ _).frame _) fun ⟨v146, v154⟩ => ?_
  refine seq_two ((part14_ok m ρ K _ _ _ _ _ _ _ _ _ _ _ _ _ _ _ _).frame _) fun ⟨v180, v182, c0_i32_124⟩ => ?_
  refine seq_two ((part15_ok m ρ K _ _ _ _ _ _ _ _ _ _ _ _ _ _ _ _ _).frame _) fun ⟨v216, v217, c2_i32_144⟩ => ?_
  refine seq_two ((part16_ok m ρ K _ _ _ _ _ _ _ _ _ _ _ _ _ _ _ _ _).frame _) fun v236 => ?_
  refine seq_two ((part17_ok m ρ K _ _ _ _ _ _ _ _ _ _ _ _ _ _ _).frame _) fun ⟨v282, c0_i32_185⟩ => ?_
  refine seq_val (part18_ok m ρ K c f _ _ _ _ _) ?_
  refine seq_val ((head19_ok _ _ _).frame_ret _) ?_
  refine seq_val ((head20_ok _ _ _ _).frame_ret _) ?_
  rw [head_0_0]
  refine seq_val ((head21_ok _ _ _).frame_ret _) ?_
  refine seq_val ((head22_ok _ _ _).frame_ret _) ?_
  rw [head_0_1]
  refine seq_val ((head23_ok _ _ _ _).frame_ret _) ?_
  refine seq_val ((head24_ok _ _ _).frame_ret _) ?_
  rw [head_0_2]
  refine seq_val ((head25_ok _ _ _ _ _).frame_ret _) ?_
  refine seq_val ((head26_ok _ _ _ _).frame_ret _) ?_
  rw [head_0_3]
  refine seq_val ((head27_ok _ _ _ _ _).frame_ret _) ?_
  refine seq_val ((head28_ok _ _ _ _).frame_ret _) ?_
  rw [head_0_4]
  refine seq_val ((head29_ok _ _ _ _).frame_ret _) ?_
  refine seq_val ((head30_ok _ _ _ _).frame_ret _) ?_
  rw [head_0_5]
  refine seq_val ((head31_ok _ _ _ _).frame_ret _) ?_
  refine seq_val ((head32_ok _ _ _ _ _).frame_ret _) ?_
  rw [head_0_6]
  refine seq_val ((head33_ok _ _ _ _ _).frame_ret _) ?_
  refine seq_val ((head34_ok _ _ _ _ _ _).frame_ret _) ?_
  rw [head_0_7]
  refine seq_val ((head35_ok _ _ _ _ _).frame_ret _) ?_
  refine seq_val ((head36_ok _ _ _).frame_ret _) ?_
  rw [head_1_0]
  refine seq_val ((head37_ok _ _ _ _ _).frame_ret _) ?_
  refine seq_val ((head38_ok _ _).frame_ret _) ?_
  rw [head_1_1]
  refine seq_val ((head39_ok _ _ _ _ _ _).frame_ret _) ?_
  refine seq_val ((head40_ok _).frame_ret _) ?_
  rw [head_1_2]
  refine seq_val ((head41_ok _ _ _ _ _ _ _).frame_ret _) ?_
  refine seq_val ((head42_ok _).frame_ret _) ?_
  rw [head_1_3]
  refine seq_val ((head43_ok _ _ _ _).frame_ret _) ?_
  refine seq_val ((head44_ok _ _).frame_ret _) ?_
  rw [head_1_4]
  refine seq_val ((head45_ok _ _ _).frame_ret _) ?_
  refine seq_val ((head46_ok _).frame_ret _) ?_
  rw [head_1_5]
  refine seq_val ((head47_ok _ _ _).frame_ret _) ?_
  rw [head_1_6]
  refine seq_val ((head48_ok).frame_ret _) ?_
  refine Run.frame_ret ?_ _
  refine ld_kv ?_
  exact ret_val

set_option maxHeartbeats 1000000 in
theorem body_ok (c : Dev nD) (f : CO (F := F)) :
    Run c (B1 m ρ K c iprop(Own m ρ c 0 ∗ KSt m ρ c ∗ VSt m ρ c ∗ (bigSep Finset.univ fun k : Key => key0 (F := F) c k) ∗ QSt m ρ c ∗ OSt c f))
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4)
      (fun _ => iprop(Cs c (qStg m ρ c) (KV m ρ) f (outL (qStg m ρ c) (KV m ρ)) ∗ Fin0 m ρ c)) := by
  rw [cc0_body_eq_skeleton]
  unfold cc0_body_skel
  refine seq_val (part49_ok m ρ K c f) ?_
  refine Run.frame (Q := fun _ => Cs c (qStg m ρ c) (KV m ρ) f (outL (qStg m ρ c) (KV m ρ))) ?_ _
  refine ld_kv ?_
  refine ld_kv ?_
  refine ld_o ?_
  refine st_o ?_
  rw [head_1_7]
  exact ret_same

end Cert.KernelIdeal.Att

end
-- ==== Proof.IdealLaunch.lean ====
/-
# The launch

How the launch deals out the cells, the tokens and the credits: every device keeps its own positions, gets the
tokens of the duties it pays, and for every signal and transfer it will wait for the credit its sender owes.
-/
module

public import proofs.«01_k».proof.Proof.IdealParts

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting over the cells of a device -/

theorem opt_sep {α : Type} [Fintype α] (Φ : Option α → sProp (MT nD τ sig Unit (Elt F) ℕ UU ℕ)) :
    (bigSep Finset.univ Φ : sProp 𝕄) = iprop(Φ none ∗ bigSep Finset.univ fun a => Φ (some a)) := by
  rw [bigSep_univ_equiv (Equiv.optionEquivSumPUnit α).symm Φ, bigSep_univ_sum]
  have h : (bigSep Finset.univ fun b : PUnit.{1} => Φ ((Equiv.optionEquivSumPUnit α).symm (Sum.inr b)) : sProp 𝕄) = Φ none := by
    rw [bigSep_univ_eq_bigSepL [PUnit.unit] (by decide) (by decide), bigSepL_singleton]; rfl
  rw [h]
  exact equiv_iff.mp ⟨BI.sep_comm, BI.sep_comm⟩

theorem bool_sep (Φ : Bool → sProp (MT nD τ sig Unit (Elt F) ℕ UU ℕ)) : (bigSep Finset.univ Φ : sProp 𝕄) = iprop(Φ false ∗ Φ true) := by
  rw [bigSep_univ_eq_bigSepL [false, true] (by decide) (by decide), bigSepL_cons_cons, bigSepL_singleton]; rfl

theorem J_sep (Φ : J → sProp (MT nD τ sig Unit (Elt F) ℕ UU ℕ)) : (bigSep Finset.univ Φ : sProp 𝕄)
    = iprop(Φ none ∗ (bigSep Finset.univ fun k : Key => Φ (some (false, k))) ∗ bigSep Finset.univ fun k : Key => Φ (some (true, k))) := by
  rw [opt_sep, bigSep_univ_prod, bool_sep]

/-! ## The cells and the tokens -/

theorem s_inj {k k' : Key} (h : sendS k = sendS k') : k = k' := by
  have h1 : sIdx k = sIdx k' := congrArg Fin.val h
  rw [← keyAt_s k, h1, keyAt_s]
theorem r_inj {k k' : Key} (h : recvS k = recvS k') : k = k' := by
  have h1 : rIdx k = rIdx k' := congrArg Fin.val h
  rw [← keyAt_r k, h1, keyAt_r]
theorem s_ne_r {k k' : Key} (h : sendS k = recvS k') : False := by
  have h1 : sIdx k = rIdx k' := congrArg Fin.val h
  have h2 := isR_s k
  rw [h1, isR_r] at h2
  cases h2

theorem csem_inj : Function.Injective csem := by
  intro j j' h
  rcases j with _ | ⟨_ | _, k⟩ <;> rcases j' with _ | ⟨_ | _, k'⟩
  · rfl
  · cases h
  · cases h
  · cases h
  · rw [s_inj (SemLoc.dma.inj h)]
  · exact (s_ne_r (SemLoc.dma.inj h)).elim
  · cases h
  · exact (s_ne_r (SemLoc.dma.inj h).symm).elim
  · rw [r_inj (SemLoc.dma.inj h)]

theorem kcell_inj : Function.Injective kcell := by
  rintro ⟨c, j⟩ ⟨c', j'⟩ h
  have h1 : c = c' := congrArg (fun g : GSem nD τ sig => g.1.1) h
  have h2 : csem j = csem j' := congrArg Prod.snd h
  rw [h1, csem_inj h2]

def allCells : Finset (GSem nD τ sig) := Finset.univ.map ⟨kcell, kcell_inj⟩

/-- A cell's token: every cell has the duty `false`, the barrier's also `true`. -/
abbrev tokOf (cj : Dev nD × Option J) : GSem nD τ sig × ℕ × Bool := match cj.2 with
  | none => (barCell cj.1, 0, true)
  | some j => (kcell (cj.1, j), 0, false)
theorem tokOf_inj : Function.Injective tokOf := by
  rintro ⟨c, j⟩ ⟨c', j'⟩ h
  rcases j with _ | j <;> rcases j' with _ | j'
  · have h1 : c = c' := congrArg (fun x : GSem nD τ sig × ℕ × Bool => x.1.1.1) h
    rw [h1]
  · exact absurd (congrArg (fun x : GSem nD τ sig × ℕ × Bool => x.2.2) h) (by simp)
  · exact absurd (congrArg (fun x : GSem nD τ sig × ℕ × Bool => x.2.2) h) (by simp)
  · have h1 : kcell (c, j) = kcell (c', j') := congrArg (fun x : GSem nD τ sig × ℕ × Bool => x.1) h
    have h2 := kcell_inj h1
    cases h2; rfl
def allToks : Finset (GSem nD τ sig × ℕ × Bool) := Finset.univ.map ⟨tokOf, tokOf_inj⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop(dutyTok ER (barCell c) 0 true ∗ dutyTok ER (barCell c) 0 false
    ∗ (bigSep Finset.univ fun k : Key => dutyTok ER (sendCell c k) 0 false) ∗ bigSep Finset.univ fun k : Key => dutyTok ER (recvCell c k) 0 false)

/-- What device `c` is dealt first. -/
def G (c : Dev nD) : sProp 𝕄 :=
  iprop((bigSep Finset.univ fun j : J => roundState ER (Rd m ρ) (kcell (c, j)) 0)
    ∗ (bigSep Finset.univ fun j : J => iprop(atPos ER (kcell (c, j)) 0 ∅ 0 ∗ reached ER (kcell (c, j)) 0)) ∗ toks (F := F) c)

theorem fund_all : BI.own ((ER (F := F)) (initOf allCells allToks)) ⊢ (|==> bigSep Finset.univ (G m ρ) : sProp 𝕄) := by
  have hX (Φ : GSem nD τ sig → sProp (MT nD τ sig Unit (Elt F) ℕ UU ℕ)) :
      bigSep allCells Φ = bigSep Finset.univ fun c : Dev nD => bigSep Finset.univ fun j : J => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [opt_sep, J_sep]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

abbrev osem : Bool × Key → SemLoc sig := fun x => csem (some x)

theorem ownSemFacts : Pipeline.OwnSemFacts cfg0.spec osem where
  isScoped := by decide +kernel
  inj := fun x y h => Option.some.inj (csem_inj h)
  disj := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun k : Key => semVal (sendCell c k) 0) ∗ bigSep Finset.univ fun k : Key => semVal (recvCell c k) 0) := by
  unfold Pipeline.ownSems0
  rw [bigSep_univ_prod, bool_sep]

theorem zeros_eq (c : Dev nD) : zeros (F := F) c ⊢ Pipeline.ownSems0 (Ix := Unit) (Name := ℕ) (U := UU) (Lvl := ℕ) (Val := Elt F) (τ := τ) osem c := by
  rw [ownSems0_eq]
  unfold zeros
  rw [bigSep_sep']
  exact BI.sep_comm

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [ownSems0_eq, unscopedSems0_eq, J_sep]
  exact BI.sep_comm

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun j : J => semVal (kcell (c, j)) 0) ∗ bigSep Finset.univ fun j : J => roundState ER (Rd m ρ) (kcell (c, j)) 0)
      ⊢ (|={Set.univ}=> bigSep Finset.univ fun j => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## Who pays what -/

def keyToks (c : Dev nD) (k : Key) : sProp 𝕄 :=
  if sends c k = true then iprop(dutyTok ER (sendCell c k) 0 false ∗ dutyTok ER (recvCell (nb k.1 c) k) 0 false) else iprop(emp)
def tokL (c : Dev nD) : sProp 𝕄 := if 0 < c.val then dutyTok ER (barCell (nb 1 c)) 0 true else iprop(emp)
def tokR (c : Dev nD) : sProp 𝕄 := if c.val < 3 then dutyTok ER (barCell (nb 0 c)) 0 false else iprop(emp)
/-- The tokens of the duties device `c` pays. -/
def payToks (c : Dev nD) : sProp 𝕄 := iprop(tokL (F := F) c ∗ tokR (F := F) c ∗ bigSep Finset.univ fun k : Key => keyToks (F := F) c k)

def nbE (d : Fin 2) : Dev nD ≃ Dev nD := ⟨nb d, nb (1 - d), nb_nb d, nb_nb' d⟩
def nbK : Dev nD × Key ≃ Dev nD × Key :=
  ⟨fun x => (nb x.2.1 x.1, x.2), fun x => (nb (1 - x.2.1) x.1, x.2), fun x => Prod.ext (nb_nb x.2.1 x.1) rfl, fun x => Prod.ext (nb_nb' x.2.1 x.1) rfl⟩

theorem ite_drop {p : Prop} [Decidable p] (A : sProp (MT nD τ sig Unit (Elt F) ℕ UU ℕ)) : A ⊢ (if p then A else iprop(emp) : sProp 𝕄) := by
  split
  · exact BI.Entails.refl _
  · iintro -; iempintro

theorem toks_around : (bigSep Finset.univ fun c : Dev nD => (toks c : sProp 𝕄)) ⊢ bigSep Finset.univ fun c : Dev nD => payToks (F := F) c := by
  have hL : (bigSep Finset.univ fun c : Dev nD => (dutyTok ER (barCell c) 0 true : sProp 𝕄)) ⊢ bigSep Finset.univ fun c : Dev nD => tokL (F := F) c := by
    rw [bigSep_univ_equiv (nbE 1) (fun c : Dev nD => (dutyTok ER (barCell c) 0 true : sProp 𝕄))]
    exact bigSep_mono fun c _ => ite_drop _
  have hR : (bigSep Finset.univ fun c : Dev nD => (dutyTok ER (barCell c) 0 false : sProp 𝕄)) ⊢ bigSep Finset.univ fun c : Dev nD => tokR (F := F) c := by
    rw [bigSep_univ_equiv (nbE 0) (fun c : Dev nD => (dutyTok ER (barCell c) 0 false : sProp 𝕄))]
    exact bigSep_mono fun c _ => ite_drop _
  have hV : (bigSep Finset.univ fun c : Dev nD => (bigSep Finset.univ fun k : Key => dutyTok ER (recvCell c k) 0 false : sProp 𝕄))
      = bigSep Finset.univ fun c : Dev nD => bigSep Finset.univ fun k : Key => dutyTok ER (recvCell (nb k.1 c) k) 0 false := by
    rw [← bigSep_univ_prod (fun x : Dev nD × Key => (dutyTok ER (recvCell x.1 x.2) 0 false : sProp 𝕄)),
      bigSep_univ_equiv nbK (fun x : Dev nD × Key => (dutyTok ER (recvCell x.1 x.2) 0 false : sProp 𝕄)), bigSep_univ_prod]
    rfl
  have hK : iprop((bigSep Finset.univ fun c : Dev nD => (bigSep Finset.univ fun k : Key => dutyTok ER (sendCell c k) 0 false : sProp 𝕄))
      ∗ bigSep Finset.univ fun c : Dev nD => (bigSep Finset.univ fun k : Key => dutyTok ER (recvCell (nb k.1 c) k) 0 false : sProp 𝕄))
      ⊢ bigSep Finset.univ fun c : Dev nD => bigSep Finset.univ fun k : Key => keyToks (F := F) c k := by
    rw [← bigSep_sep']
    refine bigSep_mono fun c _ => ?_
    rw [← bigSep_sep']
    exact bigSep_mono fun k _ => ite_drop _
  unfold toks payToks
  rw [bigSep_sep', bigSep_sep', bigSep_sep', bigSep_sep', bigSep_sep', hV]
  iintro ⟨H1, H2, H3⟩
  isplitl [H1]; · iapply hL; iexact H1
  isplitl [H2]; · iapply hR; iexact H2
  iapply hK; iexact H3

def linear (c : Dev nD) : sProp 𝕄 :=
  iprop((bigSep Finset.univ fun j : J => atPos ER (kcell (c, j)) 0 ∅ 0) ∗ payToks (F := F) c)
def G' (c : Dev nD) : sProp 𝕄 := iprop(∃ K, records m ρ K ∗ linear (F := F) c)

theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × J => iprop(∃ κ : ℕ, cellInv ER (Rd m ρ) κ (kcell cj))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun cj : Dev nD × J => (reached ER (kcell cj) 0 : sProp 𝕄))]
  iintro ⟨HI, ⟨Hat, #HR⟩, Htok⟩
  ihave HK := (BI.bigSep_exists_pi Finset.univ (fun (cj : Dev nD × J) (κ : ℕ) => (cellInv ER (Rd m ρ) κ (kcell cj) : sProp 𝕄))) $$ HI
  icases HK with ⟨%K, #HI⟩
  ihave Htk := (toks_around (F := F)) $$ Htok
  iapply (each_with (R := records m ρ K) (Φ := fun c : Dev nD => linear (F := F) c) (Ψ := G' m ρ) fun c _ => show iprop(records m ρ K ∗ linear (F := F) c) ⊢ G' m ρ c from by
    unfold G'; iintro H; iexists K; iexact H)
  isplitr
  · unfold records; isplitl; · iexact HI
    iexact HR
  · unfold linear
    iapply (Entails.of_eq (bigSep_sep' Finset.univ (fun c : Dev nD => (bigSep Finset.univ fun j : J => atPos ER (kcell (c, j)) 0 ∅ 0 : sProp 𝕄)) (payToks (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- All a device owes at the start. -/
def O₀ (c : Dev nD) : CellTallies nD τ sig Unit := O₁ c + T2 c + T1 c

theorem bar_eq_iff {a b : Dev nD} : barCell a = barCell b ↔ a = b :=
  ⟨fun h => congrArg (fun g : GSem nD τ sig => g.1.1) h, fun h => h ▸ rfl⟩
theorem recv_ne_bar' (a b : Dev nD) (k : Key) (h : recvCell a k = barCell b) : False := by
  have h2 := congrArg Prod.snd h; cases h2

theorem Osum_bar (d c : Dev nD) (u : Key → Bool) : Osum d u (barCell c) () = 0 := by
  by_contra h
  obtain ⟨k, -, hk⟩ := Osum_pos (Nat.pos_of_ne_zero h)
  exact recv_ne_bar' _ _ _ hk.symm

theorem ite_bar (p : Prop) [Decidable p] (a c : Dev nD) :
    ((if p then tallyAt (barCell a) () 1 else 0 : CellTallies nD τ sig Unit) (barCell c)) () = if p ∧ a = c then 1 else 0 := by
  by_cases hp : p
  · rw [if_pos hp, tallyAt_apply]
    by_cases h : a = c
    · rw [if_pos ⟨by rw [h], rfl⟩, if_pos ⟨hp, h⟩]
    · rw [if_neg fun h' => h (bar_eq_iff.mp h'.1).symm, if_neg fun h' => h h'.2]
  · rw [if_neg hp, if_neg fun h' => hp h'.1]; rfl
theorem ite_bar_recv (p : Prop) [Decidable p] (a c : Dev nD) (k : Key) :
    ((if p then tallyAt (barCell a) () 1 else 0 : CellTallies nD τ sig Unit) (recvCell c k)) () = 0 := by
  by_cases hp : p
  · rw [if_pos hp, tallyAt_ne_cell (fun h => recv_ne_bar' _ _ _ h)]; rfl
  · rw [if_neg hp]; rfl

theorem owed_bar (d c : Dev nD) : O₀ d (barCell c) () = (if d.val < 3 ∧ nb 0 d = c then 1 else 0) + (if 0 < d.val ∧ nb 1 d = c then 1 else 0) := by
  unfold O₀ T1 T2 O₁
  rw [Pi.add_apply, Finsupp.add_apply, Pi.add_apply, Finsupp.add_apply, Osum_bar, ite_bar, ite_bar, Nat.zero_add]

theorem Osum_recv (d c : Dev nD) (u : Key → Bool) (k : Key) : Osum d u (recvCell c k) () = if u k = true ∧ nb k.1 d = c then N else 0 := by
  unfold Osum
  rw [Finset.sum_apply, Finsupp.finset_sum_apply, Finset.sum_eq_single k]
  · by_cases hu : u k = true
    · rw [if_pos hu, tallyAt_apply]
      by_cases h : nb k.1 d = c
      · rw [if_pos ⟨by rw [h], rfl⟩, if_pos ⟨hu, h⟩]
      · rw [if_neg fun h' => h (congrArg (fun g : GSem nD τ sig => g.1.1) h'.1).symm, if_neg fun h' => h h'.2]
    · rw [if_neg hu, if_neg fun h' => hu h'.1]; rfl
  · intro k' _ hk'
    by_cases hu : u k' = true
    · rw [if_pos hu, tallyAt_ne_cell (fun h => hk' (r_inj (SemLoc.dma.inj (congrArg Prod.snd h))).symm)]; rfl
    · rw [if_neg hu]; rfl
  · intro h; exact absurd (Finset.mem_univ k) h

theorem unsent_start (d : Dev nD) (k : Key) : unsent 0 d k = sends d k := by revert d k; decide +kernel

theorem owed_recv (d c : Dev nD) (k : Key) : O₀ d (recvCell c k) () = if sends d k = true ∧ nb k.1 d = c then N else 0 := by
  unfold O₀ T1 T2 O₁
  rw [Pi.add_apply, Finsupp.add_apply, Pi.add_apply, Finsupp.add_apply, Osum_recv, ite_bar_recv, ite_bar_recv, unsent_start]; rfl

theorem senders (c : Dev nD) (k : Key) : (Finset.univ.filter fun d : Dev nD => sends d k = true ∧ nb k.1 d = c).card = if recvs c k = true then 1 else 0 := by
  revert c k; decide +kernel
theorem signallers (c : Dev nD) : (∑ d : Dev nD, ((if d.val < 3 ∧ nb 0 d = c then 1 else 0) + (if 0 < d.val ∧ nb 1 d = c then 1 else 0)))
    = 1 + if 0 < c.val ∧ c.val < 3 then 1 else 0 := by
  revert c; decide +kernel

theorem launch_bar (c : Dev nD) :
    tallyOn (barCell c) (launchCredit (Pipeline.owing O₀) 0 (barCell c))
      = (tallyAt (barCell c) () (1 + if 0 < c.val ∧ c.val < 3 then 1 else 0) : CellTallies nD τ sig Unit) := by
  unfold tallyAt; refine congrArg _ (Finsupp.ext fun u => ?_); cases u
  rw [Pipeline.launchCredit_owing, Finsupp.single_eq_same, Finset.sum_congr rfl fun d _ => owed_bar d c, signallers]

theorem launch_recv (c : Dev nD) (k : Key) :
    tallyOn (recvCell c k) (launchCredit (Pipeline.owing O₀) 0 (recvCell c k))
      = (tallyAt (recvCell c k) () (if recvs c k = true then N else 0) : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_filter, Finset.sum_const, senders]
  by_cases h : recvs c k = true
  · rw [if_pos h, if_pos h, one_smul]
  · rw [if_neg h, if_neg h, zero_smul]

def credR (c : Dev nD) (k : Key) : sProp 𝕄 := if recvs c k = true then cred (tallyAt (recvCell c k) () N) else iprop(emp)

theorem creds (c : Dev nD) :
    (Pipeline.launchCred O₀ c : sProp 𝕄)
      ⊢ iprop(cred (tallyAt (barCell c) () 1) ∗ credM (F := F) c ∗ bigSep Finset.univ fun k : Key => credR (F := F) c k) := by
  unfold Pipeline.launchCred
  rw [bigSep_univ_at _ (SemLoc.reg barS), launch_bar]
  have hB : (cred (tallyAt (barCell c) () (1 + if 0 < c.val ∧ c.val < 3 then 1 else 0)) : sProp 𝕄)
      ⊢ iprop(cred (tallyAt (barCell c) () 1) ∗ credM (F := F) c) := by
    unfold credM
    by_cases h : 0 < c.val ∧ c.val < 3
    · rw [if_pos h, if_pos h, ← tallyAt_add]; exact (cred_add _ _).1
    · rw [if_neg h, if_neg h]
      iintro H
      isplitl; · iexact H
      iempintro
  have hR : (bigSep (Finset.univ.erase (SemLoc.reg barS)) fun sm : SemLoc sig =>
        (cred (tallyOn ((c.tc : Thread nD τ), sm) (launchCredit (Pipeline.owing O₀) 0 ((c.tc : Thread nD τ), sm))) : sProp 𝕄))
      ⊢ bigSep Finset.univ fun k : Key => credR (F := F) c k := by
    refine (bigSep_subset (t := Finset.univ.map ⟨fun k : Key => (SemLoc.dma (recvS k) : SemLoc sig), fun k k' h => r_inj (SemLoc.dma.inj h)⟩) ?_).trans ?_
    · intro x hx
      rw [Finset.mem_map] at hx
      obtain ⟨k, -, rfl⟩ := hx
      exact Finset.mem_erase.mpr ⟨(fun h => nomatch h), Finset.mem_univ _⟩
    · rw [bigSep_map]
      refine bigSep_mono fun k _ => ?_
      show (cred (tallyOn (recvCell c k) (launchCredit (Pipeline.owing O₀) 0 (recvCell c k))) : sProp 𝕄) ⊢ credR (F := F) c k
      rw [launch_recv]
      unfold credR
      by_cases h : recvs c k = true
      · rw [if_pos h, if_pos h]
      · rw [if_neg h, if_neg h]; iintro -; iempintro
  iintro ⟨H1, H2⟩
  ihave H1' := hB $$ H1
  icases H1' with ⟨H3, H4⟩
  isplitl [H3]; · iexact H3
  isplitl [H4]; · iexact H4
  iapply hR; iexact H2

end Cert.KernelIdeal.Att

end
-- ==== Proof.IdealRun.lean ====
/-
# The run

The whole program's run on the four devices: it terminates, leaves the arguments as they were and every
semaphore at zero, and the result array holds what the body computes from the gathered buffer.
-/
module

public import Idealize.ShloMosaic.Lib.Pipeline.CollectiveSegs
public import proofs.«01_k».proof.Proof.IdealBody
public import proofs.«01_k».proof.Proof.IdealLaunch

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × J → ℕ)

/-! ## The output -/

theorem outW_eq (f f' : CO (F := F)) (q : CQ (F := F)) (kv : CG (F := F)) : outW f (outL q kv) = outW f' (outL q kv) := by
  have h := View.read_writes_of_cover (v := (Memref.whole cc0_stg3_0).view) f (Memref.whole cc0_stg3_0).view f' (outL q kv)
    (View.cover_of_tiled (outL q kv) ![1, 512, 1, 64] rfl)
  simpa only [Memref.view_whole, View.read_whole] using h

/-- What device `c`'s output window ends with. -/
def outAt (c : Dev nD) : CO (F := F) := outW (m ((c : Thread nD τ).loc cc0_stg3_0)) (outL (qStg m ρ c) (KV m ρ))

/-! ## The proof data -/

/-- What device `c`'s body starts from. -/
def start (c : Dev nD) : sProp 𝕄 :=
  iprop(G' m ρ c ∗ (cred (tallyAt (barCell c) () 1) ∗ credM (F := F) c ∗ bigSep Finset.univ fun k : Key => credR (F := F) c k) ∗ levAts L lv)
def Φ₀ (c : Dev nD) : sProp 𝕄 := iprop(start m ρ c ∗ ∃ f, scr (F := F) c f)
def Φ₁ (c : Dev nD) : sProp 𝕄 := iprop(scr c (KV m ρ) ∗ zeros (F := F) c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qStg m ρ c
    | ⟨1, _⟩ => kStg m ρ c
    | ⟨2, _⟩ => vStg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp (MT nD τ sig Unit (Elt F) ℕ UU ℕ)) :
    bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

/-! ## The body's obligation -/

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ
    ∗ stg c cc0_stg0_0 (qStg m ρ c) ∗ stg c cc0_stg1_0 (kStg m ρ c) ∗ stg c cc0_stg2_0 (vStg m ρ c) ∗ stg c cc0_stg3_0 (outAt m ρ c))

/-- The keys' part of the start. -/
theorem keys_intro (c : Dev nD) :
    iprop((bigSep Finset.univ fun j : J => atPos ER (kcell (c, j)) 0 ∅ 0) ∗ (bigSep Finset.univ fun k : Key => keyToks (F := F) c k)
        ∗ bigSep Finset.univ fun k : Key => credR (F := F) c k)
      ⊢ iprop(atPos ER (barCell c) 0 ∅ 0 ∗ bigSep Finset.univ fun k : Key => key0 (F := F) c k) := by
  rw [J_sep]
  have h : iprop(((bigSep Finset.univ fun k : Key => atPos ER (sendCell c k) 0 ∅ 0) ∗ bigSep Finset.univ fun k : Key => atPos ER (recvCell c k) 0 ∅ 0)
      ∗ (bigSep Finset.univ fun k : Key => keyToks (F := F) c k) ∗ bigSep Finset.univ fun k : Key => credR (F := F) c k)
      ⊢ (bigSep Finset.univ fun k : Key => key0 (F := F) c k : sProp 𝕄) := by
    rw [← bigSep_sep', ← bigSep_sep', ← bigSep_sep']
    refine bigSep_mono fun k _ => ?_
    show iprop((atPos ER (sendCell c k) 0 ∅ 0 ∗ atPos ER (recvCell c k) 0 ∅ 0) ∗ keyToks (F := F) c k ∗ credR (F := F) c k) ⊢ key0 (F := F) c k
    unfold key0 keyToks credR
    iintro ⟨⟨H1, H2⟩, H3, H4⟩
    isplitl [H2]; · iexact H2
    isplitl [H1]; · iexact H1
    isplitl [H4]; · iexact H4
    iexact H3
  iintro ⟨⟨H1, H2⟩, H3⟩
  isplitl [H1]; · iexact H1
  iapply h
  isplitl [H2]; · iexact H2
  iexact H3

theorem sigL_intro (c : Dev nD) : iprop(tokL (F := F) c ∗ bigSep Finset.univ (lf (F := F) c)) ⊢ sigL (F := F) c := by
  unfold tokL sigL
  by_cases h : 0 < c.val
  · rw [if_pos h, if_pos h, lf_pay c h]
  · rw [if_neg h, if_neg h]; iintro -; iempintro
theorem sigR_intro (c : Dev nD) : iprop(tokR (F := F) c ∗ bigSep Finset.univ (rt (F := F) c)) ⊢ sigR (F := F) c := by
  unfold tokR sigR
  by_cases h : c.val < 3
  · rw [if_pos h, if_pos h, rt_pay c h]
  · rw [if_neg h, if_neg h]; iintro -; iempintro

/-- What the body's run starts from, from what the launch has dealt. -/
theorem body_start (c : Dev nD) (f : CO (F := F)) :
    iprop(Φ₀ m ρ c ∗ (∃ W, owes (c : Thread nD τ) (O₀ c) W) ∗ QSt m ρ c ∗ KSt m ρ c ∗ VSt m ρ c ∗ OSt c f)
      ⊢ iprop(∃ K, B1 m ρ K c iprop(Own m ρ c 0 ∗ KSt m ρ c ∗ VSt m ρ c ∗ (bigSep Finset.univ fun k : Key => key0 (F := F) c k) ∗ QSt m ρ c ∗ OSt c f)) := by
  unfold Φ₀ start G' linear payToks
  iintro ⟨⟨⟨⟨%K, HR, Hat, HtL, HtR, Htk⟩, ⟨Hc1, HcM, HcR⟩, Hlev⟩, ⟨%g, Hscr⟩⟩, HO, HQ, HK, HV, HF⟩
  iexists K
  ihave Hk := (keys_intro (F := F) c) $$ [Hat Htk HcR]
  · isplitl [Hat]; · iexact Hat
    isplitl [Htk]; · iexact Htk
    iexact HcR
  icases Hk with ⟨HatB, Hk⟩
  ihave Hd := (deal m ρ c g) $$ Hscr
  icases Hd with ⟨Hl, Hr, Hown⟩
  unfold B1
  isplitl [HR]; · iexact HR
  isplitl [HO]; · unfold O₀; iexact HO
  isplitl [HtL Hl]
  · iapply (sigL_intro (F := F) c); isplitl [HtL] <;> iassumption
  isplitl [HtR Hr]
  · iapply (sigR_intro (F := F) c); isplitl [HtR] <;> iassumption
  isplitl [Hlev HatB Hc1 HcM]
  · isplitl [Hlev]; · iexact Hlev
    isplitl [HatB]; · iexact HatB
    isplitl [Hc1] <;> iassumption
  isplitl [Hown]; · iexact Hown
  isplitl [HK]; · iexact HK
  isplitl [HV]; · iexact HV
  isplitl [Hk]; · iexact Hk
  isplitl [HQ] <;> iassumption

theorem body_end (c : Dev nD) (f : CO (F := F)) :
    iprop(Cs c (qStg m ρ c) (KV m ρ) f (outL (qStg m ρ c) (KV m ρ)) ∗ Fin0 m ρ c) ⊢ bodyPost m ρ c := by
  unfold Cs Fin0 bodyPost Φ₁ stg KSt VSt
  rw [show outW f (outL (qStg m ρ c) (KV m ρ)) = outAt m ρ c from outW_eq _ _ _ _]
  iintro ⟨⟨HQ, HS, HF⟩, ⟨%W, HO⟩, HZ, HB, HK, HV⟩
  isplitl [HS HZ HB]
  · isplitl [HS]; · unfold scr; iexact HS
    isplitl [HZ] <;> iassumption
  isplitl [HO]
  · unfold Dat.owesAt Pipeline.owesWithin
    rw [show (dats m ρ 0 c).owed t0_0.succ = 0 from rfl]
    iexists W
    isplitr; · ipureintro; exact fun _ _ => Or.inl trivial
    iexact HO
  isplitl [HQ]
  · iexists _; isplitr; · (ipureintro; rfl)
    iexact HQ
  isplitl [HK]
  · iexists _; isplitr; · (ipureintro; rfl)
    iexact HK
  isplitl [HV]
  · iexists _; isplitr; · (ipureintro; rfl)
    iexact HV
  iexists _; isplitr; · (ipureintro; rfl)
  iexact HF

set_option maxRecDepth 4000 in
theorem sound_body (c : Dev nD) :
    bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4) (fun _ => bodyPost m ρ c) := by
  unfold bodyPre stg
  iintro ⟨HΦ, Ho, ⟨%d0, %g0, %hg0, H0⟩, ⟨%d1, %g1, %hg1, H1⟩, ⟨%d2, %g2, %hg2, H2⟩, ⟨%d3, %g3, %hg3, H3⟩⟩
  have hx0 : g0 = qStg m ρ c := by rw [hg0]; unfold Dat.before; rw [if_pos (fetch_0 t0_0)]; rfl
  have hx1 : g1 = kStg m ρ c := by rw [hg1]; unfold Dat.before; rw [if_pos (fetch_1 t0_0)]; rfl
  have hx2 : g2 = vStg m ρ c := by rw [hg2]; unfold Dat.before; rw [if_pos (fetch_2 t0_0)]; rfl
  subst hx0 hx1 hx2
  ihave Hs := (body_start m ρ c g3) $$ [HΦ Ho H0 H1 H2 H3]
  · isplitl [HΦ]; · iexact HΦ
    isplitl [Ho]
    · unfold Dat.owesAt Pipeline.owesWithin
      icases Ho with ⟨%W, %hW, HO⟩
      iexists W
      iexact HO
    unfold QSt KSt VSt OSt
    isplitl [H0]; · iexact H0
    isplitl [H1]; · iexact H1
    isplitl [H2]; · iexact H2
    iexact H3
  icases Hs with ⟨%K, Hs⟩
  have hrun : B1 m ρ K c iprop(Own m ρ c 0 ∗ KSt m ρ c ∗ VSt m ρ c ∗ (bigSep Finset.univ fun k : Key => key0 (F := F) c k) ∗ QSt m ρ c ∗ OSt c g3)
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4) (fun _ => bodyPost m ρ c) :=
    (body_ok m ρ K c g3).post fun _ => body_end m ρ c g3
  iapply hrun
  iexact Hs

attribute [local irreducible] outAt in
theorem after_3 (c : Dev nD) : (dats m ρ 0 c).after (3 : Fin 4) t0_0 = outAt m ρ c := rfl

set_option maxRecDepth 4000 in
set_option maxHeartbeats 4000000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  rw [show (dats m ρ 0 c).after (0 : Fin 4) t0_0 = qStg m ρ c from rfl, show (dats m ρ 0 c).after (1 : Fin 4) t0_0 = kStg m ρ c from rfl,
    show (dats m ρ 0 c).after (2 : Fin 4) t0_0 = vStg m ρ c from rfl, after_3 m ρ c,
    show (dats m ρ 0 c).Φ t0_0.succ = Φ₁ m ρ c from rfl]
  have h := sound_body m ρ c
  unfold bodyPost stg at h
  exact h

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ scr
  iintro ⟨Hr, HZ, HB⟩
  isplitl [HB]; · iexact HB
  isplitl [HZ]; · iapply (zeros_eq (F := F) c); iexact HZ
  iexists (KV m ρ); iexact Hr

theorem lv_stage (c : Dev nD) (q : DmaSem sig) (hq : q.val < 4) : lv ((c : Thread nD τ), SemLoc.dma q) () = 0 := by
  show (if 4 ≤ q.val ∧ isR q.val = true then _ else 0) = 0
  rw [if_neg]; rintro ⟨h, -⟩; omega

theorem O₀_pos {c : Dev nD} {g : GSem nD τ sig} {i : Unit} (h : 0 < O₀ c g i) : (∃ k, g = recvCell (nb k.1 c) k) ∨ ∃ d, g = barCell d := by
  by_contra hn
  push Not at hn
  have h1 : (O₁ c) g i = 0 := by
    by_contra h'
    obtain ⟨k, -, hk⟩ := Osum_pos (Nat.pos_of_ne_zero h')
    exact hn.1 k hk
  have h2 : ∀ (p : Prop) [Decidable p] (d : Dev nD), (if p then tallyAt (barCell d) () 1 else 0 : CellTallies nD τ sig Unit) g i = 0 := by
    intro p _ d
    by_cases hp : p
    · rw [if_pos hp, tallyAt_ne_cell (hn.2 d)]; rfl
    · rw [if_neg hp]; rfl
  unfold O₀ T1 T2 at h
  rw [Pi.add_apply, Finsupp.add_apply, Pi.add_apply, Finsupp.add_apply, h1, h2, h2] at h
  exact absurd h (lt_irrefl 0)

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> (rw [L_tc]; exact Finset.mem_singleton_self _))
      (fun p hp => by rw [Finset.mem_singleton.mp hp]; exact le_of_eq (lv_stage c q hq))
      (fun g u hg => by
        cases u
        rcases O₀_pos hg with ⟨k, rfl⟩ | ⟨d, rfl⟩
        · rw [lv_recv]; omega
        · rw [lv_bar]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the four devices terminates, with
    the windows' arrays at what the proof data say and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run. -/
theorem final_arg0 (c : Dev nD) : finalA m ρ c (0 : Fin 4) = (s₀ m ρ).mem (win0_0.arr.view.loc (c : Thread nD τ)) :=
  (dats (F := F) m ρ 0 c).arrAt_in (0 : Fin 4) rfl _
theorem final_arg1 (c : Dev nD) : finalA m ρ c (1 : Fin 4) = (s₀ m ρ).mem (win0_1.arr.view.loc (c : Thread nD τ)) :=
  (dats (F := F) m ρ 0 c).arrAt_in (1 : Fin 4) rfl _
theorem final_arg2 (c : Dev nD) : finalA m ρ c (2 : Fin 4) = (s₀ m ρ).mem (win0_2.arr.view.loc (c : Thread nD τ)) :=
  (dats (F := F) m ρ 0 c).arrAt_in (2 : Fin 4) rfl _

/-- The program runs to its end with its arguments unchanged and every semaphore at zero. -/
theorem quiet_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c (0 : Fin 4)).trans (final_arg0 m ρ c), (h.1 c (1 : Fin 4)).trans (final_arg1 m ρ c),
    (h.1 c (2 : Fin 4)).trans (final_arg2 m ρ c)⟩, h.2⟩) (run_main m ρ)

end Cert.KernelIdeal.Att

end
-- ==== Proof.RefRun.lean ====
/-
# The reference's run

The reference is a straight line of host operations on one device: it terminates, and each array ends with what
the operations compute from the arguments.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Att

open Cert.ReferenceIdeal Cert.ReferenceIdeal.Gen
open Idealize.ShloMosaic Idealize.ShloMosaic.TcCoe Idealize.ShloMosaic.StableHlo Idealize.SL.Sem

variable {F : FTy → Type} [FloatOps F]

abbrev Arg (F : FTy → Type) : Type := (⟨S2x2048x8x64, .bf16⟩ : BufTy).Contents (Elt F)
abbrev Big (F : FTy → Type) (φ : FTy) : Type := FVec F S2x8x2048x2048 φ

/-- The scaled scores. -/
def scores (q k : Arg F) : Big F .bf16 :=
  mulf (truncf .bf16 (Host.dotGeneral dot_S2x2048x8x64_S2x2048x8x64_S2x8x2048x2048_3_3_1_1_02_02 none q k : Big F .f32) bitsLt_bf16_f32)
    (broadcastInDim S2x8x2048x2048 ![] bcast_S_S2x8x2048x2048 (constant S_ .bf16 0x3E00#16 : FVec F S_ .bf16))
/-- A row's value at every place of the row. -/
def spread (x : FVec F S2x8x2048 .bf16) : Big F .bf16 :=
  broadcastInDim S2x8x2048x2048 ![0, 1, 2, 3] bcast_S2x8x2048x1_S2x8x2048x2048_0_1_2_3 (broadcastInDim S2x8x2048x1 ![0, 1, 2] bcast_S2x8x2048_S2x8x2048x1_0_1_2 x)
/-- The exponentials of the scores less the row's maximum. -/
def expd (s : Big F .bf16) : Big F .bf16 :=
  Host.exp (subf s (spread (Host.reduce FloatOps.maximumf s (constant S_ .bf16 0xFF80#16 : FVec F S_ .bf16) reducesTo_S2x8x2048x2048_S2x8x2048_d3 h_S_)))
/-- The row sums. -/
def rowSum (e : Big F .bf16) : FVec F S2x8x2048 .f32 :=
  Host.reduceAdd (extf .f32 e bitsLt_bf16_f32 : Big F .f32) (constant S_ .f32 0x00000000#32 : FVec F S_ .f32) reducesTo_S2x8x2048x2048_S2x8x2048_d3 h_S_
/-- The weights. -/
def weights (e : Big F .bf16) : Big F .bf16 :=
  Host.divf e (broadcastInDim S2x8x2048x2048 ![0, 1, 2, 3] bcast_S2x8x2048x1_S2x8x2048x2048_0_1_2_3
    (truncf .bf16 (broadcastInDim S2x8x2048x1 ![0, 1, 2] bcast_S2x8x2048_S2x8x2048x1_0_1_2 (rowSum e)) bitsLt_bf16_f32))
/-- The result from the weights. -/
def mixed (v : Arg F) (w : Big F .bf16) : FVec F S2x2048x8x64 .f32 :=
  extf .f32 (truncf .bf16 (transpose S2x2048x8x64 [0, 3, 1, 2]
    (Host.dotGeneral dot_S2x2048x8x64_S2x8x2048x2048_S2x8x64x2048_1_3_3_2_02_01 none v w : FVec F S2x8x64x2048 .f32)
    transposes_S2x8x64x2048_S2x2048x8x64_0_3_1_2) bitsLt_bf16_f32 : FVec F S2x2048x8x64 .bf16) bitsLt_bf16_f32
/-- The reference's result from its arguments. -/
def refOut (q k v : Arg F) : FVec F S2x2048x8x64 .f32 := mixed v (weights (expd (scores q k)))

/-- The operations, in order. -/
abbrev ops : List (HloOp τ sig (Elt F)) :=
  [ binary main_arg0 main_arg1 main_v0 ((fun l r => Host.dotGeneral dot_S2x2048x8x64_S2x2048x8x64_S2x8x2048x2048_3_3_1_1_02_02 none l r) : (⟨S2x2048x8x64, .bf16⟩ : BufTy).Contents (Elt F) → (⟨S2x2048x8x64, .bf16⟩ : BufTy).Contents (Elt F) → (⟨S2x8x2048x2048, .f32⟩ : BufTy).Contents (Elt F)),
    unary main_v0 main_v1 ((truncf .bf16 · bitsLt_bf16_f32) : (⟨S2x8x2048x2048, .f32⟩ : BufTy).Contents (Elt F) → (⟨S2x8x2048x2048, .bf16⟩ : BufTy).Contents (Elt F)),
    nullary main_cst (constant S_ .bf16 0x3E00#16),
    unary main_cst main_v2 (broadcastInDim S2x8x2048x2048 ![] bcast_S_S2x8x2048x2048 : (⟨S_, .bf16⟩ : BufTy).Contents (Elt F) → (⟨S2x8x2048x2048, .bf16⟩ : BufTy).Contents (Elt F)),
    binary main_v1 main_v2 main_v3 (mulf : (⟨S2x8x2048x2048, .bf16⟩ : BufTy).Contents (Elt F) → (⟨S2x8x2048x2048, .bf16⟩ : BufTy).Contents (Elt F) → (⟨S2x8x2048x2048, .bf16⟩ : BufTy).Contents (Elt F)),
    nullary main_cst_0 (constant S_ .bf16 0xFF80#16),
    binary main_v3 main_cst_0 main_v4 ((fun x v => Host.reduce FloatOps.maximumf x v reducesTo_S2x8x2048x2048_S2x8x2048_d3 h_S_) : (⟨S2x8x2048x2048, .bf16⟩ : BufTy).Contents (Elt F) → (⟨S_, .bf16⟩ : BufTy).Contents (Elt F) → (⟨S2x8x2048, .bf16⟩ : BufTy).Contents (Elt F)),
    unary main_v4 main_v5 (broadcastInDim S2x8x2048x1 ![0, 1, 2] bcast_S2x8x2048_S2x8x2048x1_0_1_2 : (⟨S2x8x2048, .bf16⟩ : BufTy).Contents (Elt F) → (⟨S2x8x2048x1, .bf16⟩ : BufTy).Contents (Elt F)),
    unary main_v5 main_v6 (broadcastInDim S2x8x2048x2048 ![0, 1, 2, 3] bcast_S2x8x2048x1_S2x8x2048x2048_0_1_2_3 : (⟨S2x8x2048x1, .bf16⟩ : BufTy).Contents (Elt F) → (⟨S2x8x2048x2048, .bf16⟩ : BufTy).Contents (Elt F)),
    binary main_v3 main_v6 main_v7 (subf : (⟨S2x8x2048x2048, .bf16⟩ : BufTy).Contents (Elt F) → (⟨S2x8x2048x2048, .bf16⟩ : BufTy).Contents (Elt F) → (⟨S2x8x2048x2048, .bf16⟩ : BufTy).Contents (Elt F)),
    unary main_v7 main_v8 (Host.exp : (⟨S2x8x2048x2048, .bf16⟩ : BufTy).Contents (Elt F) → (⟨S2x8x2048x2048, .bf16⟩ : BufTy).Contents (Elt F)),
    unary main_v8 main_v9 ((extf .f32 · bitsLt_bf16_f32) : (⟨S2x8x2048x2048, .bf16⟩ : BufTy).Contents (Elt F) → (⟨S2x8x2048x2048, .f32⟩ : BufTy).Contents (Elt F)),
    nullary main_cst_1 (constant S_ .f32 0x00000000#32),
    binary main_v9 main_cst_1 main_v10 ((fun x v => Host.reduceAdd x v reducesTo_S2x8x2048x2048_S2x8x2048_d3 h_S_) : (⟨S2x8x2048x2048, .f32⟩ : BufTy).Contents (Elt F) → (⟨S_, .f32⟩ : BufTy).Contents (Elt F) → (⟨S2x8x2048, .f32⟩ : BufTy).Contents (Elt F)),
    unary main_v10 main_v11 (broadcastInDim S2x8x2048x1 ![0, 1, 2] bcast_S2x8x2048_S2x8x2048x1_0_1_2 : (⟨S2x8x2048, .f32⟩ : BufTy).Contents (Elt F) → (⟨S2x8x2048x1, .f32⟩ : BufTy).Contents (Elt F)),
    unary main_v11 main_v12 ((truncf .bf16 · bitsLt_bf16_f32) : (⟨S2x8x2048x1, .f32⟩ : BufTy).Contents (Elt F) → (⟨S2x8x2048x1, .bf16⟩ : BufTy).Contents (Elt F)),
    unary main_v12 main_v13 (broadcastInDim S2x8x2048x2048 ![0, 1, 2, 3] bcast_S2x8x2048x1_S2x8x2048x2048_0_1_2_3 : (⟨S2x8x2048x1, .bf16⟩ : BufTy).Contents (Elt F) → (⟨S2x8x2048x2048, .bf16⟩ : BufTy).Contents (Elt F)),
    binary main_v8 main_v13 main_v14 (Host.divf : (⟨S2x8x2048x2048, .bf16⟩ : BufTy).Contents (Elt F) → (⟨S2x8x2048x2048, .bf16⟩ : BufTy).Contents (Elt F) → (⟨S2x8x2048x2048, .bf16⟩ : BufTy).Contents (Elt F)),
    binary main_arg2 main_v14 main_v15 ((fun l r => Host.dotGeneral dot_S2x2048x8x64_S2x8x2048x2048_S2x8x64x2048_1_3_3_2_02_01 none l r) : (⟨S2x2048x8x64, .bf16⟩ : BufTy).Contents (Elt F) → (⟨S2x8x2048x2048, .bf16⟩ : BufTy).Contents (Elt F) → (⟨S2x8x64x2048, .f32⟩ : BufTy).Contents (Elt F)),
    unary main_v15 main_v16 ((transpose S2x2048x8x64 [0, 3, 1, 2] · transposes_S2x8x64x2048_S2x2048x8x64_0_3_1_2) : (⟨S2x8x64x2048, .f32⟩ : BufTy).Contents (Elt F) → (⟨S2x2048x8x64, .f32⟩ : BufTy).Contents (Elt F)),
    unary main_v16 main_v17 ((truncf .bf16 · bitsLt_bf16_f32) : (⟨S2x2048x8x64, .f32⟩ : BufTy).Contents (Elt F) → (⟨S2x2048x8x64, .bf16⟩ : BufTy).Contents (Elt F)),
    unary main_v17 main_v18 ((extf .f32 · bitsLt_bf16_f32) : (⟨S2x2048x8x64, .bf16⟩ : BufTy).Contents (Elt F) → (⟨S2x2048x8x64, .f32⟩ : BufTy).Contents (Elt F)) ]

theorem main_eq (c : Dev nD) : main (F := F) c = seq ops := rfl

theorem out_eq (V : Valuation τ sig (Elt F)) : after ops V (main_v18 : DevRef τ sig)
    = refOut (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., binary_bufs_sub .., unary_bufs_sub .., unary_bufs_sub .., binary_bufs_sub .., unary_bufs_sub .., unary_bufs_sub .., nullary_bufs_sub .., binary_bufs_sub .., unary_bufs_sub .., unary_bufs_sub .., unary_bufs_sub .., binary_bufs_sub .., binary_bufs_sub .., unary_bufs_sub .., unary_bufs_sub .., unary_bufs_sub ..⟩

/-- The reference terminates; its result is `refOut` of the arguments, which are unchanged, and no semaphore is raised. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v18)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => ⟨(h c main_v18).trans (out_eq _), (h c main_arg0).trans (arg0_eq _),
      (h c main_arg1).trans (arg1_eq _), (h c main_arg2).trans (arg2_eq _)⟩, sem_eq_zero_of_no_sems rfl r.2⟩)
    (run_seq scopedRefs_eq scopedSems_eq defs main (fun _ => ops) main_eq (fun _ => ops_sub) m ρ)

end Cert.ReferenceIdeal.Att

end
-- ==== Proof.Softmax.lean ====
/- A softmax taken with any amount off its scores is the softmax taken with none off, on extended reals with real scores. -/
module

public import Idealize.ShloMosaic.PureOps.Ideal
public import Idealize.ShloMosaic.Lib.IdealHost

@[expose] public section

noncomputable section

namespace Cert.Soft

open Idealize.ShloMosaic
open scoped BigOperators

/-- A real number that is not negative may be multiplied into a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a t ha ih =>
    rw [Finset.sum_insert ha, Finset.sum_insert ha,
      EReal.right_distrib_of_nonneg_of_ne_top (EReal.coe_nonneg.mpr hr) (EReal.coe_ne_top r), ih]

theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A quotient by a real number that is not zero. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The greatest of real numbers, folded from the least extended real, is real. -/
theorem fold_max_coe {n : ℕ} (s : Fin (n + 1) → ℝ) :
    ∃ M : ℝ, (Finset.univ : Finset (Fin (n + 1))).fold max (⊥ : EReal) (fun k => (s k : EReal)) = (M : EReal) := by
  have h : (Finset.univ : Finset (Fin (n + 1))).fold max (⊥ : EReal) (fun k => (s k : EReal))
      = (Finset.univ : Finset (Fin (n + 1))).sup (fun k => (s k : EReal)) := rfl
  rw [h]
  obtain ⟨k, -, hk⟩ := Finset.exists_mem_eq_sup (Finset.univ : Finset (Fin (n + 1))) Finset.univ_nonempty (fun k => (s k : EReal))
  exact ⟨s k, hk⟩

/-- The quotient of the weighted sum by the sum of the exponentials is the sum of the values, each times its exponential's share,
    whatever real number is taken off the scores first. -/
theorem softmax {n : ℕ} (s : Fin (n + 1) → ℝ) (M : ℝ) (v : Fin (n + 1) → EReal) :
    Ideal.div (∑ k, Ideal.exp (s k : EReal) * v k) (∑ k, Ideal.exp (s k : EReal))
      = ∑ k, v k * Ideal.div (Ideal.exp ((s k : EReal) - (M : EReal))) (∑ j, Ideal.exp ((s j : EReal) - (M : EReal))) := by
  have he : ∀ x : ℝ, Ideal.exp (x : EReal) = ((Real.exp x : ℝ) : EReal) := fun x => rfl
  have hpos : 0 < ∑ k, Real.exp (s k) := Finset.sum_pos (fun k _ => Real.exp_pos _) Finset.univ_nonempty
  have hpos' : 0 < ∑ k, Real.exp (s k - M) := Finset.sum_pos (fun k _ => Real.exp_pos _) Finset.univ_nonempty
  simp only [← EReal.coe_sub, he, ← coe_sum]
  rw [div_coe _ hpos.ne', sum_mul_coe _ _ _ (inv_nonneg.mpr hpos.le)]
  refine Finset.sum_congr rfl fun k _ => ?_
  rw [div_coe _ hpos'.ne', ← EReal.coe_mul, mul_right_comm, ← EReal.coe_mul, mul_comm]
  congr 2
  have h1 : ∑ j, Real.exp (s j - M) = (∑ j, Real.exp (s j)) * (Real.exp M)⁻¹ := by
    rw [Finset.sum_mul]; exact Finset.sum_congr rfl fun j _ => by rw [Real.exp_sub, div_eq_mul_inv]
  rw [h1, Real.exp_sub, div_eq_mul_inv, mul_inv, inv_inv, mul_assoc, mul_left_comm (Real.exp M)⁻¹, inv_mul_cancel₀ (Real.exp_pos M).ne', mul_one]

/-- A sum over the whole sequence is the four chunks' sums in turn. -/
theorem sum_chunks (f : Fin 2048 → EReal) :
    ∑ k, f k = (((∑ i : Fin 512, f ⟨512 * 0 + i.val, by omega⟩) + ∑ i : Fin 512, f ⟨512 * 1 + i.val, by omega⟩)
      + ∑ i : Fin 512, f ⟨512 * 2 + i.val, by omega⟩) + ∑ i : Fin 512, f ⟨512 * 3 + i.val, by omega⟩ := by
  have h : ∑ k, f k = ∑ p : Fin 4 × Fin 512, f (finProdFinEquiv p) :=
    (Equiv.sum_comp (finProdFinEquiv (m := 4) (n := 512)) f).symm
  rw [h, Fintype.sum_prod_type, Fin.sum_univ_four]
  have e : ∀ (c : Fin 4) (i : Fin 512), (finProdFinEquiv (c, i) : Fin 2048) = ⟨512 * c.val + i.val, by omega⟩ :=
    fun c i => Fin.ext (by simp [finProdFinEquiv]; omega)
  simp only [e]
  rfl

end Cert.Soft

end
-- ==== Proof.Finite.lean ====
/- The precondition, read at an index: queries and keys are finite. -/
module

public import Idealize.ShloMosaic.Lib.Pointwise
public import Idealize.ShloMosaic.Lib.IdealHost
public import proofs.«01_k».proof.Pre_finite_KernelIdeal
public import proofs.«01_k».proof.Pre_finite_ReferenceIdeal

@[expose] public section

noncomputable section

namespace Cert.Fin

open Idealize.ShloMosaic Idealize.ShloMosaic.Pointwise

instance kernelFacts : Cert.Pre_finite_KernelIdeal.Facts where
  bcast_S_S2x512x8x64 := by decide
instance referenceFacts : Cert.Pre_finite_ReferenceIdeal.Facts where
  bcast_S_S2x2048x8x64 := by decide

theorem inf_bf16 : Ideal.ofBits .bf16 0x7F80#16 = ⊤ := by simp [Ideal.ofBits, Ideal.ieee]
theorem neg_inf_bf16 : Ideal.ofBits .bf16 0xFF80#16 = ⊥ := by simp [Ideal.ofBits, Ideal.ieee]
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num

/-- An extended real of finite size is a real number. -/
theorem real_of_abs_lt (x : EReal) (h : max x (-x) < ⊤) : x = ((x.toReal : ℝ) : EReal) := by
  refine (EReal.coe_toReal (fun e => ?_) (fun e => ?_)).symm
  · rw [e] at h; simp at h
  · rw [e] at h; simp at h

theorem both_of_andi : ∀ p q : Bool, IntOp.andi (BitVec.ofBool p) (BitVec.ofBool q) = 1#1 → p = true ∧ q = true := by decide

/-- Where the precondition holds, every query and every key is a real number. -/
theorem finite_apply (q k v : FVec Ideal Cert.Pre_finite_KernelIdeal.S2x512x8x64 .bf16)
    (h : Cert.Pre_finite_KernelIdeal.fn (F := Ideal) q k v = fun _ => 1#1) (y : Cert.Pre_finite_KernelIdeal.S2x512x8x64.Idx) :
    q y = ((EReal.toReal (q y) : ℝ) : EReal) ∧ k y = ((EReal.toReal (k y) : ℝ) : EReal) := by
  have h' := congrFun h y
  revert h'
  pointwise [Cert.Pre_finite_KernelIdeal.fn]
  intro h'
  rw [inf_bf16] at h'
  obtain ⟨h1, h2⟩ := both_of_andi _ _ h'
  exact ⟨real_of_abs_lt _ (of_decide_eq_true h1), real_of_abs_lt _ (of_decide_eq_true h2)⟩

end Cert.Fin

end
-- ==== Proof.RefValue.lean ====
/- The reference's result at an index, on extended reals. -/
module

public import Idealize.ShloMosaic.Lib.Pointwise
public import Idealize.ShloMosaic.Lib.IdealHost
public import proofs.«01_k».proof.Proof.RefRun

@[expose] public section

noncomputable section

namespace Cert.ReferenceIdeal.Att

open Cert.ReferenceIdeal Cert.ReferenceIdeal.Gen
open Idealize.ShloMosaic Idealize.ShloMosaic.Pointwise
open scoped BigOperators

/-- A score. -/
theorem scores_apply (q k : Arg Ideal) (b : Fin 2) (h : Fin 8) (i j : Fin 2048) :
    scores (F := Ideal) q k (ix4 b h i j) = (∑ e : Fin 64, q (ix4 b i h e) * k (ix4 b j h e)) * Ideal.ofBits .bf16 0x3E00#16 := by
  pointwise [scores]

theorem expd_apply (s : Big Ideal .bf16) (b : Fin 2) (h : Fin 8) (i j : Fin 2048) :
    expd (F := Ideal) s (ix4 b h i j)
      = Ideal.exp (s (ix4 b h i j) - (Finset.univ : Finset (Fin 2048)).fold max (Ideal.ofBits .bf16 0xFF80#16) fun k => s (ix4 b h i k)) := by
  pointwise [expd, spread]

theorem weights_apply (e : Big Ideal .bf16) (b : Fin 2) (h : Fin 8) (i j : Fin 2048) :
    weights (F := Ideal) e (ix4 b h i j) = Ideal.div (e (ix4 b h i j)) (∑ k : Fin 2048, e (ix4 b h i k)) := by
  pointwise [weights, rowSum]

theorem mixed_apply (v : Arg Ideal) (w : Big Ideal .bf16) (b : Fin 2) (i : Fin 2048) (h : Fin 8) (d : Fin 64) :
    mixed (F := Ideal) v w (ix4 b i h d) = ∑ k : Fin 2048, v (ix4 b k h d) * w (ix4 b h i k) := by
  pointwise [mixed]

/-- The result at an index: the values, each times its weight. -/
theorem refOut_apply (q k v : Arg Ideal) (b : Fin 2) (i : Fin 2048) (h : Fin 8) (d : Fin 64) :
    refOut (F := Ideal) q k v (ix4 b i h d) = ∑ j : Fin 2048, v (ix4 b j h d)
      * Ideal.div
          (Ideal.exp (scores (F := Ideal) q k (ix4 b h i j)
            - (Finset.univ : Finset (Fin 2048)).fold max (Ideal.ofBits .bf16 0xFF80#16) fun l => scores (F := Ideal) q k (ix4 b h i l)))
          (∑ j' : Fin 2048, Ideal.exp (scores (F := Ideal) q k (ix4 b h i j')
            - (Finset.univ : Finset (Fin 2048)).fold max (Ideal.ofBits .bf16 0xFF80#16) fun l => scores (F := Ideal) q k (ix4 b h i l))) := by
  unfold refOut
  rw [mixed_apply]
  simp only [weights_apply, expd_apply]

end Cert.ReferenceIdeal.Att

end
-- ==== Proof.IdealValue.lean ====
/- A head's result at an index, on extended reals. -/
module

public import Idealize.ShloMosaic.Lib.Pointwise
public import proofs.«01_k».proof.Proof.IdealHeads

@[expose] public section

noncomputable section

namespace Cert.KernelIdeal.Att

open Cert.KernelIdeal Cert.KernelIdeal.Gen
open Idealize.ShloMosaic Idealize.ShloMosaic.Pointwise Idealize.ShloMosaic.TcCoe
open scoped BigOperators

theorem pexp_apply (q k : FVec Ideal S512x64 .bf16) (i j : Fin 512) :
    pexp (F := Ideal) q k (ix2 i j) = Ideal.exp ((∑ e : Fin 64, q (ix2 i e) * k (ix2 j e)) * Ideal.ofBits .f32 0x3E000000#32) := by
  pointwise [pexp]

theorem psum_apply (p : FVec Ideal S512x512 .f32) (i : Fin 512) : psum (F := Ideal) p (ix2 i 0) = ∑ j : Fin 512, p (ix2 i j) := by
  pointwise [psum]

theorem pmul_apply (p : FVec Ideal S512x512 .f32) (v : FVec Ideal S512x64 .bf16) (i : Fin 512) (d : Fin 64) :
    pmul (F := Ideal) p v (ix2 i d) = ∑ j : Fin 512, p (ix2 i j) * v (ix2 j d) := by
  pointwise [pmul]

theorem headFn_apply (q k0 k1 k2 k3 v0 v1 v2 v3 : FVec Ideal S512x64 .bf16) (i : Fin 512) (d : Fin 64) :
    headFn (F := Ideal) q k0 k1 k2 k3 v0 v1 v2 v3 (ix4 0 i 0 d)
      = Ideal.div (pmul (F := Ideal) (pexp q k0) v0 (ix2 i d) + pmul (F := Ideal) (pexp q k1) v1 (ix2 i d)
            + pmul (F := Ideal) (pexp q k2) v2 (ix2 i d) + pmul (F := Ideal) (pexp q k3) v3 (ix2 i d))
          (psum (F := Ideal) (pexp q k0) (ix2 i 0) + psum (F := Ideal) (pexp q k1) (ix2 i 0)
            + psum (F := Ideal) (pexp q k2) (ix2 i 0) + psum (F := Ideal) (pexp q k3) (ix2 i 0)) := by
  pointwise [headFn]

theorem qOf_apply (q : CQ (F := Ideal)) (b : Fin 2) (h : Fin 8) (i : Fin 512) (e : Fin 64) :
    qOf (F := Ideal) q b h (ix2 i e) = q (ix4 b i h e) := by
  pointwise [qOf, castQ, rdQ]
  exact congrArg q (funext fun a => Fin.ext (by
    fin_cases a
    · show b.val + 1 * 0 = b.val; omega
    · show 0 + 1 * i.val = i.val; omega
    · show h.val + 1 * 0 = h.val; omega
    · show 0 + 1 * e.val = e.val; omega))

theorem kvOf_apply (kv : CG (F := Ideal)) (a p : Fin 4) (h : Fin 8) (i : Fin 512) (e : Fin 64) :
    kvOf (F := Ideal) kv a p h (ix2 i e) = kv (ix4 a p i ⟨64 * h.val + e.val, by omega⟩) := by
  pointwise [kvOf, castK, rdKV]
  exact congrArg kv (funext fun x => Fin.ext (by
    fin_cases x
    · show a.val + 1 * 0 = a.val; omega
    · show p.val + 1 * 0 = p.val; omega
    · show 0 + 1 * i.val = i.val; omega
    · show 64 * h.val + 1 * e.val = 64 * h.val + e.val; omega))

variable (m : (ℓ : Loc nD τ sig) → Buf (Elt Ideal) ℓ) (ρ : Dev nD → PrngReg)

theorem qStg_eq (c : Dev nD) : qStg m ρ c = m ((c : Thread nD τ).loc main_arg0) := by
  funext y
  refine congrArg (m ((c : Thread nD τ).loc main_arg0)) (funext fun a => Fin.ext ?_)
  fin_cases a
  · show 0 * 2 + 1 * (y 0).val = (y 0).val; omega
  · show 0 * 512 + 1 * (y 1).val = (y 1).val; omega
  · show 0 * 8 + 1 * (y 2).val = (y 2).val; omega
  · show 0 * 64 + 1 * (y 3).val = (y 3).val; omega

theorem kStg_eq (c : Dev nD) : kStg m ρ c = m ((c : Thread nD τ).loc main_arg1) := by
  funext y
  refine congrArg (m ((c : Thread nD τ).loc main_arg1)) (funext fun a => Fin.ext ?_)
  fin_cases a
  · show 0 * 2 + 1 * (y 0).val = (y 0).val; omega
  · show 0 * 512 + 1 * (y 1).val = (y 1).val; omega
  · show 0 * 8 + 1 * (y 2).val = (y 2).val; omega
  · show 0 * 64 + 1 * (y 3).val = (y 3).val; omega

theorem vStg_eq (c : Dev nD) : vStg m ρ c = m ((c : Thread nD τ).loc main_arg2) := by
  funext y
  refine congrArg (m ((c : Thread nD τ).loc main_arg2)) (funext fun a => Fin.ext ?_)
  fin_cases a
  · show 0 * 2 + 1 * (y 0).val = (y 0).val; omega
  · show 0 * 512 + 1 * (y 1).val = (y 1).val; omega
  · show 0 * 8 + 1 * (y 2).val = (y 2).val; omega
  · show 0 * 64 + 1 * (y 3).val = (y 3).val; omega

theorem piece0_apply (c : Dev nD) (i : Fin 512) (h : Fin 8) (e : Fin 64) :
    piece m ρ c 0 (ix4 0 0 i ⟨64 * h.val + e.val, by omega⟩) = kStg m ρ c (ix4 0 i h e) := by
  pointwise [piece, k0_pay2, batchK]
  exact congrArg (kStg m ρ c) (funext fun a => Fin.ext (by
    fin_cases a
    · show 0 + 1 * 0 = 0; omega
    · show 0 + 1 * i.val = i.val; omega
    · show 0 + 1 * h.val = h.val; omega
    · show 0 + 1 * e.val = e.val; omega))

theorem piece1_apply (c : Dev nD) (i : Fin 512) (h : Fin 8) (e : Fin 64) :
    piece m ρ c 1 (ix4 0 0 i ⟨64 * h.val + e.val, by omega⟩) = kStg m ρ c (ix4 1 i h e) := by
  pointwise [piece, k0_pay4, k0_pay3, batchK]
  exact congrArg (kStg m ρ c) (funext fun a => Fin.ext (by
    fin_cases a
    · show 1 + 1 * 0 = 1; omega
    · show 0 + 1 * i.val = i.val; omega
    · show 0 + 1 * h.val = h.val; omega
    · show 0 + 1 * e.val = e.val; omega))

theorem piece2_apply (c : Dev nD) (i : Fin 512) (h : Fin 8) (e : Fin 64) :
    piece m ρ c 2 (ix4 0 0 i ⟨64 * h.val + e.val, by omega⟩) = vStg m ρ c (ix4 0 i h e) := by
  pointwise [piece, k0_pay5, batchV]
  exact congrArg (vStg m ρ c) (funext fun a => Fin.ext (by
    fin_cases a
    · show 0 + 1 * 0 = 0; omega
    · show 0 + 1 * i.val = i.val; omega
    · show 0 + 1 * h.val = h.val; omega
    · show 0 + 1 * e.val = e.val; omega))

theorem piece3_apply (c : Dev nD) (i : Fin 512) (h : Fin 8) (e : Fin 64) :
    piece m ρ c 3 (ix4 0 0 i ⟨64 * h.val + e.val, by omega⟩) = vStg m ρ c (ix4 1 i h e) := by
  pointwise [piece, k0_pay6, batchV]
  exact congrArg (vStg m ρ c) (funext fun a => Fin.ext (by
    fin_cases a
    · show 1 + 1 * 0 = 1; omega
    · show 0 + 1 * i.val = i.val; omega
    · show 0 + 1 * h.val = h.val; omega
    · show 0 + 1 * e.val = e.val; omega))

/-- The keys of a batch in the gathered array. -/
theorem KV_key (c : Fin 4) (b : Fin 2) (i : Fin 512) (h : Fin 8) (e : Fin 64) :
    KV m ρ (ix4 c (jK b) i ⟨64 * h.val + e.val, by omega⟩) = m (((⟨c.val, c.isLt⟩ : Dev nD) : Thread nD τ).loc main_arg1) (ix4 b i h e) := by
  rw [← kStg_eq m ρ]
  match b with
  | 0 => exact (congrArg (piece m ρ ⟨c.val, c.isLt⟩ 0) (funext fun a => by fin_cases a <;> rfl)).trans (piece0_apply m ρ ⟨c.val, c.isLt⟩ i h e)
  | 1 => exact (congrArg (piece m ρ ⟨c.val, c.isLt⟩ 1) (funext fun a => by fin_cases a <;> rfl)).trans (piece1_apply m ρ ⟨c.val, c.isLt⟩ i h e)
/-- The values of a batch in the gathered array. -/
theorem KV_val (c : Fin 4) (b : Fin 2) (i : Fin 512) (h : Fin 8) (e : Fin 64) :
    KV m ρ (ix4 c (jV b) i ⟨64 * h.val + e.val, by omega⟩) = m (((⟨c.val, c.isLt⟩ : Dev nD) : Thread nD τ).loc main_arg2) (ix4 b i h e) := by
  rw [← vStg_eq m ρ]
  match b with
  | 0 => exact (congrArg (piece m ρ ⟨c.val, c.isLt⟩ 2) (funext fun a => by fin_cases a <;> rfl)).trans (piece2_apply m ρ ⟨c.val, c.isLt⟩ i h e)
  | 1 => exact (congrArg (piece m ρ ⟨c.val, c.isLt⟩ 3) (funext fun a => by fin_cases a <;> rfl)).trans (piece3_apply m ρ ⟨c.val, c.isLt⟩ i h e)

end Cert.KernelIdeal.Att

end
-- ==== Proof.IdealOut.lean ====
/- The result array after the run, at an index, on extended reals. -/
module

public import Idealize.ShloMosaic.Lib.Pipeline.ValueKit
public import proofs.«01_k».proof.Proof.IdealRun
public import proofs.«01_k».proof.Proof.IdealValue

@[expose] public section

noncomputable section

namespace Cert.KernelIdeal.Att

open Cert.KernelIdeal Cert.KernelIdeal.Gen
open Idealize.ShloMosaic Idealize.ShloMosaic.Pipeline Idealize.ShloMosaic.Pointwise Idealize.ShloMosaic.TcCoe
open scoped BigOperators

variable (m : (ℓ : Loc nD τ sig) → Buf (Elt Ideal) ℓ) (ρ : Dev nD → PrngReg)

attribute [local irreducible] outAt in
/-- The result array is the body's result. -/
theorem final_out (c : Dev nD) : finalA m ρ c (3 : Fin 4) = outAt m ρ c := by
  refine (dats m ρ 0 c).arrAt_eq_of_covers (3 : Fin 4) _ (by decide +kernel) fun t hf y => ?_
  rw [fin_N0 t, after_3 m ρ c]
  refine congrArg (outAt m ρ c) (funext fun a => Fin.ext ?_)
  fin_cases a
  · show (y 0).val = 0 * 2 + 1 * (y 0).val; omega
  · show (y 1).val = 0 * 512 + 1 * (y 1).val; omega
  · show (y 2).val = 0 * 8 + 1 * (y 2).val; omega
  · show (y 3).val = 0 * 64 + 1 * (y 3).val; omega

/-- What the heads' pieces hold together. -/
def whole (q : CQ (F := Ideal)) (kv : CG (F := Ideal)) : S2x512x8x64.Idx → EReal := fun y =>
  headOut (F := Ideal) q kv (y 0) (y 2) (ix4 0 (y 1) 0 (y 3))

theorem pcOut_eq (q : CQ (F := Ideal)) (kv : CG (F := Ideal)) (b : Fin 2) (h : Fin 8) :
    ∀ x : (pcOut q kv b h).1.shape.Idx, (pcOut q kv b h).2 x = whole q kv ((pcOut q kv b h).1.emb x) := fun (x : S1x512x1x64.Idx) => by
  have h0 : (x 0).val = 0 := Nat.lt_one_iff.mp (x 0).isLt
  have h2 : (x 2).val = 0 := Nat.lt_one_iff.mp (x 2).isLt
  unfold whole
  show headOut q kv b h x = _
  refine congr (congr (congrArg (headOut q kv) (Fin.ext ?_)) (Fin.ext ?_)) (funext fun a => Fin.ext ?_)
  · show b.val = b.val + 1 * (x 0).val; omega
  · show h.val = h.val + 1 * (x 2).val; omega
  · fin_cases a
    · exact h0
    · show (x 1).val = 0 + 1 * (x 1).val; omega
    · exact h2
    · show (x 3).val = 0 + 1 * (x 3).val; omega

theorem outW_apply (f : CO (F := Ideal)) (q : CQ (F := Ideal)) (kv : CG (F := Ideal)) : outW f (outL q kv) = whole q kv := by
  have hc := View.cover_of_tiled (outL q kv) ![1, 512, 1, 64] rfl
  funext y
  have h := View.read_writes_apply_of_pieces (v := (Memref.whole cc0_stg3_0).view) (f := f) (whole q kv) (outL q kv) (by
    unfold outL outL'
    simp only [List.forall_mem_cons]
    repeat' apply And.intro
    all_goals first | exact pcOut_eq q kv _ _ | (intro p hp; exact absurd hp List.not_mem_nil)) y (hc y)
  simpa only [Memref.view_whole, View.read_whole] using h

/-- A device's queries, keys and values. -/
def argQ (c : Dev nD) : S2x512x8x64.Idx → EReal := m ((c : Thread nD τ).loc main_arg0)
def argK (c : Dev nD) : S2x512x8x64.Idx → EReal := m ((c : Thread nD τ).loc main_arg1)
def argV (c : Dev nD) : S2x512x8x64.Idx → EReal := m ((c : Thread nD τ).loc main_arg2)

/-- A score: the product of a query of device `c` and a key of device `a`, scaled. -/
def score (c : Dev nD) (b : Fin 2) (h : Fin 8) (i : Fin 512) (a : Dev nD) (j : Fin 512) : EReal :=
  (∑ e : Fin 64, argQ m c (ix4 b i h e) * argK m a (ix4 b j h e)) * Ideal.ofBits .f32 0x3E000000#32
/-- A value of device `a`. -/
def value (b : Fin 2) (h : Fin 8) (d : Fin 64) (a : Dev nD) (j : Fin 512) : EReal := argV m a (ix4 b j h d)

theorem pexp_score (c : Dev nD) (b : Fin 2) (h : Fin 8) (a : Dev nD) (i j : Fin 512) :
    pexp (F := Ideal) (qOf (qStg m ρ c) b h) (kvOf (KV m ρ) a (jK b) h) (ix2 i j) = Ideal.exp (score m c b h i a j) := by
  rw [pexp_apply]
  unfold score argQ argK
  simp only [qOf_apply, kvOf_apply, KV_key, qStg_eq]

theorem kvOf_value (b : Fin 2) (h : Fin 8) (a : Dev nD) (j : Fin 512) (d : Fin 64) :
    kvOf (F := Ideal) (KV m ρ) a (jV b) h (ix2 j d) = value m b h d a j := by
  rw [kvOf_apply, KV_val]; rfl

/-- The result at an index. -/
theorem out_apply (c : Dev nD) (b : Fin 2) (i : Fin 512) (h : Fin 8) (d : Fin 64) :
    (outAt m ρ c : S2x512x8x64.Idx → EReal) (ix4 b i h d)
      = Ideal.div
          ((((∑ j, Ideal.exp (score m c b h i 0 j) * value m b h d 0 j) + ∑ j, Ideal.exp (score m c b h i 1 j) * value m b h d 1 j)
            + ∑ j, Ideal.exp (score m c b h i 2 j) * value m b h d 2 j) + ∑ j, Ideal.exp (score m c b h i 3 j) * value m b h d 3 j)
          ((((∑ j, Ideal.exp (score m c b h i 0 j)) + ∑ j, Ideal.exp (score m c b h i 1 j))
            + ∑ j, Ideal.exp (score m c b h i 2 j)) + ∑ j, Ideal.exp (score m c b h i 3 j)) := by
  unfold outAt
  rw [outW_apply]
  show headOut (F := Ideal) (qStg m ρ c) (KV m ρ) b h (ix4 0 i 0 d) = _
  unfold headOut
  rw [headFn_apply]
  simp only [pmul_apply, psum_apply, pexp_score, kvOf_value]

end Cert.KernelIdeal.Att

end
-- ==== Proof.Algebra.lean ====
/-
# The devices' results are the reference's

Where queries and keys are finite every score is a real number, so the weights do not change when a row's greatest score is taken
off first, and a value is weighted alike by both programs. Values may be infinite.
-/
module

public import proofs.«01_k».proof.Defs
public import proofs.«01_k».proof.Proof.Softmax
public import proofs.«01_k».proof.Proof.Finite
public import proofs.«01_k».proof.Proof.RefValue
public import proofs.«01_k».proof.Proof.IdealOut

@[expose] public section

noncomputable section

namespace Cert.Alg

open Idealize.ShloMosaic Idealize.ShloMosaic.Pointwise Idealize.SL.Sem
open scoped BigOperators

/-- The whole arrays. -/
abbrev T : Shape := ⟨4, ![2, 2048, 8, 64]⟩
/-- A device's block of them. -/
abbrev S : Shape := ⟨4, ![2, 512, 8, 64]⟩

/-- Where a row of device `c`'s block is in the whole array. -/
abbrev row (c : Fin 4) (i : Fin 512) : Fin 2048 := ⟨512 * c.val + i.val, by omega⟩

theorem block_at (X : T.Idx → EReal) (c : Fin 4) (b : Fin 2) (i : Fin 512) (h : Fin 8) (e : Fin 64) :
    Layout.block S T 1 4 c X (by decide) (ix4 b i h e) = X (ix4 b (row c i) h e) := by
  rw [Layout.block_apply]
  refine congrArg X (funext fun a => Fin.ext ?_)
  fin_cases a
  · rfl
  · show c.val * 512 + i.val = 512 * c.val + i.val; omega
  · rfl
  · rfl

/-- The reference's scores are real. -/
theorem scores_real (Q K : T.Idx → EReal) (hQ : ∀ y, Q y = ((Q y).toReal : EReal)) (hK : ∀ y, K y = ((K y).toReal : EReal))
    (b : Fin 2) (h : Fin 8) (i j : Fin 2048) :
    Cert.ReferenceIdeal.Att.scores (F := Ideal) Q K (ix4 b h i j)
      = (((∑ e : Fin 64, (Q (ix4 b i h e)).toReal * (K (ix4 b j h e)).toReal) * (1 / 8) : ℝ) : EReal) := by
  rw [Cert.ReferenceIdeal.Att.scores_apply, Cert.Fin.eighth_bf16, EReal.coe_mul, Cert.Soft.coe_sum]
  congr 1
  refine Finset.sum_congr rfl fun e _ => ?_
  rw [EReal.coe_mul, ← hQ, ← hK]

/-- The reference's result as a quotient of sums over the chunks. -/
theorem ref_apply (Q K V : T.Idx → EReal) (hQ : ∀ y, Q y = ((Q y).toReal : EReal)) (hK : ∀ y, K y = ((K y).toReal : EReal))
    (b : Fin 2) (i : Fin 2048) (h : Fin 8) (d : Fin 64) :
    Cert.ReferenceIdeal.Att.refOut (F := Ideal) Q K V (ix4 b i h d)
      = Ideal.div (∑ k : Fin 2048, Ideal.exp (Cert.ReferenceIdeal.Att.scores (F := Ideal) Q K (ix4 b h i k)) * V (ix4 b k h d))
          (∑ k : Fin 2048, Ideal.exp (Cert.ReferenceIdeal.Att.scores (F := Ideal) Q K (ix4 b h i k))) := by
  rw [Cert.ReferenceIdeal.Att.refOut_apply, Cert.Fin.neg_inf_bf16]
  simp only [scores_real Q K hQ hK]
  obtain ⟨M, hM⟩ := Cert.Soft.fold_max_coe (n := 2047) fun k => (∑ e : Fin 64, (Q (ix4 b i h e)).toReal * (K (ix4 b k h e)).toReal) * (1 / 8)
  rw [hM]
  exact (Cert.Soft.softmax (n := 2047) _ M fun k => V (ix4 b k h d)).symm

section Device

open Cert.KernelIdeal Cert.KernelIdeal.Att
open Idealize.ShloMosaic.TcCoe

variable (m : (ℓ : Loc nD τ sig) → Buf (Elt Ideal) ℓ) (ρ : Dev nD → PrngReg)

theorem score_eq (Q K : T.Idx → EReal) (hQ : ∀ c : Dev nD, argQ m c = Layout.block S T 1 4 c Q (by decide))
    (hK : ∀ c : Dev nD, argK m c = Layout.block S T 1 4 c K (by decide)) (c : Dev nD) (b : Fin 2) (h : Fin 8) (i : Fin 512) (a : Dev nD) (j : Fin 512) :
    score m c b h i a j = Cert.ReferenceIdeal.Att.scores (F := Ideal) Q K (ix4 b h (row c i) (row a j)) := by
  rw [Cert.ReferenceIdeal.Att.scores_apply]
  unfold score
  rw [Cert.Fin.eighth_bf16, Cert.Fin.eighth_f32, hQ, hK]
  congr 1
  refine Finset.sum_congr rfl fun e _ => ?_
  rw [block_at, block_at]

theorem value_eq (V : T.Idx → EReal) (hV : ∀ c : Dev nD, argV m c = Layout.block S T 1 4 c V (by decide))
    (b : Fin 2) (h : Fin 8) (d : Fin 64) (a : Dev nD) (j : Fin 512) : value m b h d a j = V (ix4 b (row a j) h d) := by
  unfold value
  rw [hV, block_at]

/-- A device's result is its block of the reference's. -/
theorem out_eq (Q K V : T.Idx → EReal) (hQ : ∀ c : Dev nD, argQ m c = Layout.block S T 1 4 c Q (by decide))
    (hK : ∀ c : Dev nD, argK m c = Layout.block S T 1 4 c K (by decide)) (hV : ∀ c : Dev nD, argV m c = Layout.block S T 1 4 c V (by decide))
    (rQ : ∀ y, Q y = ((Q y).toReal : EReal)) (rK : ∀ y, K y = ((K y).toReal : EReal)) (c : Dev nD) :
    (outAt m ρ c : S.Idx → EReal) = Layout.block S T 1 4 c (Cert.ReferenceIdeal.Att.refOut (F := Ideal) Q K V) (by decide) := by
  funext y
  obtain ⟨b, i, h, d, rfl⟩ : ∃ (b : Fin 2) (i : Fin 512) (h : Fin 8) (d : Fin 64), y = ix4 b i h d := ⟨y 0, y 1, y 2, y 3, eq_ix4 y⟩
  rw [block_at, ref_apply Q K V rQ rK, Cert.Soft.sum_chunks, Cert.Soft.sum_chunks]
  refine (out_apply m ρ c b i h d).trans ?_
  simp only [score_eq m Q K hQ hK, value_eq m V hV]
  rfl

end Device

/-- An array whose blocks are real is real. -/
theorem real_of_blocks (X : T.Idx → EReal) (f : Fin 4 → S.Idx → EReal) (hX : ∀ c, f c = Layout.block S T 1 4 c X (by decide))
    (hf : ∀ c y, f c y = ((f c y).toReal : EReal)) (y : T.Idx) : X y = ((X y).toReal : EReal) := by
  obtain ⟨b, i, h, d, rfl⟩ : ∃ (b : Fin 2) (i : Fin 2048) (h : Fin 8) (d : Fin 64), y = ix4 b i h d := ⟨y 0, y 1, y 2, y 3, eq_ix4 y⟩
  have e : i = row ⟨i.val / 512, by omega⟩ ⟨i.val % 512, by omega⟩ := Fin.ext (by show i.val = 512 * (i.val / 512) + i.val % 512; omega)
  have := hf ⟨i.val / 512, by omega⟩ (ix4 b ⟨i.val % 512, by omega⟩ h d)
  rw [hX, block_at, ← e] at this
  exact this

/-- Every device's result is its block of the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Fin.kernelFacts) := by
  intro m g m' g' hpre harg
  refine ⟨Cert.ReferenceIdeal.Att.refOut (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  rotate_left
  · exact (θ_run (Cert.ReferenceIdeal.defs (F := Ideal)) _ _).mono (fun _ h => h.1 0) (Cert.ReferenceIdeal.Att.run_main (F := Ideal) m' g')
  · refine (θ_run (Cert.KernelIdeal.defs (F := Ideal)) _ _).mono (fun r h c => ⟨?_, (h.1 c (0 : Fin 4)).trans (Cert.KernelIdeal.Att.final_arg0 m g c),
      (h.1 c (1 : Fin 4)).trans (Cert.KernelIdeal.Att.final_arg1 m g c), (h.1 c (2 : Fin 4)).trans (Cert.KernelIdeal.Att.final_arg2 m g c)⟩)
      (Cert.KernelIdeal.Att.run_main (F := Ideal) m g)
    refine ((h.1 c (3 : Fin 4)).trans (Cert.KernelIdeal.Att.final_out m g c)).trans ?_
    exact out_eq m g _ _ _ (fun c => (harg c).1) (fun c => (harg c).2.1) (fun c => (harg c).2.2)
      (real_of_blocks _ (Cert.KernelIdeal.Att.argQ m) (fun c => (harg c).1) fun c y => (Cert.Fin.finite_apply _ _ _ (hpre c) y).1)
      (real_of_blocks _ (Cert.KernelIdeal.Att.argK m) (fun c => (harg c).2.1) fun c y => (Cert.Fin.finite_apply _ _ _ (hpre c) y).2) c

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsRun
public import proofs.«01_k».proof.Proof.IdealRun
public import proofs.«01_k».proof.Proof.RefRun
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Fin.kernelFacts, Cert.Fin.referenceFacts,
  fun m g _ => Cert.Kernel.Att.quiet_run (F := Bits) m g,
  fun m g _ => Cert.KernelIdeal.Att.quiet_run (F := Ideal) m g,
  fun m g _ => Cert.KernelIdeal.Att.quiet_run (F := Ideal) m g,
  fun m g _ => (θ_run (Cert.ReferenceIdeal.defs (F := Ideal)) _ _).mono (fun _ h => ⟨fun c => (h.1 c).2, h.2⟩) (Cert.ReferenceIdeal.Att.run_main (F := Ideal) m g),
  fun m g _ => (θ_run (Cert.ReferenceIdeal.defs (F := Ideal)) _ _).mono (fun _ h => ⟨fun c => (h.1 c).2, h.2⟩) (Cert.ReferenceIdeal.Att.run_main (F := Ideal) m g),
  trivial, Cert.Alg.algebraic⟩

end Cert.Proof

end
